-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_indices_in_range [hPre_indices_in_range : Cert.Pre_indices_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_indices_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).1 = (fun _ => 1#1)
    ∧ (Cert.Pre_indices_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_indices_in_range [hPre_indices_in_range : Cert.Pre_indices_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_indices_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).1 = (fun _ => 1#1)
    ∧ (Cert.Pre_indices_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2 = (fun _ => 1#1)

def Pre_FirstKernel (m : (ℓ : Loc Cert.FirstKernel.nD Cert.FirstKernel.τ Cert.FirstKernel.sig) → Buf (Elt Bits) ℓ) : Prop :=
  True

def Pre_FirstKernelIdeal (m : (ℓ : Loc Cert.FirstKernelIdeal.nD Cert.FirstKernelIdeal.τ Cert.FirstKernelIdeal.sig) → Buf (Elt Ideal) ℓ) : Prop :=
  True

def Pre_FirstKernelIdeal_first_indices_in_range [hPre_first_indices_in_range : Cert.Pre_first_indices_in_range.Facts] (m : (ℓ : Loc Cert.FirstKernelIdeal.nD Cert.FirstKernelIdeal.τ Cert.FirstKernelIdeal.sig) → Buf (Elt Ideal) ℓ) : Prop :=
  ∀ c : Dev Cert.FirstKernelIdeal.nD,
    (Cert.Pre_first_indices_in_range.fn (F := Ideal) (m ((c.tc : Thread Cert.FirstKernelIdeal.nD Cert.FirstKernelIdeal.τ).loc Cert.FirstKernelIdeal.main_arg0)) (m ((c.tc : Thread Cert.FirstKernelIdeal.nD Cert.FirstKernelIdeal.τ).loc Cert.FirstKernelIdeal.main_arg1)) (m ((c.tc : Thread Cert.FirstKernelIdeal.nD Cert.FirstKernelIdeal.τ).loc Cert.FirstKernelIdeal.main_arg2)) (m ((c.tc : Thread Cert.FirstKernelIdeal.nD Cert.FirstKernelIdeal.τ).loc Cert.FirstKernelIdeal.main_arg3)) (m ((c.tc : Thread Cert.FirstKernelIdeal.nD Cert.FirstKernelIdeal.τ).loc Cert.FirstKernelIdeal.main_arg4)) (m ((c.tc : Thread Cert.FirstKernelIdeal.nD Cert.FirstKernelIdeal.τ).loc Cert.FirstKernelIdeal.main_arg5)) (m ((c.tc : Thread Cert.FirstKernelIdeal.nD Cert.FirstKernelIdeal.τ).loc Cert.FirstKernelIdeal.main_arg6)) (m ((c.tc : Thread Cert.FirstKernelIdeal.nD Cert.FirstKernelIdeal.τ).loc Cert.FirstKernelIdeal.main_arg7)) (m ((c.tc : Thread Cert.FirstKernelIdeal.nD Cert.FirstKernelIdeal.τ).loc Cert.FirstKernelIdeal.main_arg8)) (m ((c.tc : Thread Cert.FirstKernelIdeal.nD Cert.FirstKernelIdeal.τ).loc Cert.FirstKernelIdeal.main_arg9)) (m ((c.tc : Thread Cert.FirstKernelIdeal.nD Cert.FirstKernelIdeal.τ).loc Cert.FirstKernelIdeal.main_arg10)) (m ((c.tc : Thread Cert.FirstKernelIdeal.nD Cert.FirstKernelIdeal.τ).loc Cert.FirstKernelIdeal.main_arg11))).1 = (fun _ => 1#1)
    ∧ (Cert.Pre_first_indices_in_range.fn (F := Ideal) (m ((c.tc : Thread Cert.FirstKernelIdeal.nD Cert.FirstKernelIdeal.τ).loc Cert.FirstKernelIdeal.main_arg0)) (m ((c.tc : Thread Cert.FirstKernelIdeal.nD Cert.FirstKernelIdeal.τ).loc Cert.FirstKernelIdeal.main_arg1)) (m ((c.tc : Thread Cert.FirstKernelIdeal.nD Cert.FirstKernelIdeal.τ).loc Cert.FirstKernelIdeal.main_arg2)) (m ((c.tc : Thread Cert.FirstKernelIdeal.nD Cert.FirstKernelIdeal.τ).loc Cert.FirstKernelIdeal.main_arg3)) (m ((c.tc : Thread Cert.FirstKernelIdeal.nD Cert.FirstKernelIdeal.τ).loc Cert.FirstKernelIdeal.main_arg4)) (m ((c.tc : Thread Cert.FirstKernelIdeal.nD Cert.FirstKernelIdeal.τ).loc Cert.FirstKernelIdeal.main_arg5)) (m ((c.tc : Thread Cert.FirstKernelIdeal.nD Cert.FirstKernelIdeal.τ).loc Cert.FirstKernelIdeal.main_arg6)) (m ((c.tc : Thread Cert.FirstKernelIdeal.nD Cert.FirstKernelIdeal.τ).loc Cert.FirstKernelIdeal.main_arg7)) (m ((c.tc : Thread Cert.FirstKernelIdeal.nD Cert.FirstKernelIdeal.τ).loc Cert.FirstKernelIdeal.main_arg8)) (m ((c.tc : Thread Cert.FirstKernelIdeal.nD Cert.FirstKernelIdeal.τ).loc Cert.FirstKernelIdeal.main_arg9)) (m ((c.tc : Thread Cert.FirstKernelIdeal.nD Cert.FirstKernelIdeal.τ).loc Cert.FirstKernelIdeal.main_arg10)) (m ((c.tc : Thread Cert.FirstKernelIdeal.nD Cert.FirstKernelIdeal.τ).loc Cert.FirstKernelIdeal.main_arg11))).2 = (fun _ => 1#1)

def Pre_FirstReferenceIdeal (m : (ℓ : Loc Cert.FirstReferenceIdeal.nD Cert.FirstReferenceIdeal.τ Cert.FirstReferenceIdeal.sig) → Buf (Elt Ideal) ℓ) : Prop :=
  True

def Pre_FirstReferenceIdeal_first_indices_in_range [hPre_first_indices_in_range : Cert.Pre_first_indices_in_range.Facts] (m : (ℓ : Loc Cert.FirstReferenceIdeal.nD Cert.FirstReferenceIdeal.τ Cert.FirstReferenceIdeal.sig) → Buf (Elt Ideal) ℓ) : Prop :=
  ∀ c : Dev Cert.FirstReferenceIdeal.nD,
    (Cert.Pre_first_indices_in_range.fn (F := Ideal) (m ((c.tc : Thread Cert.FirstReferenceIdeal.nD Cert.FirstReferenceIdeal.τ).loc Cert.FirstReferenceIdeal.main_arg0)) (m ((c.tc : Thread Cert.FirstReferenceIdeal.nD Cert.FirstReferenceIdeal.τ).loc Cert.FirstReferenceIdeal.main_arg1)) (m ((c.tc : Thread Cert.FirstReferenceIdeal.nD Cert.FirstReferenceIdeal.τ).loc Cert.FirstReferenceIdeal.main_arg2)) (m ((c.tc : Thread Cert.FirstReferenceIdeal.nD Cert.FirstReferenceIdeal.τ).loc Cert.FirstReferenceIdeal.main_arg3)) (m ((c.tc : Thread Cert.FirstReferenceIdeal.nD Cert.FirstReferenceIdeal.τ).loc Cert.FirstReferenceIdeal.main_arg4)) (m ((c.tc : Thread Cert.FirstReferenceIdeal.nD Cert.FirstReferenceIdeal.τ).loc Cert.FirstReferenceIdeal.main_arg5)) (m ((c.tc : Thread Cert.FirstReferenceIdeal.nD Cert.FirstReferenceIdeal.τ).loc Cert.FirstReferenceIdeal.main_arg6)) (m ((c.tc : Thread Cert.FirstReferenceIdeal.nD Cert.FirstReferenceIdeal.τ).loc Cert.FirstReferenceIdeal.main_arg7)) (m ((c.tc : Thread Cert.FirstReferenceIdeal.nD Cert.FirstReferenceIdeal.τ).loc Cert.FirstReferenceIdeal.main_arg8)) (m ((c.tc : Thread Cert.FirstReferenceIdeal.nD Cert.FirstReferenceIdeal.τ).loc Cert.FirstReferenceIdeal.main_arg9)) (m ((c.tc : Thread Cert.FirstReferenceIdeal.nD Cert.FirstReferenceIdeal.τ).loc Cert.FirstReferenceIdeal.main_arg10)) (m ((c.tc : Thread Cert.FirstReferenceIdeal.nD Cert.FirstReferenceIdeal.τ).loc Cert.FirstReferenceIdeal.main_arg11))).1 = (fun _ => 1#1)
    ∧ (Cert.Pre_first_indices_in_range.fn (F := Ideal) (m ((c.tc : Thread Cert.FirstReferenceIdeal.nD Cert.FirstReferenceIdeal.τ).loc Cert.FirstReferenceIdeal.main_arg0)) (m ((c.tc : Thread Cert.FirstReferenceIdeal.nD Cert.FirstReferenceIdeal.τ).loc Cert.FirstReferenceIdeal.main_arg1)) (m ((c.tc : Thread Cert.FirstReferenceIdeal.nD Cert.FirstReferenceIdeal.τ).loc Cert.FirstReferenceIdeal.main_arg2)) (m ((c.tc : Thread Cert.FirstReferenceIdeal.nD Cert.FirstReferenceIdeal.τ).loc Cert.FirstReferenceIdeal.main_arg3)) (m ((c.tc : Thread Cert.FirstReferenceIdeal.nD Cert.FirstReferenceIdeal.τ).loc Cert.FirstReferenceIdeal.main_arg4)) (m ((c.tc : Thread Cert.FirstReferenceIdeal.nD Cert.FirstReferenceIdeal.τ).loc Cert.FirstReferenceIdeal.main_arg5)) (m ((c.tc : Thread Cert.FirstReferenceIdeal.nD Cert.FirstReferenceIdeal.τ).loc Cert.FirstReferenceIdeal.main_arg6)) (m ((c.tc : Thread Cert.FirstReferenceIdeal.nD Cert.FirstReferenceIdeal.τ).loc Cert.FirstReferenceIdeal.main_arg7)) (m ((c.tc : Thread Cert.FirstReferenceIdeal.nD Cert.FirstReferenceIdeal.τ).loc Cert.FirstReferenceIdeal.main_arg8)) (m ((c.tc : Thread Cert.FirstReferenceIdeal.nD Cert.FirstReferenceIdeal.τ).loc Cert.FirstReferenceIdeal.main_arg9)) (m ((c.tc : Thread Cert.FirstReferenceIdeal.nD Cert.FirstReferenceIdeal.τ).loc Cert.FirstReferenceIdeal.main_arg10)) (m ((c.tc : Thread Cert.FirstReferenceIdeal.nD Cert.FirstReferenceIdeal.τ).loc Cert.FirstReferenceIdeal.main_arg11))).2 = (fun _ => 1#1)

def Pre_PreKernel (m : (ℓ : Loc Cert.PreKernel.nD Cert.PreKernel.τ Cert.PreKernel.sig) → Buf (Elt Bits) ℓ) : Prop :=
  True

def Pre_PreKernelIdeal (m : (ℓ : Loc Cert.PreKernelIdeal.nD Cert.PreKernelIdeal.τ Cert.PreKernelIdeal.sig) → Buf (Elt Ideal) ℓ) : Prop :=
  True

def Pre_PreReferenceIdeal (m : (ℓ : Loc Cert.PreReferenceIdeal.nD Cert.PreReferenceIdeal.τ Cert.PreReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_indices_in_range [hKernelIdeal : Cert.KernelIdeal.Facts] [hPre_indices_in_range : Cert.Pre_indices_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_indices_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_indices_in_range [hReferenceIdeal : Cert.ReferenceIdeal.Facts] [hPre_indices_in_range : Cert.Pre_indices_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_indices_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_FirstKernel [hFirstKernel : Cert.FirstKernel.Facts] : Prop :=
  ∀ (m : (ℓ : Loc Cert.FirstKernel.nD Cert.FirstKernel.τ Cert.FirstKernel.sig) → Buf (Elt Bits) ℓ) (g : Dev Cert.FirstKernel.nD → PrngReg), Pre_FirstKernel m →
    θ_run (Cert.FirstKernel.defs (F := Bits)) (onTc (τ := Cert.FirstKernel.τ) (Cert.FirstKernel.main (F := Bits))) ⟨m, fun _ => 0, g⟩ (fun r => (∀ c : Dev Cert.FirstKernel.nD,
      r.2.mem ((c.tc : Thread Cert.FirstKernel.nD Cert.FirstKernel.τ).loc Cert.FirstKernel.main_arg0) = m ((c.tc : Thread Cert.FirstKernel.nD Cert.FirstKernel.τ).loc Cert.FirstKernel.main_arg0)
      ∧ r.2.mem ((c.tc : Thread Cert.FirstKernel.nD Cert.FirstKernel.τ).loc Cert.FirstKernel.main_arg1) = m ((c.tc : Thread Cert.FirstKernel.nD Cert.FirstKernel.τ).loc Cert.FirstKernel.main_arg1)
      ∧ r.2.mem ((c.tc : Thread Cert.FirstKernel.nD Cert.FirstKernel.τ).loc Cert.FirstKernel.main_arg2) = m ((c.tc : Thread Cert.FirstKernel.nD Cert.FirstKernel.τ).loc Cert.FirstKernel.main_arg2)
      ∧ r.2.mem ((c.tc : Thread Cert.FirstKernel.nD Cert.FirstKernel.τ).loc Cert.FirstKernel.main_arg3) = m ((c.tc : Thread Cert.FirstKernel.nD Cert.FirstKernel.τ).loc Cert.FirstKernel.main_arg3)
      ∧ r.2.mem ((c.tc : Thread Cert.FirstKernel.nD Cert.FirstKernel.τ).loc Cert.FirstKernel.main_arg4) = m ((c.tc : Thread Cert.FirstKernel.nD Cert.FirstKernel.τ).loc Cert.FirstKernel.main_arg4)
      ∧ r.2.mem ((c.tc : Thread Cert.FirstKernel.nD Cert.FirstKernel.τ).loc Cert.FirstKernel.main_arg5) = m ((c.tc : Thread Cert.FirstKernel.nD Cert.FirstKernel.τ).loc Cert.FirstKernel.main_arg5)
      ∧ r.2.mem ((c.tc : Thread Cert.FirstKernel.nD Cert.FirstKernel.τ).loc Cert.FirstKernel.main_arg6) = m ((c.tc : Thread Cert.FirstKernel.nD Cert.FirstKernel.τ).loc Cert.FirstKernel.main_arg6)
      ∧ r.2.mem ((c.tc : Thread Cert.FirstKernel.nD Cert.FirstKernel.τ).loc Cert.FirstKernel.main_arg7) = m ((c.tc : Thread Cert.FirstKernel.nD Cert.FirstKernel.τ).loc Cert.FirstKernel.main_arg7)
      ∧ r.2.mem ((c.tc : Thread Cert.FirstKernel.nD Cert.FirstKernel.τ).loc Cert.FirstKernel.main_arg8) = m ((c.tc : Thread Cert.FirstKernel.nD Cert.FirstKernel.τ).loc Cert.FirstKernel.main_arg8)
      ∧ r.2.mem ((c.tc : Thread Cert.FirstKernel.nD Cert.FirstKernel.τ).loc Cert.FirstKernel.main_arg9) = m ((c.tc : Thread Cert.FirstKernel.nD Cert.FirstKernel.τ).loc Cert.FirstKernel.main_arg9)
      ∧ r.2.mem ((c.tc : Thread Cert.FirstKernel.nD Cert.FirstKernel.τ).loc Cert.FirstKernel.main_arg10) = m ((c.tc : Thread Cert.FirstKernel.nD Cert.FirstKernel.τ).loc Cert.FirstKernel.main_arg10)
      ∧ r.2.mem ((c.tc : Thread Cert.FirstKernel.nD Cert.FirstKernel.τ).loc Cert.FirstKernel.main_arg11) = m ((c.tc : Thread Cert.FirstKernel.nD Cert.FirstKernel.τ).loc Cert.FirstKernel.main_arg11))
      ∧ r.2.sem = fun _ => 0)

def quiescent_FirstKernelIdeal [hFirstKernelIdeal : Cert.FirstKernelIdeal.Facts] : Prop :=
  ∀ (m : (ℓ : Loc Cert.FirstKernelIdeal.nD Cert.FirstKernelIdeal.τ Cert.FirstKernelIdeal.sig) → Buf (Elt Ideal) ℓ) (g : Dev Cert.FirstKernelIdeal.nD → PrngReg), Pre_FirstKernelIdeal m →
    θ_run (Cert.FirstKernelIdeal.defs (F := Ideal)) (onTc (τ := Cert.FirstKernelIdeal.τ) (Cert.FirstKernelIdeal.main (F := Ideal))) ⟨m, fun _ => 0, g⟩ (fun r => (∀ c : Dev Cert.FirstKernelIdeal.nD,
      r.2.mem ((c.tc : Thread Cert.FirstKernelIdeal.nD Cert.FirstKernelIdeal.τ).loc Cert.FirstKernelIdeal.main_arg0) = m ((c.tc : Thread Cert.FirstKernelIdeal.nD Cert.FirstKernelIdeal.τ).loc Cert.FirstKernelIdeal.main_arg0)
      ∧ r.2.mem ((c.tc : Thread Cert.FirstKernelIdeal.nD Cert.FirstKernelIdeal.τ).loc Cert.FirstKernelIdeal.main_arg1) = m ((c.tc : Thread Cert.FirstKernelIdeal.nD Cert.FirstKernelIdeal.τ).loc Cert.FirstKernelIdeal.main_arg1)
      ∧ r.2.mem ((c.tc : Thread Cert.FirstKernelIdeal.nD Cert.FirstKernelIdeal.τ).loc Cert.FirstKernelIdeal.main_arg2) = m ((c.tc : Thread Cert.FirstKernelIdeal.nD Cert.FirstKernelIdeal.τ).loc Cert.FirstKernelIdeal.main_arg2)
      ∧ r.2.mem ((c.tc : Thread Cert.FirstKernelIdeal.nD Cert.FirstKernelIdeal.τ).loc Cert.FirstKernelIdeal.main_arg3) = m ((c.tc : Thread Cert.FirstKernelIdeal.nD Cert.FirstKernelIdeal.τ).loc Cert.FirstKernelIdeal.main_arg3)
      ∧ r.2.mem ((c.tc : Thread Cert.FirstKernelIdeal.nD Cert.FirstKernelIdeal.τ).loc Cert.FirstKernelIdeal.main_arg4) = m ((c.tc : Thread Cert.FirstKernelIdeal.nD Cert.FirstKernelIdeal.τ).loc Cert.FirstKernelIdeal.main_arg4)
      ∧ r.2.mem ((c.tc : Thread Cert.FirstKernelIdeal.nD Cert.FirstKernelIdeal.τ).loc Cert.FirstKernelIdeal.main_arg5) = m ((c.tc : Thread Cert.FirstKernelIdeal.nD Cert.FirstKernelIdeal.τ).loc Cert.FirstKernelIdeal.main_arg5)
      ∧ r.2.mem ((c.tc : Thread Cert.FirstKernelIdeal.nD Cert.FirstKernelIdeal.τ).loc Cert.FirstKernelIdeal.main_arg6) = m ((c.tc : Thread Cert.FirstKernelIdeal.nD Cert.FirstKernelIdeal.τ).loc Cert.FirstKernelIdeal.main_arg6)
      ∧ r.2.mem ((c.tc : Thread Cert.FirstKernelIdeal.nD Cert.FirstKernelIdeal.τ).loc Cert.FirstKernelIdeal.main_arg7) = m ((c.tc : Thread Cert.FirstKernelIdeal.nD Cert.FirstKernelIdeal.τ).loc Cert.FirstKernelIdeal.main_arg7)
      ∧ r.2.mem ((c.tc : Thread Cert.FirstKernelIdeal.nD Cert.FirstKernelIdeal.τ).loc Cert.FirstKernelIdeal.main_arg8) = m ((c.tc : Thread Cert.FirstKernelIdeal.nD Cert.FirstKernelIdeal.τ).loc Cert.FirstKernelIdeal.main_arg8)
      ∧ r.2.mem ((c.tc : Thread Cert.FirstKernelIdeal.nD Cert.FirstKernelIdeal.τ).loc Cert.FirstKernelIdeal.main_arg9) = m ((c.tc : Thread Cert.FirstKernelIdeal.nD Cert.FirstKernelIdeal.τ).loc Cert.FirstKernelIdeal.main_arg9)
      ∧ r.2.mem ((c.tc : Thread Cert.FirstKernelIdeal.nD Cert.FirstKernelIdeal.τ).loc Cert.FirstKernelIdeal.main_arg10) = m ((c.tc : Thread Cert.FirstKernelIdeal.nD Cert.FirstKernelIdeal.τ).loc Cert.FirstKernelIdeal.main_arg10)
      ∧ r.2.mem ((c.tc : Thread Cert.FirstKernelIdeal.nD Cert.FirstKernelIdeal.τ).loc Cert.FirstKernelIdeal.main_arg11) = m ((c.tc : Thread Cert.FirstKernelIdeal.nD Cert.FirstKernelIdeal.τ).loc Cert.FirstKernelIdeal.main_arg11))
      ∧ r.2.sem = fun _ => 0)

def quiescent_FirstKernelIdeal_pre_first_indices_in_range [hFirstKernelIdeal : Cert.FirstKernelIdeal.Facts] [hPre_first_indices_in_range : Cert.Pre_first_indices_in_range.Facts] : Prop :=
  ∀ (m : (ℓ : Loc Cert.FirstKernelIdeal.nD Cert.FirstKernelIdeal.τ Cert.FirstKernelIdeal.sig) → Buf (Elt Ideal) ℓ) (g : Dev Cert.FirstKernelIdeal.nD → PrngReg), Pre_FirstKernelIdeal_first_indices_in_range m →
    θ_run (Cert.FirstKernelIdeal.defs (F := Ideal)) (onTc (τ := Cert.FirstKernelIdeal.τ) (Cert.FirstKernelIdeal.main (F := Ideal))) ⟨m, fun _ => 0, g⟩ (fun r => (∀ c : Dev Cert.FirstKernelIdeal.nD,
      r.2.mem ((c.tc : Thread Cert.FirstKernelIdeal.nD Cert.FirstKernelIdeal.τ).loc Cert.FirstKernelIdeal.main_arg0) = m ((c.tc : Thread Cert.FirstKernelIdeal.nD Cert.FirstKernelIdeal.τ).loc Cert.FirstKernelIdeal.main_arg0)
      ∧ r.2.mem ((c.tc : Thread Cert.FirstKernelIdeal.nD Cert.FirstKernelIdeal.τ).loc Cert.FirstKernelIdeal.main_arg1) = m ((c.tc : Thread Cert.FirstKernelIdeal.nD Cert.FirstKernelIdeal.τ).loc Cert.FirstKernelIdeal.main_arg1)
      ∧ r.2.mem ((c.tc : Thread Cert.FirstKernelIdeal.nD Cert.FirstKernelIdeal.τ).loc Cert.FirstKernelIdeal.main_arg2) = m ((c.tc : Thread Cert.FirstKernelIdeal.nD Cert.FirstKernelIdeal.τ).loc Cert.FirstKernelIdeal.main_arg2)
      ∧ r.2.mem ((c.tc : Thread Cert.FirstKernelIdeal.nD Cert.FirstKernelIdeal.τ).loc Cert.FirstKernelIdeal.main_arg3) = m ((c.tc : Thread Cert.FirstKernelIdeal.nD Cert.FirstKernelIdeal.τ).loc Cert.FirstKernelIdeal.main_arg3)
      ∧ r.2.mem ((c.tc : Thread Cert.FirstKernelIdeal.nD Cert.FirstKernelIdeal.τ).loc Cert.FirstKernelIdeal.main_arg4) = m ((c.tc : Thread Cert.FirstKernelIdeal.nD Cert.FirstKernelIdeal.τ).loc Cert.FirstKernelIdeal.main_arg4)
      ∧ r.2.mem ((c.tc : Thread Cert.FirstKernelIdeal.nD Cert.FirstKernelIdeal.τ).loc Cert.FirstKernelIdeal.main_arg5) = m ((c.tc : Thread Cert.FirstKernelIdeal.nD Cert.FirstKernelIdeal.τ).loc Cert.FirstKernelIdeal.main_arg5)
      ∧ r.2.mem ((c.tc : Thread Cert.FirstKernelIdeal.nD Cert.FirstKernelIdeal.τ).loc Cert.FirstKernelIdeal.main_arg6) = m ((c.tc : Thread Cert.FirstKernelIdeal.nD Cert.FirstKernelIdeal.τ).loc Cert.FirstKernelIdeal.main_arg6)
      ∧ r.2.mem ((c.tc : Thread Cert.FirstKernelIdeal.nD Cert.FirstKernelIdeal.τ).loc Cert.FirstKernelIdeal.main_arg7) = m ((c.tc : Thread Cert.FirstKernelIdeal.nD Cert.FirstKernelIdeal.τ).loc Cert.FirstKernelIdeal.main_arg7)
      ∧ r.2.mem ((c.tc : Thread Cert.FirstKernelIdeal.nD Cert.FirstKernelIdeal.τ).loc Cert.FirstKernelIdeal.main_arg8) = m ((c.tc : Thread Cert.FirstKernelIdeal.nD Cert.FirstKernelIdeal.τ).loc Cert.FirstKernelIdeal.main_arg8)
      ∧ r.2.mem ((c.tc : Thread Cert.FirstKernelIdeal.nD Cert.FirstKernelIdeal.τ).loc Cert.FirstKernelIdeal.main_arg9) = m ((c.tc : Thread Cert.FirstKernelIdeal.nD Cert.FirstKernelIdeal.τ).loc Cert.FirstKernelIdeal.main_arg9)
      ∧ r.2.mem ((c.tc : Thread Cert.FirstKernelIdeal.nD Cert.FirstKernelIdeal.τ).loc Cert.FirstKernelIdeal.main_arg10) = m ((c.tc : Thread Cert.FirstKernelIdeal.nD Cert.FirstKernelIdeal.τ).loc Cert.FirstKernelIdeal.main_arg10)
      ∧ r.2.mem ((c.tc : Thread Cert.FirstKernelIdeal.nD Cert.FirstKernelIdeal.τ).loc Cert.FirstKernelIdeal.main_arg11) = m ((c.tc : Thread Cert.FirstKernelIdeal.nD Cert.FirstKernelIdeal.τ).loc Cert.FirstKernelIdeal.main_arg11))
      ∧ r.2.sem = fun _ => 0)

def quiescent_FirstReferenceIdeal [hFirstReferenceIdeal : Cert.FirstReferenceIdeal.Facts] : Prop :=
  ∀ (m : (ℓ : Loc Cert.FirstReferenceIdeal.nD Cert.FirstReferenceIdeal.τ Cert.FirstReferenceIdeal.sig) → Buf (Elt Ideal) ℓ) (g : Dev Cert.FirstReferenceIdeal.nD → PrngReg), Pre_FirstReferenceIdeal m →
    θ_run (Cert.FirstReferenceIdeal.defs (F := Ideal)) (onTc (τ := Cert.FirstReferenceIdeal.τ) (Cert.FirstReferenceIdeal.main (F := Ideal))) ⟨m, fun _ => 0, g⟩ (fun r => (∀ c : Dev Cert.FirstReferenceIdeal.nD,
      r.2.mem ((c.tc : Thread Cert.FirstReferenceIdeal.nD Cert.FirstReferenceIdeal.τ).loc Cert.FirstReferenceIdeal.main_arg0) = m ((c.tc : Thread Cert.FirstReferenceIdeal.nD Cert.FirstReferenceIdeal.τ).loc Cert.FirstReferenceIdeal.main_arg0)
      ∧ r.2.mem ((c.tc : Thread Cert.FirstReferenceIdeal.nD Cert.FirstReferenceIdeal.τ).loc Cert.FirstReferenceIdeal.main_arg1) = m ((c.tc : Thread Cert.FirstReferenceIdeal.nD Cert.FirstReferenceIdeal.τ).loc Cert.FirstReferenceIdeal.main_arg1)
      ∧ r.2.mem ((c.tc : Thread Cert.FirstReferenceIdeal.nD Cert.FirstReferenceIdeal.τ).loc Cert.FirstReferenceIdeal.main_arg2) = m ((c.tc : Thread Cert.FirstReferenceIdeal.nD Cert.FirstReferenceIdeal.τ).loc Cert.FirstReferenceIdeal.main_arg2)
      ∧ r.2.mem ((c.tc : Thread Cert.FirstReferenceIdeal.nD Cert.FirstReferenceIdeal.τ).loc Cert.FirstReferenceIdeal.main_arg3) = m ((c.tc : Thread Cert.FirstReferenceIdeal.nD Cert.FirstReferenceIdeal.τ).loc Cert.FirstReferenceIdeal.main_arg3)
      ∧ r.2.mem ((c.tc : Thread Cert.FirstReferenceIdeal.nD Cert.FirstReferenceIdeal.τ).loc Cert.FirstReferenceIdeal.main_arg4) = m ((c.tc : Thread Cert.FirstReferenceIdeal.nD Cert.FirstReferenceIdeal.τ).loc Cert.FirstReferenceIdeal.main_arg4)
      ∧ r.2.mem ((c.tc : Thread Cert.FirstReferenceIdeal.nD Cert.FirstReferenceIdeal.τ).loc Cert.FirstReferenceIdeal.main_arg5) = m ((c.tc : Thread Cert.FirstReferenceIdeal.nD Cert.FirstReferenceIdeal.τ).loc Cert.FirstReferenceIdeal.main_arg5)
      ∧ r.2.mem ((c.tc : Thread Cert.FirstReferenceIdeal.nD Cert.FirstReferenceIdeal.τ).loc Cert.FirstReferenceIdeal.main_arg6) = m ((c.tc : Thread Cert.FirstReferenceIdeal.nD Cert.FirstReferenceIdeal.τ).loc Cert.FirstReferenceIdeal.main_arg6)
      ∧ r.2.mem ((c.tc : Thread Cert.FirstReferenceIdeal.nD Cert.FirstReferenceIdeal.τ).loc Cert.FirstReferenceIdeal.main_arg7) = m ((c.tc : Thread Cert.FirstReferenceIdeal.nD Cert.FirstReferenceIdeal.τ).loc Cert.FirstReferenceIdeal.main_arg7)
      ∧ r.2.mem ((c.tc : Thread Cert.FirstReferenceIdeal.nD Cert.FirstReferenceIdeal.τ).loc Cert.FirstReferenceIdeal.main_arg8) = m ((c.tc : Thread Cert.FirstReferenceIdeal.nD Cert.FirstReferenceIdeal.τ).loc Cert.FirstReferenceIdeal.main_arg8)
      ∧ r.2.mem ((c.tc : Thread Cert.FirstReferenceIdeal.nD Cert.FirstReferenceIdeal.τ).loc Cert.FirstReferenceIdeal.main_arg9) = m ((c.tc : Thread Cert.FirstReferenceIdeal.nD Cert.FirstReferenceIdeal.τ).loc Cert.FirstReferenceIdeal.main_arg9)
      ∧ r.2.mem ((c.tc : Thread Cert.FirstReferenceIdeal.nD Cert.FirstReferenceIdeal.τ).loc Cert.FirstReferenceIdeal.main_arg10) = m ((c.tc : Thread Cert.FirstReferenceIdeal.nD Cert.FirstReferenceIdeal.τ).loc Cert.FirstReferenceIdeal.main_arg10)
      ∧ r.2.mem ((c.tc : Thread Cert.FirstReferenceIdeal.nD Cert.FirstReferenceIdeal.τ).loc Cert.FirstReferenceIdeal.main_arg11) = m ((c.tc : Thread Cert.FirstReferenceIdeal.nD Cert.FirstReferenceIdeal.τ).loc Cert.FirstReferenceIdeal.main_arg11))
      ∧ r.2.sem = fun _ => 0)

def quiescent_FirstReferenceIdeal_pre_first_indices_in_range [hFirstReferenceIdeal : Cert.FirstReferenceIdeal.Facts] [hPre_first_indices_in_range : Cert.Pre_first_indices_in_range.Facts] : Prop :=
  ∀ (m : (ℓ : Loc Cert.FirstReferenceIdeal.nD Cert.FirstReferenceIdeal.τ Cert.FirstReferenceIdeal.sig) → Buf (Elt Ideal) ℓ) (g : Dev Cert.FirstReferenceIdeal.nD → PrngReg), Pre_FirstReferenceIdeal_first_indices_in_range m →
    θ_run (Cert.FirstReferenceIdeal.defs (F := Ideal)) (onTc (τ := Cert.FirstReferenceIdeal.τ) (Cert.FirstReferenceIdeal.main (F := Ideal))) ⟨m, fun _ => 0, g⟩ (fun r => (∀ c : Dev Cert.FirstReferenceIdeal.nD,
      r.2.mem ((c.tc : Thread Cert.FirstReferenceIdeal.nD Cert.FirstReferenceIdeal.τ).loc Cert.FirstReferenceIdeal.main_arg0) = m ((c.tc : Thread Cert.FirstReferenceIdeal.nD Cert.FirstReferenceIdeal.τ).loc Cert.FirstReferenceIdeal.main_arg0)
      ∧ r.2.mem ((c.tc : Thread Cert.FirstReferenceIdeal.nD Cert.FirstReferenceIdeal.τ).loc Cert.FirstReferenceIdeal.main_arg1) = m ((c.tc : Thread Cert.FirstReferenceIdeal.nD Cert.FirstReferenceIdeal.τ).loc Cert.FirstReferenceIdeal.main_arg1)
      ∧ r.2.mem ((c.tc : Thread Cert.FirstReferenceIdeal.nD Cert.FirstReferenceIdeal.τ).loc Cert.FirstReferenceIdeal.main_arg2) = m ((c.tc : Thread Cert.FirstReferenceIdeal.nD Cert.FirstReferenceIdeal.τ).loc Cert.FirstReferenceIdeal.main_arg2)
      ∧ r.2.mem ((c.tc : Thread Cert.FirstReferenceIdeal.nD Cert.FirstReferenceIdeal.τ).loc Cert.FirstReferenceIdeal.main_arg3) = m ((c.tc : Thread Cert.FirstReferenceIdeal.nD Cert.FirstReferenceIdeal.τ).loc Cert.FirstReferenceIdeal.main_arg3)
      ∧ r.2.mem ((c.tc : Thread Cert.FirstReferenceIdeal.nD Cert.FirstReferenceIdeal.τ).loc Cert.FirstReferenceIdeal.main_arg4) = m ((c.tc : Thread Cert.FirstReferenceIdeal.nD Cert.FirstReferenceIdeal.τ).loc Cert.FirstReferenceIdeal.main_arg4)
      ∧ r.2.mem ((c.tc : Thread Cert.FirstReferenceIdeal.nD Cert.FirstReferenceIdeal.τ).loc Cert.FirstReferenceIdeal.main_arg5) = m ((c.tc : Thread Cert.FirstReferenceIdeal.nD Cert.FirstReferenceIdeal.τ).loc Cert.FirstReferenceIdeal.main_arg5)
      ∧ r.2.mem ((c.tc : Thread Cert.FirstReferenceIdeal.nD Cert.FirstReferenceIdeal.τ).loc Cert.FirstReferenceIdeal.main_arg6) = m ((c.tc : Thread Cert.FirstReferenceIdeal.nD Cert.FirstReferenceIdeal.τ).loc Cert.FirstReferenceIdeal.main_arg6)
      ∧ r.2.mem ((c.tc : Thread Cert.FirstReferenceIdeal.nD Cert.FirstReferenceIdeal.τ).loc Cert.FirstReferenceIdeal.main_arg7) = m ((c.tc : Thread Cert.FirstReferenceIdeal.nD Cert.FirstReferenceIdeal.τ).loc Cert.FirstReferenceIdeal.main_arg7)
      ∧ r.2.mem ((c.tc : Thread Cert.FirstReferenceIdeal.nD Cert.FirstReferenceIdeal.τ).loc Cert.FirstReferenceIdeal.main_arg8) = m ((c.tc : Thread Cert.FirstReferenceIdeal.nD Cert.FirstReferenceIdeal.τ).loc Cert.FirstReferenceIdeal.main_arg8)
      ∧ r.2.mem ((c.tc : Thread Cert.FirstReferenceIdeal.nD Cert.FirstReferenceIdeal.τ).loc Cert.FirstReferenceIdeal.main_arg9) = m ((c.tc : Thread Cert.FirstReferenceIdeal.nD Cert.FirstReferenceIdeal.τ).loc Cert.FirstReferenceIdeal.main_arg9)
      ∧ r.2.mem ((c.tc : Thread Cert.FirstReferenceIdeal.nD Cert.FirstReferenceIdeal.τ).loc Cert.FirstReferenceIdeal.main_arg10) = m ((c.tc : Thread Cert.FirstReferenceIdeal.nD Cert.FirstReferenceIdeal.τ).loc Cert.FirstReferenceIdeal.main_arg10)
      ∧ r.2.mem ((c.tc : Thread Cert.FirstReferenceIdeal.nD Cert.FirstReferenceIdeal.τ).loc Cert.FirstReferenceIdeal.main_arg11) = m ((c.tc : Thread Cert.FirstReferenceIdeal.nD Cert.FirstReferenceIdeal.τ).loc Cert.FirstReferenceIdeal.main_arg11))
      ∧ r.2.sem = fun _ => 0)

def quiescent_PreKernel [hPreKernel : Cert.PreKernel.Facts] : Prop :=
  ∀ (m : (ℓ : Loc Cert.PreKernel.nD Cert.PreKernel.τ Cert.PreKernel.sig) → Buf (Elt Bits) ℓ) (g : Dev Cert.PreKernel.nD → PrngReg), Pre_PreKernel m →
    θ_run (Cert.PreKernel.defs (F := Bits)) (onTc (τ := Cert.PreKernel.τ) (Cert.PreKernel.main (F := Bits))) ⟨m, fun _ => 0, g⟩ (fun r => (∀ c : Dev Cert.PreKernel.nD,
      r.2.mem ((c.tc : Thread Cert.PreKernel.nD Cert.PreKernel.τ).loc Cert.PreKernel.main_arg0) = m ((c.tc : Thread Cert.PreKernel.nD Cert.PreKernel.τ).loc Cert.PreKernel.main_arg0)
      ∧ r.2.mem ((c.tc : Thread Cert.PreKernel.nD Cert.PreKernel.τ).loc Cert.PreKernel.main_arg1) = m ((c.tc : Thread Cert.PreKernel.nD Cert.PreKernel.τ).loc Cert.PreKernel.main_arg1)
      ∧ r.2.mem ((c.tc : Thread Cert.PreKernel.nD Cert.PreKernel.τ).loc Cert.PreKernel.main_arg2) = m ((c.tc : Thread Cert.PreKernel.nD Cert.PreKernel.τ).loc Cert.PreKernel.main_arg2)
      ∧ r.2.mem ((c.tc : Thread Cert.PreKernel.nD Cert.PreKernel.τ).loc Cert.PreKernel.main_arg3) = m ((c.tc : Thread Cert.PreKernel.nD Cert.PreKernel.τ).loc Cert.PreKernel.main_arg3)
      ∧ r.2.mem ((c.tc : Thread Cert.PreKernel.nD Cert.PreKernel.τ).loc Cert.PreKernel.main_arg4) = m ((c.tc : Thread Cert.PreKernel.nD Cert.PreKernel.τ).loc Cert.PreKernel.main_arg4))
      ∧ r.2.sem = fun _ => 0)

def quiescent_PreKernelIdeal [hPreKernelIdeal : Cert.PreKernelIdeal.Facts] : Prop :=
  ∀ (m : (ℓ : Loc Cert.PreKernelIdeal.nD Cert.PreKernelIdeal.τ Cert.PreKernelIdeal.sig) → Buf (Elt Ideal) ℓ) (g : Dev Cert.PreKernelIdeal.nD → PrngReg), Pre_PreKernelIdeal m →
    θ_run (Cert.PreKernelIdeal.defs (F := Ideal)) (onTc (τ := Cert.PreKernelIdeal.τ) (Cert.PreKernelIdeal.main (F := Ideal))) ⟨m, fun _ => 0, g⟩ (fun r => (∀ c : Dev Cert.PreKernelIdeal.nD,
      r.2.mem ((c.tc : Thread Cert.PreKernelIdeal.nD Cert.PreKernelIdeal.τ).loc Cert.PreKernelIdeal.main_arg0) = m ((c.tc : Thread Cert.PreKernelIdeal.nD Cert.PreKernelIdeal.τ).loc Cert.PreKernelIdeal.main_arg0)
      ∧ r.2.mem ((c.tc : Thread Cert.PreKernelIdeal.nD Cert.PreKernelIdeal.τ).loc Cert.PreKernelIdeal.main_arg1) = m ((c.tc : Thread Cert.PreKernelIdeal.nD Cert.PreKernelIdeal.τ).loc Cert.PreKernelIdeal.main_arg1)
      ∧ r.2.mem ((c.tc : Thread Cert.PreKernelIdeal.nD Cert.PreKernelIdeal.τ).loc Cert.PreKernelIdeal.main_arg2) = m ((c.tc : Thread Cert.PreKernelIdeal.nD Cert.PreKernelIdeal.τ).loc Cert.PreKernelIdeal.main_arg2)
      ∧ r.2.mem ((c.tc : Thread Cert.PreKernelIdeal.nD Cert.PreKernelIdeal.τ).loc Cert.PreKernelIdeal.main_arg3) = m ((c.tc : Thread Cert.PreKernelIdeal.nD Cert.PreKernelIdeal.τ).loc Cert.PreKernelIdeal.main_arg3)
      ∧ r.2.mem ((c.tc : Thread Cert.PreKernelIdeal.nD Cert.PreKernelIdeal.τ).loc Cert.PreKernelIdeal.main_arg4) = m ((c.tc : Thread Cert.PreKernelIdeal.nD Cert.PreKernelIdeal.τ).loc Cert.PreKernelIdeal.main_arg4))
      ∧ r.2.sem = fun _ => 0)

def quiescent_PreReferenceIdeal [hPreReferenceIdeal : Cert.PreReferenceIdeal.Facts] : Prop :=
  ∀ (m : (ℓ : Loc Cert.PreReferenceIdeal.nD Cert.PreReferenceIdeal.τ Cert.PreReferenceIdeal.sig) → Buf (Elt Ideal) ℓ) (g : Dev Cert.PreReferenceIdeal.nD → PrngReg), Pre_PreReferenceIdeal m →
    θ_run (Cert.PreReferenceIdeal.defs (F := Ideal)) (onTc (τ := Cert.PreReferenceIdeal.τ) (Cert.PreReferenceIdeal.main (F := Ideal))) ⟨m, fun _ => 0, g⟩ (fun r => (∀ c : Dev Cert.PreReferenceIdeal.nD,
      r.2.mem ((c.tc : Thread Cert.PreReferenceIdeal.nD Cert.PreReferenceIdeal.τ).loc Cert.PreReferenceIdeal.main_arg0) = m ((c.tc : Thread Cert.PreReferenceIdeal.nD Cert.PreReferenceIdeal.τ).loc Cert.PreReferenceIdeal.main_arg0)
      ∧ r.2.mem ((c.tc : Thread Cert.PreReferenceIdeal.nD Cert.PreReferenceIdeal.τ).loc Cert.PreReferenceIdeal.main_arg1) = m ((c.tc : Thread Cert.PreReferenceIdeal.nD Cert.PreReferenceIdeal.τ).loc Cert.PreReferenceIdeal.main_arg1)
      ∧ r.2.mem ((c.tc : Thread Cert.PreReferenceIdeal.nD Cert.PreReferenceIdeal.τ).loc Cert.PreReferenceIdeal.main_arg2) = m ((c.tc : Thread Cert.PreReferenceIdeal.nD Cert.PreReferenceIdeal.τ).loc Cert.PreReferenceIdeal.main_arg2)
      ∧ r.2.mem ((c.tc : Thread Cert.PreReferenceIdeal.nD Cert.PreReferenceIdeal.τ).loc Cert.PreReferenceIdeal.main_arg3) = m ((c.tc : Thread Cert.PreReferenceIdeal.nD Cert.PreReferenceIdeal.τ).loc Cert.PreReferenceIdeal.main_arg3)
      ∧ r.2.mem ((c.tc : Thread Cert.PreReferenceIdeal.nD Cert.PreReferenceIdeal.τ).loc Cert.PreReferenceIdeal.main_arg4) = m ((c.tc : Thread Cert.PreReferenceIdeal.nD Cert.PreReferenceIdeal.τ).loc Cert.PreReferenceIdeal.main_arg4))
      ∧ r.2.sem = fun _ => 0)

def preserves_Kernel_KernelIdeal : Prop :=
  True

def algebraic_KernelIdeal_ReferenceIdeal_pre_indices_in_range [hKernelIdeal : Cert.KernelIdeal.Facts] [hReferenceIdeal : Cert.ReferenceIdeal.Facts] [hPre_indices_in_range : Cert.Pre_indices_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_indices_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v27_0)) (v1 : (c : Dev Cert.KernelIdeal.nD) → Buf (Elt Ideal) ((c.tc : Thread Cert.KernelIdeal.nD Cert.KernelIdeal.τ).loc Cert.KernelIdeal.main_v27_1)) (v2 : (c : Dev Cert.KernelIdeal.nD) → Buf (Elt Ideal) ((c.tc : Thread Cert.KernelIdeal.nD Cert.KernelIdeal.τ).loc Cert.KernelIdeal.main_v27_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27_0) = v0 c
          ∧ r.2.mem ((c.tc : Thread Cert.KernelIdeal.nD Cert.KernelIdeal.τ).loc Cert.KernelIdeal.main_v27_1) = v1 c
          ∧ r.2.mem ((c.tc : Thread Cert.KernelIdeal.nD Cert.KernelIdeal.τ).loc Cert.KernelIdeal.main_v27_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v138) = v0 c
          ∧ r.2.mem ((c.tc : Thread Cert.ReferenceIdeal.nD Cert.ReferenceIdeal.τ).loc Cert.ReferenceIdeal.main_v194) = v1 c
          ∧ r.2.mem ((c.tc : Thread Cert.ReferenceIdeal.nD Cert.ReferenceIdeal.τ).loc Cert.ReferenceIdeal.main_v197) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def preserves_FirstKernel_FirstKernelIdeal : Prop :=
  True

def algebraic_FirstKernelIdeal_FirstReferenceIdeal_pre_first_indices_in_range [hFirstKernelIdeal : Cert.FirstKernelIdeal.Facts] [hFirstReferenceIdeal : Cert.FirstReferenceIdeal.Facts] [hPre_first_indices_in_range : Cert.Pre_first_indices_in_range.Facts] : Prop :=
  ∀ (m : (ℓ : Loc Cert.FirstKernelIdeal.nD Cert.FirstKernelIdeal.τ Cert.FirstKernelIdeal.sig) → Buf (Elt Ideal) ℓ) (g : Dev Cert.FirstKernelIdeal.nD → PrngReg)
    (m' : (ℓ : Loc Cert.FirstReferenceIdeal.nD Cert.FirstReferenceIdeal.τ Cert.FirstReferenceIdeal.sig) → Buf (Elt Ideal) ℓ) (g' : Dev Cert.FirstReferenceIdeal.nD → PrngReg), Pre_FirstKernelIdeal_first_indices_in_range m →
    (∀ c : Dev Cert.FirstKernelIdeal.nD,
      m' ((c.tc : Thread Cert.FirstReferenceIdeal.nD Cert.FirstReferenceIdeal.τ).loc Cert.FirstReferenceIdeal.main_arg0) = m ((c.tc : Thread Cert.FirstKernelIdeal.nD Cert.FirstKernelIdeal.τ).loc Cert.FirstKernelIdeal.main_arg0)
      ∧ m' ((c.tc : Thread Cert.FirstReferenceIdeal.nD Cert.FirstReferenceIdeal.τ).loc Cert.FirstReferenceIdeal.main_arg1) = m ((c.tc : Thread Cert.FirstKernelIdeal.nD Cert.FirstKernelIdeal.τ).loc Cert.FirstKernelIdeal.main_arg1)
      ∧ m' ((c.tc : Thread Cert.FirstReferenceIdeal.nD Cert.FirstReferenceIdeal.τ).loc Cert.FirstReferenceIdeal.main_arg2) = m ((c.tc : Thread Cert.FirstKernelIdeal.nD Cert.FirstKernelIdeal.τ).loc Cert.FirstKernelIdeal.main_arg2)
      ∧ m' ((c.tc : Thread Cert.FirstReferenceIdeal.nD Cert.FirstReferenceIdeal.τ).loc Cert.FirstReferenceIdeal.main_arg3) = m ((c.tc : Thread Cert.FirstKernelIdeal.nD Cert.FirstKernelIdeal.τ).loc Cert.FirstKernelIdeal.main_arg3)
      ∧ m' ((c.tc : Thread Cert.FirstReferenceIdeal.nD Cert.FirstReferenceIdeal.τ).loc Cert.FirstReferenceIdeal.main_arg4) = m ((c.tc : Thread Cert.FirstKernelIdeal.nD Cert.FirstKernelIdeal.τ).loc Cert.FirstKernelIdeal.main_arg4)
      ∧ m' ((c.tc : Thread Cert.FirstReferenceIdeal.nD Cert.FirstReferenceIdeal.τ).loc Cert.FirstReferenceIdeal.main_arg5) = m ((c.tc : Thread Cert.FirstKernelIdeal.nD Cert.FirstKernelIdeal.τ).loc Cert.FirstKernelIdeal.main_arg5)
      ∧ m' ((c.tc : Thread Cert.FirstReferenceIdeal.nD Cert.FirstReferenceIdeal.τ).loc Cert.FirstReferenceIdeal.main_arg6) = m ((c.tc : Thread Cert.FirstKernelIdeal.nD Cert.FirstKernelIdeal.τ).loc Cert.FirstKernelIdeal.main_arg6)
      ∧ m' ((c.tc : Thread Cert.FirstReferenceIdeal.nD Cert.FirstReferenceIdeal.τ).loc Cert.FirstReferenceIdeal.main_arg7) = m ((c.tc : Thread Cert.FirstKernelIdeal.nD Cert.FirstKernelIdeal.τ).loc Cert.FirstKernelIdeal.main_arg7)
      ∧ m' ((c.tc : Thread Cert.FirstReferenceIdeal.nD Cert.FirstReferenceIdeal.τ).loc Cert.FirstReferenceIdeal.main_arg8) = m ((c.tc : Thread Cert.FirstKernelIdeal.nD Cert.FirstKernelIdeal.τ).loc Cert.FirstKernelIdeal.main_arg8)
      ∧ m' ((c.tc : Thread Cert.FirstReferenceIdeal.nD Cert.FirstReferenceIdeal.τ).loc Cert.FirstReferenceIdeal.main_arg9) = m ((c.tc : Thread Cert.FirstKernelIdeal.nD Cert.FirstKernelIdeal.τ).loc Cert.FirstKernelIdeal.main_arg9)
      ∧ m' ((c.tc : Thread Cert.FirstReferenceIdeal.nD Cert.FirstReferenceIdeal.τ).loc Cert.FirstReferenceIdeal.main_arg10) = m ((c.tc : Thread Cert.FirstKernelIdeal.nD Cert.FirstKernelIdeal.τ).loc Cert.FirstKernelIdeal.main_arg10)
      ∧ m' ((c.tc : Thread Cert.FirstReferenceIdeal.nD Cert.FirstReferenceIdeal.τ).loc Cert.FirstReferenceIdeal.main_arg11) = m ((c.tc : Thread Cert.FirstKernelIdeal.nD Cert.FirstKernelIdeal.τ).loc Cert.FirstKernelIdeal.main_arg11)) →
    ∃ (v0 : (c : Dev Cert.FirstKernelIdeal.nD) → Buf (Elt Ideal) ((c.tc : Thread Cert.FirstKernelIdeal.nD Cert.FirstKernelIdeal.τ).loc Cert.FirstKernelIdeal.main_v31_0)) (v1 : (c : Dev Cert.FirstKernelIdeal.nD) → Buf (Elt Ideal) ((c.tc : Thread Cert.FirstKernelIdeal.nD Cert.FirstKernelIdeal.τ).loc Cert.FirstKernelIdeal.main_v31_1)) (v2 : (c : Dev Cert.FirstKernelIdeal.nD) → Buf (Elt Ideal) ((c.tc : Thread Cert.FirstKernelIdeal.nD Cert.FirstKernelIdeal.τ).loc Cert.FirstKernelIdeal.main_v31_2)),
      θ_run (Cert.FirstKernelIdeal.defs (F := Ideal)) (onTc (τ := Cert.FirstKernelIdeal.τ) (Cert.FirstKernelIdeal.main (F := Ideal))) ⟨m, fun _ => 0, g⟩ (fun r => ∀ c : Dev Cert.FirstKernelIdeal.nD,
          r.2.mem ((c.tc : Thread Cert.FirstKernelIdeal.nD Cert.FirstKernelIdeal.τ).loc Cert.FirstKernelIdeal.main_v31_0) = v0 c
          ∧ r.2.mem ((c.tc : Thread Cert.FirstKernelIdeal.nD Cert.FirstKernelIdeal.τ).loc Cert.FirstKernelIdeal.main_v31_1) = v1 c
          ∧ r.2.mem ((c.tc : Thread Cert.FirstKernelIdeal.nD Cert.FirstKernelIdeal.τ).loc Cert.FirstKernelIdeal.main_v31_2) = v2 c
          ∧ r.2.mem ((c.tc : Thread Cert.FirstKernelIdeal.nD Cert.FirstKernelIdeal.τ).loc Cert.FirstKernelIdeal.main_arg0) = m ((c.tc : Thread Cert.FirstKernelIdeal.nD Cert.FirstKernelIdeal.τ).loc Cert.FirstKernelIdeal.main_arg0)
          ∧ r.2.mem ((c.tc : Thread Cert.FirstKernelIdeal.nD Cert.FirstKernelIdeal.τ).loc Cert.FirstKernelIdeal.main_arg1) = m ((c.tc : Thread Cert.FirstKernelIdeal.nD Cert.FirstKernelIdeal.τ).loc Cert.FirstKernelIdeal.main_arg1)
          ∧ r.2.mem ((c.tc : Thread Cert.FirstKernelIdeal.nD Cert.FirstKernelIdeal.τ).loc Cert.FirstKernelIdeal.main_arg2) = m ((c.tc : Thread Cert.FirstKernelIdeal.nD Cert.FirstKernelIdeal.τ).loc Cert.FirstKernelIdeal.main_arg2)
          ∧ r.2.mem ((c.tc : Thread Cert.FirstKernelIdeal.nD Cert.FirstKernelIdeal.τ).loc Cert.FirstKernelIdeal.main_arg3) = m ((c.tc : Thread Cert.FirstKernelIdeal.nD Cert.FirstKernelIdeal.τ).loc Cert.FirstKernelIdeal.main_arg3)
          ∧ r.2.mem ((c.tc : Thread Cert.FirstKernelIdeal.nD Cert.FirstKernelIdeal.τ).loc Cert.FirstKernelIdeal.main_arg4) = m ((c.tc : Thread Cert.FirstKernelIdeal.nD Cert.FirstKernelIdeal.τ).loc Cert.FirstKernelIdeal.main_arg4)
          ∧ r.2.mem ((c.tc : Thread Cert.FirstKernelIdeal.nD Cert.FirstKernelIdeal.τ).loc Cert.FirstKernelIdeal.main_arg5) = m ((c.tc : Thread Cert.FirstKernelIdeal.nD Cert.FirstKernelIdeal.τ).loc Cert.FirstKernelIdeal.main_arg5)
          ∧ r.2.mem ((c.tc : Thread Cert.FirstKernelIdeal.nD Cert.FirstKernelIdeal.τ).loc Cert.FirstKernelIdeal.main_arg6) = m ((c.tc : Thread Cert.FirstKernelIdeal.nD Cert.FirstKernelIdeal.τ).loc Cert.FirstKernelIdeal.main_arg6)
          ∧ r.2.mem ((c.tc : Thread Cert.FirstKernelIdeal.nD Cert.FirstKernelIdeal.τ).loc Cert.FirstKernelIdeal.main_arg7) = m ((c.tc : Thread Cert.FirstKernelIdeal.nD Cert.FirstKernelIdeal.τ).loc Cert.FirstKernelIdeal.main_arg7)
          ∧ r.2.mem ((c.tc : Thread Cert.FirstKernelIdeal.nD Cert.FirstKernelIdeal.τ).loc Cert.FirstKernelIdeal.main_arg8) = m ((c.tc : Thread Cert.FirstKernelIdeal.nD Cert.FirstKernelIdeal.τ).loc Cert.FirstKernelIdeal.main_arg8)
          ∧ r.2.mem ((c.tc : Thread Cert.FirstKernelIdeal.nD Cert.FirstKernelIdeal.τ).loc Cert.FirstKernelIdeal.main_arg9) = m ((c.tc : Thread Cert.FirstKernelIdeal.nD Cert.FirstKernelIdeal.τ).loc Cert.FirstKernelIdeal.main_arg9)
          ∧ r.2.mem ((c.tc : Thread Cert.FirstKernelIdeal.nD Cert.FirstKernelIdeal.τ).loc Cert.FirstKernelIdeal.main_arg10) = m ((c.tc : Thread Cert.FirstKernelIdeal.nD Cert.FirstKernelIdeal.τ).loc Cert.FirstKernelIdeal.main_arg10)
          ∧ r.2.mem ((c.tc : Thread Cert.FirstKernelIdeal.nD Cert.FirstKernelIdeal.τ).loc Cert.FirstKernelIdeal.main_arg11) = m ((c.tc : Thread Cert.FirstKernelIdeal.nD Cert.FirstKernelIdeal.τ).loc Cert.FirstKernelIdeal.main_arg11))
      ∧ θ_run (Cert.FirstReferenceIdeal.defs (F := Ideal)) (onTc (τ := Cert.FirstReferenceIdeal.τ) (Cert.FirstReferenceIdeal.main (F := Ideal))) ⟨m', fun _ => 0, g'⟩ (fun r => ∀ c : Dev Cert.FirstReferenceIdeal.nD,
          r.2.mem ((c.tc : Thread Cert.FirstReferenceIdeal.nD Cert.FirstReferenceIdeal.τ).loc Cert.FirstReferenceIdeal.main_v96) = v0 c
          ∧ r.2.mem ((c.tc : Thread Cert.FirstReferenceIdeal.nD Cert.FirstReferenceIdeal.τ).loc Cert.FirstReferenceIdeal.main_v152) = v1 c
          ∧ r.2.mem ((c.tc : Thread Cert.FirstReferenceIdeal.nD Cert.FirstReferenceIdeal.τ).loc Cert.FirstReferenceIdeal.main_v155) = v2 c
          ∧ r.2.mem ((c.tc : Thread Cert.FirstReferenceIdeal.nD Cert.FirstReferenceIdeal.τ).loc Cert.FirstReferenceIdeal.main_arg0) = m' ((c.tc : Thread Cert.FirstReferenceIdeal.nD Cert.FirstReferenceIdeal.τ).loc Cert.FirstReferenceIdeal.main_arg0)
          ∧ r.2.mem ((c.tc : Thread Cert.FirstReferenceIdeal.nD Cert.FirstReferenceIdeal.τ).loc Cert.FirstReferenceIdeal.main_arg1) = m' ((c.tc : Thread Cert.FirstReferenceIdeal.nD Cert.FirstReferenceIdeal.τ).loc Cert.FirstReferenceIdeal.main_arg1)
          ∧ r.2.mem ((c.tc : Thread Cert.FirstReferenceIdeal.nD Cert.FirstReferenceIdeal.τ).loc Cert.FirstReferenceIdeal.main_arg2) = m' ((c.tc : Thread Cert.FirstReferenceIdeal.nD Cert.FirstReferenceIdeal.τ).loc Cert.FirstReferenceIdeal.main_arg2)
          ∧ r.2.mem ((c.tc : Thread Cert.FirstReferenceIdeal.nD Cert.FirstReferenceIdeal.τ).loc Cert.FirstReferenceIdeal.main_arg3) = m' ((c.tc : Thread Cert.FirstReferenceIdeal.nD Cert.FirstReferenceIdeal.τ).loc Cert.FirstReferenceIdeal.main_arg3)
          ∧ r.2.mem ((c.tc : Thread Cert.FirstReferenceIdeal.nD Cert.FirstReferenceIdeal.τ).loc Cert.FirstReferenceIdeal.main_arg4) = m' ((c.tc : Thread Cert.FirstReferenceIdeal.nD Cert.FirstReferenceIdeal.τ).loc Cert.FirstReferenceIdeal.main_arg4)
          ∧ r.2.mem ((c.tc : Thread Cert.FirstReferenceIdeal.nD Cert.FirstReferenceIdeal.τ).loc Cert.FirstReferenceIdeal.main_arg5) = m' ((c.tc : Thread Cert.FirstReferenceIdeal.nD Cert.FirstReferenceIdeal.τ).loc Cert.FirstReferenceIdeal.main_arg5)
          ∧ r.2.mem ((c.tc : Thread Cert.FirstReferenceIdeal.nD Cert.FirstReferenceIdeal.τ).loc Cert.FirstReferenceIdeal.main_arg6) = m' ((c.tc : Thread Cert.FirstReferenceIdeal.nD Cert.FirstReferenceIdeal.τ).loc Cert.FirstReferenceIdeal.main_arg6)
          ∧ r.2.mem ((c.tc : Thread Cert.FirstReferenceIdeal.nD Cert.FirstReferenceIdeal.τ).loc Cert.FirstReferenceIdeal.main_arg7) = m' ((c.tc : Thread Cert.FirstReferenceIdeal.nD Cert.FirstReferenceIdeal.τ).loc Cert.FirstReferenceIdeal.main_arg7)
          ∧ r.2.mem ((c.tc : Thread Cert.FirstReferenceIdeal.nD Cert.FirstReferenceIdeal.τ).loc Cert.FirstReferenceIdeal.main_arg8) = m' ((c.tc : Thread Cert.FirstReferenceIdeal.nD Cert.FirstReferenceIdeal.τ).loc Cert.FirstReferenceIdeal.main_arg8)
          ∧ r.2.mem ((c.tc : Thread Cert.FirstReferenceIdeal.nD Cert.FirstReferenceIdeal.τ).loc Cert.FirstReferenceIdeal.main_arg9) = m' ((c.tc : Thread Cert.FirstReferenceIdeal.nD Cert.FirstReferenceIdeal.τ).loc Cert.FirstReferenceIdeal.main_arg9)
          ∧ r.2.mem ((c.tc : Thread Cert.FirstReferenceIdeal.nD Cert.FirstReferenceIdeal.τ).loc Cert.FirstReferenceIdeal.main_arg10) = m' ((c.tc : Thread Cert.FirstReferenceIdeal.nD Cert.FirstReferenceIdeal.τ).loc Cert.FirstReferenceIdeal.main_arg10)
          ∧ r.2.mem ((c.tc : Thread Cert.FirstReferenceIdeal.nD Cert.FirstReferenceIdeal.τ).loc Cert.FirstReferenceIdeal.main_arg11) = m' ((c.tc : Thread Cert.FirstReferenceIdeal.nD Cert.FirstReferenceIdeal.τ).loc Cert.FirstReferenceIdeal.main_arg11))

def preserves_PreKernel_PreKernelIdeal : Prop :=
  True

def algebraic_PreKernelIdeal_PreReferenceIdeal [hPreKernelIdeal : Cert.PreKernelIdeal.Facts] [hPreReferenceIdeal : Cert.PreReferenceIdeal.Facts] : Prop :=
  ∀ (m : (ℓ : Loc Cert.PreKernelIdeal.nD Cert.PreKernelIdeal.τ Cert.PreKernelIdeal.sig) → Buf (Elt Ideal) ℓ) (g : Dev Cert.PreKernelIdeal.nD → PrngReg)
    (m' : (ℓ : Loc Cert.PreReferenceIdeal.nD Cert.PreReferenceIdeal.τ Cert.PreReferenceIdeal.sig) → Buf (Elt Ideal) ℓ) (g' : Dev Cert.PreReferenceIdeal.nD → PrngReg), Pre_PreKernelIdeal m →
    (∀ c : Dev Cert.PreKernelIdeal.nD,
      m' ((c.tc : Thread Cert.PreReferenceIdeal.nD Cert.PreReferenceIdeal.τ).loc Cert.PreReferenceIdeal.main_arg0) = m ((c.tc : Thread Cert.PreKernelIdeal.nD Cert.PreKernelIdeal.τ).loc Cert.PreKernelIdeal.main_arg0)
      ∧ m' ((c.tc : Thread Cert.PreReferenceIdeal.nD Cert.PreReferenceIdeal.τ).loc Cert.PreReferenceIdeal.main_arg1) = m ((c.tc : Thread Cert.PreKernelIdeal.nD Cert.PreKernelIdeal.τ).loc Cert.PreKernelIdeal.main_arg1)
      ∧ m' ((c.tc : Thread Cert.PreReferenceIdeal.nD Cert.PreReferenceIdeal.τ).loc Cert.PreReferenceIdeal.main_arg2) = m ((c.tc : Thread Cert.PreKernelIdeal.nD Cert.PreKernelIdeal.τ).loc Cert.PreKernelIdeal.main_arg2)
      ∧ m' ((c.tc : Thread Cert.PreReferenceIdeal.nD Cert.PreReferenceIdeal.τ).loc Cert.PreReferenceIdeal.main_arg3) = m ((c.tc : Thread Cert.PreKernelIdeal.nD Cert.PreKernelIdeal.τ).loc Cert.PreKernelIdeal.main_arg3)
      ∧ m' ((c.tc : Thread Cert.PreReferenceIdeal.nD Cert.PreReferenceIdeal.τ).loc Cert.PreReferenceIdeal.main_arg4) = m ((c.tc : Thread Cert.PreKernelIdeal.nD Cert.PreKernelIdeal.τ).loc Cert.PreKernelIdeal.main_arg4)) →
    ∃ (v0 : (c : Dev Cert.PreKernelIdeal.nD) → Buf (Elt Ideal) ((c.tc : Thread Cert.PreKernelIdeal.nD Cert.PreKernelIdeal.τ).loc Cert.PreKernelIdeal.main_v4)),
      θ_run (Cert.PreKernelIdeal.defs (F := Ideal)) (onTc (τ := Cert.PreKernelIdeal.τ) (Cert.PreKernelIdeal.main (F := Ideal))) ⟨m, fun _ => 0, g⟩ (fun r => ∀ c : Dev Cert.PreKernelIdeal.nD,
          r.2.mem ((c.tc : Thread Cert.PreKernelIdeal.nD Cert.PreKernelIdeal.τ).loc Cert.PreKernelIdeal.main_v4) = v0 c
          ∧ r.2.mem ((c.tc : Thread Cert.PreKernelIdeal.nD Cert.PreKernelIdeal.τ).loc Cert.PreKernelIdeal.main_arg0) = m ((c.tc : Thread Cert.PreKernelIdeal.nD Cert.PreKernelIdeal.τ).loc Cert.PreKernelIdeal.main_arg0)
          ∧ r.2.mem ((c.tc : Thread Cert.PreKernelIdeal.nD Cert.PreKernelIdeal.τ).loc Cert.PreKernelIdeal.main_arg1) = m ((c.tc : Thread Cert.PreKernelIdeal.nD Cert.PreKernelIdeal.τ).loc Cert.PreKernelIdeal.main_arg1)
          ∧ r.2.mem ((c.tc : Thread Cert.PreKernelIdeal.nD Cert.PreKernelIdeal.τ).loc Cert.PreKernelIdeal.main_arg2) = m ((c.tc : Thread Cert.PreKernelIdeal.nD Cert.PreKernelIdeal.τ).loc Cert.PreKernelIdeal.main_arg2)
          ∧ r.2.mem ((c.tc : Thread Cert.PreKernelIdeal.nD Cert.PreKernelIdeal.τ).loc Cert.PreKernelIdeal.main_arg3) = m ((c.tc : Thread Cert.PreKernelIdeal.nD Cert.PreKernelIdeal.τ).loc Cert.PreKernelIdeal.main_arg3)
          ∧ r.2.mem ((c.tc : Thread Cert.PreKernelIdeal.nD Cert.PreKernelIdeal.τ).loc Cert.PreKernelIdeal.main_arg4) = m ((c.tc : Thread Cert.PreKernelIdeal.nD Cert.PreKernelIdeal.τ).loc Cert.PreKernelIdeal.main_arg4))
      ∧ θ_run (Cert.PreReferenceIdeal.defs (F := Ideal)) (onTc (τ := Cert.PreReferenceIdeal.τ) (Cert.PreReferenceIdeal.main (F := Ideal))) ⟨m', fun _ => 0, g'⟩ (fun r => ∀ c : Dev Cert.PreReferenceIdeal.nD,
          r.2.mem ((c.tc : Thread Cert.PreReferenceIdeal.nD Cert.PreReferenceIdeal.τ).loc Cert.PreReferenceIdeal.main_v35) = v0 c
          ∧ r.2.mem ((c.tc : Thread Cert.PreReferenceIdeal.nD Cert.PreReferenceIdeal.τ).loc Cert.PreReferenceIdeal.main_arg0) = m' ((c.tc : Thread Cert.PreReferenceIdeal.nD Cert.PreReferenceIdeal.τ).loc Cert.PreReferenceIdeal.main_arg0)
          ∧ r.2.mem ((c.tc : Thread Cert.PreReferenceIdeal.nD Cert.PreReferenceIdeal.τ).loc Cert.PreReferenceIdeal.main_arg1) = m' ((c.tc : Thread Cert.PreReferenceIdeal.nD Cert.PreReferenceIdeal.τ).loc Cert.PreReferenceIdeal.main_arg1)
          ∧ r.2.mem ((c.tc : Thread Cert.PreReferenceIdeal.nD Cert.PreReferenceIdeal.τ).loc Cert.PreReferenceIdeal.main_arg2) = m' ((c.tc : Thread Cert.PreReferenceIdeal.nD Cert.PreReferenceIdeal.τ).loc Cert.PreReferenceIdeal.main_arg2)
          ∧ r.2.mem ((c.tc : Thread Cert.PreReferenceIdeal.nD Cert.PreReferenceIdeal.τ).loc Cert.PreReferenceIdeal.main_arg3) = m' ((c.tc : Thread Cert.PreReferenceIdeal.nD Cert.PreReferenceIdeal.τ).loc Cert.PreReferenceIdeal.main_arg3)
          ∧ r.2.mem ((c.tc : Thread Cert.PreReferenceIdeal.nD Cert.PreReferenceIdeal.τ).loc Cert.PreReferenceIdeal.main_arg4) = m' ((c.tc : Thread Cert.PreReferenceIdeal.nD Cert.PreReferenceIdeal.τ).loc Cert.PreReferenceIdeal.main_arg4))

def Claim : Prop :=
  ∃ (hKernel : Cert.Kernel.Facts) (hKernelIdeal : Cert.KernelIdeal.Facts) (hReferenceIdeal : Cert.ReferenceIdeal.Facts) (hFirstKernel : Cert.FirstKernel.Facts) (hFirstKernelIdeal : Cert.FirstKernelIdeal.Facts) (hFirstReferenceIdeal : Cert.FirstReferenceIdeal.Facts) (hPreKernel : Cert.PreKernel.Facts) (hPreKernelIdeal : Cert.PreKernelIdeal.Facts) (hPreReferenceIdeal : Cert.PreReferenceIdeal.Facts) (hPre_indices_in_range : Cert.Pre_indices_in_range.Facts) (hPre_first_indices_in_range : Cert.Pre_first_indices_in_range.Facts),
    quiescent_Kernel (hKernel := hKernel)
    ∧ quiescent_KernelIdeal (hKernelIdeal := hKernelIdeal)
    ∧ quiescent_KernelIdeal_pre_indices_in_range (hKernelIdeal := hKernelIdeal) (hPre_indices_in_range := hPre_indices_in_range)
    ∧ quiescent_ReferenceIdeal (hReferenceIdeal := hReferenceIdeal)
    ∧ quiescent_ReferenceIdeal_pre_indices_in_range (hReferenceIdeal := hReferenceIdeal) (hPre_indices_in_range := hPre_indices_in_range)
    ∧ quiescent_FirstKernel (hFirstKernel := hFirstKernel)
    ∧ quiescent_FirstKernelIdeal (hFirstKernelIdeal := hFirstKernelIdeal)
    ∧ quiescent_FirstKernelIdeal_pre_first_indices_in_range (hFirstKernelIdeal := hFirstKernelIdeal) (hPre_first_indices_in_range := hPre_first_indices_in_range)
    ∧ quiescent_FirstReferenceIdeal (hFirstReferenceIdeal := hFirstReferenceIdeal)
    ∧ quiescent_FirstReferenceIdeal_pre_first_indices_in_range (hFirstReferenceIdeal := hFirstReferenceIdeal) (hPre_first_indices_in_range := hPre_first_indices_in_range)
    ∧ quiescent_PreKernel (hPreKernel := hPreKernel)
    ∧ quiescent_PreKernelIdeal (hPreKernelIdeal := hPreKernelIdeal)
    ∧ quiescent_PreReferenceIdeal (hPreReferenceIdeal := hPreReferenceIdeal)
    ∧ preserves_Kernel_KernelIdeal
    ∧ algebraic_KernelIdeal_ReferenceIdeal_pre_indices_in_range (hKernelIdeal := hKernelIdeal) (hReferenceIdeal := hReferenceIdeal) (hPre_indices_in_range := hPre_indices_in_range)
    ∧ preserves_FirstKernel_FirstKernelIdeal
    ∧ algebraic_FirstKernelIdeal_FirstReferenceIdeal_pre_first_indices_in_range (hFirstKernelIdeal := hFirstKernelIdeal) (hFirstReferenceIdeal := hFirstReferenceIdeal) (hPre_first_indices_in_range := hPre_first_indices_in_range)
    ∧ preserves_PreKernel_PreKernelIdeal
    ∧ algebraic_PreKernelIdeal_PreReferenceIdeal (hPreKernelIdeal := hPreKernelIdeal) (hPreReferenceIdeal := hPreReferenceIdeal)
-- ==== Pre_first_indices_in_range.lean ====
abbrev S2x262144 : Shape := ⟨2, ![2, 262144]⟩
abbrev S262144 : Shape := ⟨1, ![262144]⟩
abbrev S262144x3 : Shape := ⟨2, ![262144, 3]⟩
abbrev S262144x16 : Shape := ⟨2, ![262144, 16]⟩
abbrev S512x128 : Shape := ⟨2, ![512, 128]⟩
abbrev S146x113 : Shape := ⟨2, ![146, 113]⟩
abbrev S113 : Shape := ⟨1, ![113]⟩
abbrev S64x64 : Shape := ⟨2, ![64, 64]⟩
abbrev S64 : Shape := ⟨1, ![64]⟩
abbrev S512 : Shape := ⟨1, ![512]⟩
abbrev S_ : Shape := ⟨0, ![]⟩

class Facts : Prop where
  bcast_S_S2x262144 : S_.BroadcastsInDim S2x262144 (![] : Fin 0 → Fin S2x262144.rank)
  bcast_S_S512 : S_.BroadcastsInDim S512 (![] : Fin 0 → Fin S512.rank)

variable [Facts]

def fn {F : FTy → Type} [FloatOps F] (main_arg0 : IVec S2x262144 32) (main_arg1 : FVec F S262144 .f32) (main_arg2 : FVec F S262144 .f32) (main_arg3 : FVec F S262144x3 .f32) (main_arg4 : FVec F S262144x16 .f32) (main_arg5 : FVec F S512x128 .f32) (main_arg6 : FVec F S146x113 .f32) (main_arg7 : FVec F S113 .f32) (main_arg8 : FVec F S64x64 .f32) (main_arg9 : FVec F S64 .f32) (main_arg10 : FVec F S64 .f32) (main_arg11 : IVec S512 32) : IVec S2x262144 1 × IVec S512 1 :=
  let main_c : IVec S_ 32 := constantI S_ 32 0#32
  let main_v0 : IVec S2x262144 32 := broadcastInDim S2x262144 ![] bcast_S_S2x262144 main_c
  let main_v1 : IVec S2x262144 1 := cmpi .sge main_arg0 main_v0
  let main_c_0 : IVec S_ 32 := constantI S_ 32 512#32
  let main_v2 : IVec S2x262144 32 := broadcastInDim S2x262144 ![] bcast_S_S2x262144 main_c_0
  let main_v3 : IVec S2x262144 1 := cmpi .slt main_arg0 main_v2
  let main_v4 : IVec S2x262144 1 := andi main_v1 main_v3
  let main_c_1 : IVec S_ 32 := constantI S_ 32 0#32
  let main_v5 : IVec S512 32 := broadcastInDim S512 ![] bcast_S_S512 main_c_1
  let main_v6 : IVec S512 1 := cmpi .sge main_arg11 main_v5
  let main_c_2 : IVec S_ 32 := constantI S_ 32 16#32
  let main_v7 : IVec S512 32 := broadcastInDim S512 ![] bcast_S_S512 main_c_2
  let main_v8 : IVec S512 1 := cmpi .slt main_arg11 main_v7
  let main_v9 : IVec S512 1 := andi main_v6 main_v8
  (main_v4, main_v9)
-- ==== Pre_indices_in_range.lean ====
abbrev S2x262144 : Shape := ⟨2, ![2, 262144]⟩
abbrev S262144x16 : Shape := ⟨2, ![262144, 16]⟩
abbrev S262144x8 : Shape := ⟨2, ![262144, 8]⟩
abbrev S512x128 : Shape := ⟨2, ![512, 128]⟩
abbrev S146x113 : Shape := ⟨2, ![146, 113]⟩
abbrev S113 : Shape := ⟨1, ![113]⟩
abbrev S64x64 : Shape := ⟨2, ![64, 64]⟩
abbrev S64 : Shape := ⟨1, ![64]⟩
abbrev S512 : Shape := ⟨1, ![512]⟩
abbrev S_ : Shape := ⟨0, ![]⟩

class Facts : Prop where
  bcast_S_S2x262144 : S_.BroadcastsInDim S2x262144 (![] : Fin 0 → Fin S2x262144.rank)
  bcast_S_S512 : S_.BroadcastsInDim S512 (![] : Fin 0 → Fin S512.rank)

variable [Facts]

def fn {F : FTy → Type} [FloatOps F] (main_arg0 : IVec S2x262144 32) (main_arg1 : FVec F S262144x16 .f32) (main_arg2 : FVec F S262144x8 .f32) (main_arg3 : FVec F S512x128 .f32) (main_arg4 : FVec F S146x113 .f32) (main_arg5 : FVec F S113 .f32) (main_arg6 : FVec F S64x64 .f32) (main_arg7 : FVec F S64 .f32) (main_arg8 : FVec F S64 .f32) (main_arg9 : IVec S512 32) : IVec S2x262144 1 × IVec S512 1 :=
  let main_c : IVec S_ 32 := constantI S_ 32 0#32
  let main_v0 : IVec S2x262144 32 := broadcastInDim S2x262144 ![] bcast_S_S2x262144 main_c
  let main_v1 : IVec S2x262144 1 := cmpi .sge main_arg0 main_v0
  let main_c_0 : IVec S_ 32 := constantI S_ 32 512#32
  let main_v2 : IVec S2x262144 32 := broadcastInDim S2x262144 ![] bcast_S_S2x262144 main_c_0
  let main_v3 : IVec S2x262144 1 := cmpi .slt main_arg0 main_v2
  let main_v4 : IVec S2x262144 1 := andi main_v1 main_v3
  let main_c_1 : IVec S_ 32 := constantI S_ 32 0#32
  let main_v5 : IVec S512 32 := broadcastInDim S512 ![] bcast_S_S512 main_c_1
  let main_v6 : IVec S512 1 := cmpi .sge main_arg9 main_v5
  let main_c_2 : IVec S_ 32 := constantI S_ 32 16#32
  let main_v7 : IVec S512 32 := broadcastInDim S512 ![] bcast_S_S512 main_c_2
  let main_v8 : IVec S512 1 := cmpi .slt main_arg9 main_v7
  let main_v9 : IVec S512 1 := andi main_v6 main_v8
  (main_v4, main_v9)
-- ==== Kernel.lean ====
abbrev S2x262144 : Shape := ⟨2, ![2, 262144]⟩
abbrev S262144x16 : Shape := ⟨2, ![262144, 16]⟩
abbrev S262144x8 : Shape := ⟨2, ![262144, 8]⟩
abbrev S512x128 : Shape := ⟨2, ![512, 128]⟩
abbrev S146x113 : Shape := ⟨2, ![146, 113]⟩
abbrev S113 : Shape := ⟨1, ![113]⟩
abbrev S64x64 : Shape := ⟨2, ![64, 64]⟩
abbrev S64 : Shape := ⟨1, ![64]⟩
abbrev S512 : Shape := ⟨1, ![512]⟩
abbrev S1x262144 : Shape := ⟨2, ![1, 262144]⟩
abbrev S262144 : Shape := ⟨1, ![262144]⟩
abbrev S256x1024x1 : Shape := ⟨3, ![256, 1024, 1]⟩
abbrev S256x1x1024 : Shape := ⟨3, ![256, 1, 1024]⟩
abbrev S512x1 : Shape := ⟨2, ![512, 1]⟩
abbrev S64x113 : Shape := ⟨2, ![64, 113]⟩
abbrev S_ : Shape := ⟨0, ![]⟩
abbrev S64x128 : Shape := ⟨2, ![64, 128]⟩
abbrev S16x113 : Shape := ⟨2, ![16, 113]⟩
abbrev S16x128 : Shape := ⟨2, ![16, 128]⟩
abbrev S1x113 : Shape := ⟨2, ![1, 113]⟩
abbrev S3x113 : Shape := ⟨2, ![3, 113]⟩
abbrev S8x128 : Shape := ⟨2, ![8, 128]⟩
abbrev S1x64 : Shape := ⟨2, ![1, 64]⟩
abbrev S2x64 : Shape := ⟨2, ![2, 64]⟩
abbrev S1x1024x1 : Shape := ⟨3, ![1, 1024, 1]⟩
abbrev S1x1x1024 : Shape := ⟨3, ![1, 1, 1024]⟩
abbrev S1024x16 : Shape := ⟨2, ![1024, 16]⟩
abbrev S1024x8 : Shape := ⟨2, ![1024, 8]⟩
abbrev S1024x1 : Shape := ⟨2, ![1024, 1]⟩
abbrev S1x1024 : Shape := ⟨2, ![1, 1024]⟩
abbrev S1024x512 : Shape := ⟨2, ![1024, 512]⟩
abbrev S512x1024 : Shape := ⟨2, ![512, 1024]⟩
abbrev S1024x128 : Shape := ⟨2, ![1024, 128]⟩
abbrev S1024x3 : Shape := ⟨2, ![1024, 3]⟩
abbrev S1024 : Shape := ⟨1, ![1024]⟩
abbrev S1024x64 : Shape := ⟨2, ![1024, 64]⟩
abbrev S1x128 : Shape := ⟨2, ![1, 128]⟩
abbrev S1024x48 : Shape := ⟨2, ![1024, 48]⟩
abbrev S1024x12 : Shape := ⟨2, ![1024, 12]⟩
abbrev S512x64 : Shape := ⟨2, ![512, 64]⟩
abbrev S512x48 : Shape := ⟨2, ![512, 48]⟩
abbrev S512x3 : Shape := ⟨2, ![512, 3]⟩
abbrev S512x4 : Shape := ⟨2, ![512, 4]⟩
abbrev S128x4 : Shape := ⟨2, ![128, 4]⟩
abbrev S128x1 : Shape := ⟨2, ![128, 1]⟩
abbrev S128x3 : Shape := ⟨2, ![128, 3]⟩
abbrev S512x13 : Shape := ⟨2, ![512, 13]⟩
abbrev S512x10 : Shape := ⟨2, ![512, 10]⟩

abbrev nBuf : Space → Nat
  | .hbm => 50
  | .vmem => 23
  | .smem => 0
  | _ => 0

abbrev bufTy : (tb : Table) → Fin (tcTables nBuf tb) → BufTy
  | .hbm, ⟨0, _⟩ => ⟨S2x262144, .i32⟩
  | .hbm, ⟨1, _⟩ => ⟨S262144x16, .f32⟩
  | .hbm, ⟨2, _⟩ => ⟨S262144x8, .f32⟩
  | .hbm, ⟨3, _⟩ => ⟨S512x128, .f32⟩
  | .hbm, ⟨4, _⟩ => ⟨S146x113, .f32⟩
  | .hbm, ⟨5, _⟩ => ⟨S113, .f32⟩
  | .hbm, ⟨6, _⟩ => ⟨S64x64, .f32⟩
  | .hbm, ⟨7, _⟩ => ⟨S64, .f32⟩
  | .hbm, ⟨8, _⟩ => ⟨S64, .f32⟩
  | .hbm, ⟨9, _⟩ => ⟨S512, .i32⟩
  | .hbm, ⟨10, _⟩ => ⟨S1x262144, .i32⟩
  | .hbm, ⟨11, _⟩ => ⟨S262144, .i32⟩
  | .hbm, ⟨12, _⟩ => ⟨S1x262144, .i32⟩
  | .hbm, ⟨13, _⟩ => ⟨S262144, .i32⟩
  | .hbm, ⟨14, _⟩ => ⟨S256x1024x1, .i32⟩
  | .hbm, ⟨15, _⟩ => ⟨S256x1024x1, .i32⟩
  | .hbm, ⟨16, _⟩ => ⟨S256x1x1024, .i32⟩
  | .hbm, ⟨17, _⟩ => ⟨S512x1, .i32⟩
  | .hbm, ⟨18, _⟩ => ⟨S64x113, .f32⟩
  | .hbm, ⟨19, _⟩ => ⟨S_, .i32⟩
  | .hbm, ⟨20, _⟩ => ⟨S_, .f32⟩
  | .hbm, ⟨21, _⟩ => ⟨S64x128, .f32⟩
  | .hbm, ⟨22, _⟩ => ⟨S64x113, .f32⟩
  | .hbm, ⟨23, _⟩ => ⟨S_, .i32⟩
  | .hbm, ⟨24, _⟩ => ⟨S_, .f32⟩
  | .hbm, ⟨25, _⟩ => ⟨S64x128, .f32⟩
  | .hbm, ⟨26, _⟩ => ⟨S16x113, .f32⟩
  | .hbm, ⟨27, _⟩ => ⟨S_, .i32⟩
  | .hbm, ⟨28, _⟩ => ⟨S_, .f32⟩
  | .hbm, ⟨29, _⟩ => ⟨S16x128, .f32⟩
  | .hbm, ⟨30, _⟩ => ⟨S1x113, .f32⟩
  | .hbm, ⟨31, _⟩ => ⟨S113, .f32⟩
  | .hbm, ⟨32, _⟩ => ⟨S1x113, .f32⟩
  | .hbm, ⟨33, _⟩ => ⟨S113, .f32⟩
  | .hbm, ⟨34, _⟩ => ⟨S1x113, .f32⟩
  | .hbm, ⟨35, _⟩ => ⟨S1x113, .f32⟩
  | .hbm, ⟨36, _⟩ => ⟨S1x113, .f32⟩
  | .hbm, ⟨37, _⟩ => ⟨S3x113, .f32⟩
  | .hbm, ⟨38, _⟩ => ⟨S_, .i32⟩
  | .hbm, ⟨39, _⟩ => ⟨S_, .f32⟩
  | .hbm, ⟨40, _⟩ => ⟨S8x128, .f32⟩
  | .hbm, ⟨41, _⟩ => ⟨S1x64, .f32⟩
  | .hbm, ⟨42, _⟩ => ⟨S1x64, .f32⟩
  | .hbm, ⟨43, _⟩ => ⟨S2x64, .f32⟩
  | .hbm, ⟨44, _⟩ => ⟨S_, .i32⟩
  | .hbm, ⟨45, _⟩ => ⟨S_, .f32⟩
  | .hbm, ⟨46, _⟩ => ⟨S8x128, .f32⟩
  | .hbm, ⟨47, _⟩ => ⟨S262144x16, .f32⟩
  | .hbm, ⟨48, _⟩ => ⟨S512x128, .f32⟩
  | .hbm, ⟨49, _⟩ => ⟨S512x128, .f32⟩
  | .local _ .vmem, ⟨0, _⟩ => ⟨S1x1024x1, .i32⟩
  | .local _ .vmem, ⟨1, _⟩ => ⟨S1x1024x1, .i32⟩
  | .local _ .vmem, ⟨2, _⟩ => ⟨S1x1024x1, .i32⟩
  | .local _ .vmem, ⟨3, _⟩ => ⟨S1x1024x1, .i32⟩
  | .local _ .vmem, ⟨4, _⟩ => ⟨S1x1x1024, .i32⟩
  | .local _ .vmem, ⟨5, _⟩ => ⟨S1x1x1024, .i32⟩
  | .local _ .vmem, ⟨6, _⟩ => ⟨S1024x16, .f32⟩
  | .local _ .vmem, ⟨7, _⟩ => ⟨S1024x16, .f32⟩
  | .local _ .vmem, ⟨8, _⟩ => ⟨S1024x8, .f32⟩
  | .local _ .vmem, ⟨9, _⟩ => ⟨S1024x8, .f32⟩
  | .local _ .vmem, ⟨10, _⟩ => ⟨S512x128, .f32⟩
  | .local _ .vmem, ⟨11, _⟩ => ⟨S64x128, .f32⟩
  | .local _ .vmem, ⟨12, _⟩ => ⟨S64x128, .f32⟩
  | .local _ .vmem, ⟨13, _⟩ => ⟨S16x128, .f32⟩
  | .local _ .vmem, ⟨14, _⟩ => ⟨S8x128, .f32⟩
  | .local _ .vmem, ⟨15, _⟩ => ⟨S64x64, .f32⟩
  | .local _ .vmem, ⟨16, _⟩ => ⟨S8x128, .f32⟩
  | .local _ .vmem, ⟨17, _⟩ => ⟨S512x1, .i32⟩
  | .local _ .vmem, ⟨18, _⟩ => ⟨S1024x16, .f32⟩
  | .local _ .vmem, ⟨19, _⟩ => ⟨S1024x16, .f32⟩
  | .local _ .vmem, ⟨20, _⟩ => ⟨S512x128, .f32⟩
  | .local _ .vmem, ⟨21, _⟩ => ⟨S512x128, .f32⟩
  | .local _ .vmem, ⟨22, _⟩ => ⟨S512x128, .f32⟩
  | _, _ => ⟨S2x262144, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_c : Ref sig .tc := ⟨.hbm, 19, rfl⟩
abbrev main_call0_v0 : Ref sig .tc := ⟨.hbm, 20, rfl⟩
abbrev main_v9 : Ref sig .tc := ⟨.hbm, 21, rfl⟩
abbrev main_v10 : Ref sig .tc := ⟨.hbm, 22, rfl⟩
abbrev main_c_0 : Ref sig .tc := ⟨.hbm, 23, rfl⟩
abbrev main_call1_v0 : Ref sig .tc := ⟨.hbm, 24, rfl⟩
abbrev main_v11 : Ref sig .tc := ⟨.hbm, 25, rfl⟩
abbrev main_v12 : Ref sig .tc := ⟨.hbm, 26, rfl⟩
abbrev main_c_1 : Ref sig .tc := ⟨.hbm, 27, rfl⟩
abbrev main_call2_v0 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_2 : Ref sig .tc := ⟨.hbm, 38, rfl⟩
abbrev main_call3_v0 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_c_3 : Ref sig .tc := ⟨.hbm, 44, rfl⟩
abbrev main_call4_v0 : Ref sig .tc := ⟨.hbm, 45, rfl⟩
abbrev main_v26 : Ref sig .tc := ⟨.hbm, 46, rfl⟩
abbrev main_v27_0 : Ref sig .tc := ⟨.hbm, 47, rfl⟩
abbrev main_v27_1 : Ref sig .tc := ⟨.hbm, 48, rfl⟩
abbrev main_v27_2 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg15_0 : Ref sig .tc := ⟨.vmem, 21, rfl⟩
abbrev cc0_scratch0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem13_1 : DmaSem sig := 19
abbrev cc0_sem14_0 : DmaSem sig := 20
abbrev cc0_sem15_0 : DmaSem sig := 21

abbrev nD : Nat := 1
abbrev τ : Topo := Topo.v7x

variable {F : FTy → Type} [FloatOps F]

abbrev grid0 : Pipeline.Grid := ⟨1, ![256], ![false]⟩

def k0_cond2 (i : grid0.Coords) : BitVec 1 :=
  let arg0 : BitVec 32 := BitVec.ofNat 32 (i 0).val
  let c255_i32 : BitVec 32 := 255#32
  let v120 : BitVec 1 := Scalar.cmpi .eq arg0 c255_i32
  let v121 : BitVec 32 := Scalar.extui v120
  let c0_i32_39 : BitVec 32 := 0#32
  let v122 : BitVec 1 := Scalar.cmpi .ne v121 c0_i32_39
  v122

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x1024x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x8 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S512x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S16x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S8x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S64x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S8x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S512x1 .i32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S1024x16 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S512x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S512x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]
-- ==== ReferenceIdeal.lean ====
abbrev S2x262144 : Shape := ⟨2, ![2, 262144]⟩
abbrev S262144x16 : Shape := ⟨2, ![262144, 16]⟩
abbrev S262144x8 : Shape := ⟨2, ![262144, 8]⟩
abbrev S512x128 : Shape := ⟨2, ![512, 128]⟩
abbrev S146x113 : Shape := ⟨2, ![146, 113]⟩
abbrev S113 : Shape := ⟨1, ![113]⟩
abbrev S64x64 : Shape := ⟨2, ![64, 64]⟩
abbrev S64 : Shape := ⟨1, ![64]⟩
abbrev S512 : Shape := ⟨1, ![512]⟩
abbrev S1x262144 : Shape := ⟨2, ![1, 262144]⟩
abbrev S262144 : Shape := ⟨1, ![262144]⟩
abbrev S512x64 : Shape := ⟨2, ![512, 64]⟩
abbrev S512x48 : Shape := ⟨2, ![512, 48]⟩
abbrev S512x3x16 : Shape := ⟨3, ![512, 3, 16]⟩
abbrev S512x3 : Shape := ⟨2, ![512, 3]⟩
abbrev S_ : Shape := ⟨0, ![]⟩
abbrev S262144x1 : Shape := ⟨2, ![262144, 1]⟩
abbrev S262144x3 : Shape := ⟨2, ![262144, 3]⟩
abbrev S262144x64 : Shape := ⟨2, ![262144, 64]⟩
abbrev S262144x146 : Shape := ⟨2, ![262144, 146]⟩
abbrev S262144x113 : Shape := ⟨2, ![262144, 113]⟩
abbrev S1x113 : Shape := ⟨2, ![1, 113]⟩
abbrev S262144x3x16 : Shape := ⟨3, ![262144, 3, 16]⟩
abbrev S262144x1x16 : Shape := ⟨3, ![262144, 1, 16]⟩
abbrev S262144x3x1 : Shape := ⟨3, ![262144, 3, 1]⟩
abbrev S512x1 : Shape := ⟨2, ![512, 1]⟩
abbrev S512x1x1 : Shape := ⟨3, ![512, 1, 1]⟩
abbrev S16x3 : Shape := ⟨2, ![16, 3]⟩
abbrev S16 : Shape := ⟨1, ![16]⟩
abbrev S16x1 : Shape := ⟨2, ![16, 1]⟩
abbrev S1x64 : Shape := ⟨2, ![1, 64]⟩
abbrev S512x16 : Shape := ⟨2, ![512, 16]⟩
abbrev S512x1x16 : Shape := ⟨3, ![512, 1, 16]⟩
abbrev S512x10 : Shape := ⟨2, ![512, 10]⟩
abbrev S512x13 : Shape := ⟨2, ![512, 13]⟩

abbrev nBuf : Space → Nat
  | .hbm => 293
  | .vmem => 0
  | .smem => 0
  | _ => 0

abbrev hbmTy0_0 (i : Nat) : BufTy := match i % 128 with
  | 0 => ⟨S2x262144, .i32⟩
  | 1 => ⟨S262144x16, .f32⟩
  | 2 => ⟨S262144x8, .f32⟩
  | 3 => ⟨S512x128, .f32⟩
  | 4 => ⟨S146x113, .f32⟩
  | 5 => ⟨S113, .f32⟩
  | 6 => ⟨S64x64, .f32⟩
  | 7 => ⟨S64, .f32⟩
  | 8 => ⟨S64, .f32⟩
  | 9 => ⟨S512, .i32⟩
  | 10 => ⟨S1x262144, .i32⟩
  | 11 => ⟨S262144, .i32⟩
  | 12 => ⟨S1x262144, .i32⟩
  | 13 => ⟨S262144, .i32⟩
  | 14 => ⟨S512x64, .f32⟩
  | 15 => ⟨S512x48, .f32⟩
  | 16 => ⟨S512x3x16, .f32⟩
  | 17 => ⟨S512x3, .f32⟩
  | 18 => ⟨S512x3, .f32⟩
  | 19 => ⟨S512x3, .f32⟩
  | 20 => ⟨S1x262144, .i32⟩
  | 21 => ⟨S262144, .i32⟩
  | 22 => ⟨S1x262144, .i32⟩
  | 23 => ⟨S262144, .i32⟩
  | 24 => ⟨S_, .i32⟩
  | 25 => ⟨S262144, .i32⟩
  | 26 => ⟨S262144, .i1⟩
  | 27 => ⟨S_, .i32⟩
  | 28 => ⟨S262144, .i32⟩
  | 29 => ⟨S262144, .i32⟩
  | 30 => ⟨S262144, .i32⟩
  | 31 => ⟨S262144x1, .i32⟩
  | 32 => ⟨S262144x3, .f32⟩
  | 33 => ⟨S_, .i32⟩
  | 34 => ⟨S262144, .i32⟩
  | 35 => ⟨S262144, .i1⟩
  | 36 => ⟨S_, .i32⟩
  | 37 => ⟨S262144, .i32⟩
  | 38 => ⟨S262144, .i32⟩
  | 39 => ⟨S262144, .i32⟩
  | 40 => ⟨S262144x1, .i32⟩
  | 41 => ⟨S262144x3, .f32⟩
  | 42 => ⟨S262144x3, .f32⟩
  | 43 => ⟨S_, .i32⟩
  | 44 => ⟨S262144, .i32⟩
  | 45 => ⟨S262144, .i1⟩
  | 46 => ⟨S_, .i32⟩
  | 47 => ⟨S262144, .i32⟩
  | 48 => ⟨S262144, .i32⟩
  | 49 => ⟨S262144, .i32⟩
  | 50 => ⟨S262144x1, .i32⟩
  | 51 => ⟨S262144x3, .f32⟩
  | 52 => ⟨S_, .i32⟩
  | 53 => ⟨S262144, .i32⟩
  | 54 => ⟨S262144, .i1⟩
  | 55 => ⟨S_, .i32⟩
  | 56 => ⟨S262144, .i32⟩
  | 57 => ⟨S262144, .i32⟩
  | 58 => ⟨S262144, .i32⟩
  | 59 => ⟨S262144x1, .i32⟩
  | 60 => ⟨S262144x3, .f32⟩
  | 61 => ⟨S262144x3, .f32⟩
  | 62 => ⟨S_, .f32⟩
  | 63 => ⟨S262144, .f32⟩
  | 64 => ⟨S262144x3, .f32⟩
  | 65 => ⟨S_, .f32⟩
  | 66 => ⟨S262144, .f32⟩
  | 67 => ⟨S_, .f32⟩
  | 68 => ⟨S_, .f32⟩
  | 69 => ⟨S262144, .f32⟩
  | 70 => ⟨S262144, .f32⟩
  | 71 => ⟨S262144, .f32⟩
  | 72 => ⟨S262144x1, .f32⟩
  | 73 => ⟨S262144x3, .f32⟩
  | 74 => ⟨S262144x3, .f32⟩
  | 75 => ⟨S_, .i32⟩
  | 76 => ⟨S262144, .i32⟩
  | 77 => ⟨S262144, .i1⟩
  | 78 => ⟨S_, .i32⟩
  | 79 => ⟨S262144, .i32⟩
  | 80 => ⟨S262144, .i32⟩
  | 81 => ⟨S262144, .i32⟩
  | 82 => ⟨S262144x1, .i32⟩
  | 83 => ⟨S262144x64, .f32⟩
  | 84 => ⟨S_, .i32⟩
  | 85 => ⟨S262144, .i32⟩
  | 86 => ⟨S262144, .i1⟩
  | 87 => ⟨S_, .i32⟩
  | 88 => ⟨S262144, .i32⟩
  | 89 => ⟨S262144, .i32⟩
  | 90 => ⟨S262144, .i32⟩
  | 91 => ⟨S262144x1, .i32⟩
  | 92 => ⟨S262144x64, .f32⟩
  | 93 => ⟨S262144x1, .f32⟩
  | 94 => ⟨S262144x1, .f32⟩
  | 95 => ⟨S262144x146, .f32⟩
  | 96 => ⟨S262144x113, .f32⟩
  | 97 => ⟨S1x113, .f32⟩
  | 98 => ⟨S262144x113, .f32⟩
  | 99 => ⟨S262144x113, .f32⟩
  | 100 => ⟨S262144x64, .f32⟩
  | 101 => ⟨S262144x64, .f32⟩
  | 102 => ⟨S262144x64, .f32⟩
  | 103 => ⟨S_, .f32⟩
  | 104 => ⟨S262144x64, .f32⟩
  | 105 => ⟨S262144x64, .f32⟩
  | 106 => ⟨S_, .f32⟩
  | 107 => ⟨S262144x64, .f32⟩
  | 108 => ⟨S262144x64, .f32⟩
  | 109 => ⟨S262144x64, .f32⟩
  | 110 => ⟨S262144x16, .f32⟩
  | 111 => ⟨S262144x16, .f32⟩
  | 112 => ⟨S262144x16, .f32⟩
  | 113 => ⟨S262144x1, .f32⟩
  | 114 => ⟨S_, .i32⟩
  | 115 => ⟨S262144, .i32⟩
  | 116 => ⟨S262144, .i1⟩
  | 117 => ⟨S_, .i32⟩
  | 118 => ⟨S262144, .i32⟩
  | 119 => ⟨S262144, .i32⟩
  | 120 => ⟨S262144, .i32⟩
  | 121 => ⟨S262144x1, .i32⟩
  | 122 => ⟨S262144x3x16, .f32⟩
  | 123 => ⟨S262144x1x16, .f32⟩
  | 124 => ⟨S262144x3x16, .f32⟩
  | 125 => ⟨S262144x3x16, .f32⟩
  | 126 => ⟨S262144x3x1, .f32⟩
  | 127 => ⟨S262144x1x16, .f32⟩
  | _ => ⟨S2x262144, .i32⟩

abbrev hbmTy0_1 (i : Nat) : BufTy := match i % 128 with
  | 0 => ⟨S262144x3x16, .f32⟩
  | 1 => ⟨S262144x3x16, .f32⟩
  | 2 => ⟨S262144x3x16, .f32⟩
  | 3 => ⟨S262144x3x16, .f32⟩
  | 4 => ⟨S_, .f32⟩
  | 5 => ⟨S512x64, .f32⟩
  | 6 => ⟨S262144x1, .i32⟩
  | 7 => ⟨S512x64, .f32⟩
  | 8 => ⟨S_, .f32⟩
  | 9 => ⟨S262144, .f32⟩
  | 10 => ⟨S_, .f32⟩
  | 11 => ⟨S512, .f32⟩
  | 12 => ⟨S262144x1, .i32⟩
  | 13 => ⟨S512, .f32⟩
  | 14 => ⟨S_, .f32⟩
  | 15 => ⟨S512, .f32⟩
  | 16 => ⟨S512, .f32⟩
  | 17 => ⟨S512x1, .f32⟩
  | 18 => ⟨S512x64, .f32⟩
  | 19 => ⟨S512x64, .f32⟩
  | 20 => ⟨S512x64, .f32⟩
  | 21 => ⟨S512x64, .f32⟩
  | 22 => ⟨S_, .f32⟩
  | 23 => ⟨S512x3x16, .f32⟩
  | 24 => ⟨S262144x1, .i32⟩
  | 25 => ⟨S512x3x16, .f32⟩
  | 26 => ⟨S_, .f32⟩
  | 27 => ⟨S262144, .f32⟩
  | 28 => ⟨S_, .f32⟩
  | 29 => ⟨S512, .f32⟩
  | 30 => ⟨S262144x1, .i32⟩
  | 31 => ⟨S512, .f32⟩
  | 32 => ⟨S_, .f32⟩
  | 33 => ⟨S512, .f32⟩
  | 34 => ⟨S512, .f32⟩
  | 35 => ⟨S512x1x1, .f32⟩
  | 36 => ⟨S512x3x16, .f32⟩
  | 37 => ⟨S512x3x16, .f32⟩
  | 38 => ⟨S512x3x16, .f32⟩
  | 39 => ⟨S262144x1, .f32⟩
  | 40 => ⟨S262144x3, .f32⟩
  | 41 => ⟨S262144x3, .f32⟩
  | 42 => ⟨S_, .f32⟩
  | 43 => ⟨S512x3, .f32⟩
  | 44 => ⟨S262144x1, .i32⟩
  | 45 => ⟨S512x3, .f32⟩
  | 46 => ⟨S_, .f32⟩
  | 47 => ⟨S262144, .f32⟩
  | 48 => ⟨S_, .f32⟩
  | 49 => ⟨S512, .f32⟩
  | 50 => ⟨S262144x1, .i32⟩
  | 51 => ⟨S512, .f32⟩
  | 52 => ⟨S_, .f32⟩
  | 53 => ⟨S512, .f32⟩
  | 54 => ⟨S512, .f32⟩
  | 55 => ⟨S512x1, .f32⟩
  | 56 => ⟨S512x3, .f32⟩
  | 57 => ⟨S512x3, .f32⟩
  | 58 => ⟨S512x3, .f32⟩
  | 59 => ⟨S262144x16, .f32⟩
  | 60 => ⟨S262144x16, .f32⟩
  | 61 => ⟨S_, .f32⟩
  | 62 => ⟨S262144x16, .f32⟩
  | 63 => ⟨S262144x16, .f32⟩
  | 64 => ⟨S_, .f32⟩
  | 65 => ⟨S262144x16, .f32⟩
  | 66 => ⟨S262144x16, .f32⟩
  | 67 => ⟨S262144x16, .f32⟩
  | 68 => ⟨S_, .f32⟩
  | 69 => ⟨S16x3, .f32⟩
  | 70 => ⟨S512x1, .i32⟩
  | 71 => ⟨S16x3, .f32⟩
  | 72 => ⟨S_, .f32⟩
  | 73 => ⟨S512, .f32⟩
  | 74 => ⟨S_, .f32⟩
  | 75 => ⟨S16, .f32⟩
  | 76 => ⟨S512x1, .i32⟩
  | 77 => ⟨S16, .f32⟩
  | 78 => ⟨S_, .f32⟩
  | 79 => ⟨S16, .f32⟩
  | 80 => ⟨S16, .f32⟩
  | 81 => ⟨S16x1, .f32⟩
  | 82 => ⟨S16x3, .f32⟩
  | 83 => ⟨S16x3, .f32⟩
  | 84 => ⟨S_, .i32⟩
  | 85 => ⟨S512, .i32⟩
  | 86 => ⟨S512, .i1⟩
  | 87 => ⟨S_, .i32⟩
  | 88 => ⟨S512, .i32⟩
  | 89 => ⟨S512, .i32⟩
  | 90 => ⟨S512, .i32⟩
  | 91 => ⟨S512x1, .i32⟩
  | 92 => ⟨S512x3, .f32⟩
  | 93 => ⟨S512x3, .f32⟩
  | 94 => ⟨S_, .f32⟩
  | 95 => ⟨S512, .f32⟩
  | 96 => ⟨S512x1, .f32⟩
  | 97 => ⟨S_, .f32⟩
  | 98 => ⟨S512x1, .f32⟩
  | 99 => ⟨S512x1, .f32⟩
  | 100 => ⟨S_, .i32⟩
  | 101 => ⟨S_, .f32⟩
  | 102 => ⟨S512, .f32⟩
  | 103 => ⟨S512x1, .f32⟩
  | 104 => ⟨S_, .f32⟩
  | 105 => ⟨S512x1, .f32⟩
  | 106 => ⟨S512x1, .f32⟩
  | 107 => ⟨S512x64, .f32⟩
  | 108 => ⟨S512x64, .f32⟩
  | 109 => ⟨S512x64, .f32⟩
  | 110 => ⟨S_, .f32⟩
  | 111 => ⟨S_, .f32⟩
  | 112 => ⟨S_, .f32⟩
  | 113 => ⟨S_, .f32⟩
  | 114 => ⟨S512, .f32⟩
  | 115 => ⟨S512x1, .f32⟩
  | 116 => ⟨S512x1, .f32⟩
  | 117 => ⟨S512x1, .f32⟩
  | 118 => ⟨S_, .f32⟩
  | 119 => ⟨S_, .i1⟩
  | 120 => ⟨S_, .f32⟩
  | 121 => ⟨S_, .f32⟩
  | 122 => ⟨S512x1, .f32⟩
  | 123 => ⟨S512x1, .f32⟩
  | 124 => ⟨S512x64, .f32⟩
  | 125 => ⟨S512x64, .f32⟩
  | 126 => ⟨S_, .f32⟩
  | 127 => ⟨S512x1, .f32⟩
  | _ => ⟨S2x262144, .i32⟩

abbrev hbmTy0_2 (i : Nat) : BufTy := match i % 128 with
  | 0 => ⟨S512x1, .f32⟩
  | 1 => ⟨S512x1, .f32⟩
  | 2 => ⟨S512x64, .f32⟩
  | 3 => ⟨S512x64, .f32⟩
  | 4 => ⟨S1x64, .f32⟩
  | 5 => ⟨S512x64, .f32⟩
  | 6 => ⟨S512x64, .f32⟩
  | 7 => ⟨S1x64, .f32⟩
  | 8 => ⟨S512x64, .f32⟩
  | 9 => ⟨S512x64, .f32⟩
  | 10 => ⟨S512x3x16, .f32⟩
  | 11 => ⟨S_, .f32⟩
  | 12 => ⟨S512x16, .f32⟩
  | 13 => ⟨S512x1x16, .f32⟩
  | 14 => ⟨S_, .f32⟩
  | 15 => ⟨S512x1, .f32⟩
  | 16 => ⟨S512x1x1, .f32⟩
  | 17 => ⟨S_, .f32⟩
  | 18 => ⟨S512x1x1, .f32⟩
  | 19 => ⟨S512x1x1, .f32⟩
  | 20 => ⟨S_, .f32⟩
  | 21 => ⟨S512x1x1, .f32⟩
  | 22 => ⟨S512x1x1, .f32⟩
  | 23 => ⟨S512x1x1, .f32⟩
  | 24 => ⟨S512x3x16, .f32⟩
  | 25 => ⟨S512x3x16, .f32⟩
  | 26 => ⟨S512x3, .bf16⟩
  | 27 => ⟨S512x3, .f32⟩
  | 28 => ⟨S512x48, .f32⟩
  | 29 => ⟨S512x3, .f32⟩
  | 30 => ⟨S_, .f32⟩
  | 31 => ⟨S512x10, .f32⟩
  | 32 => ⟨S512x128, .f32⟩
  | 33 => ⟨S512x48, .f32⟩
  | 34 => ⟨S_, .f32⟩
  | 35 => ⟨S512x13, .f32⟩
  | 36 => ⟨S512x128, .f32⟩
  | _ => ⟨S2x262144, .i32⟩

abbrev hbmTy (i : Nat) : BufTy := match i / 128 with
  | 0 => hbmTy0_0 i
  | 1 => hbmTy0_1 i
  | 2 => hbmTy0_2 i
  | _ => ⟨S2x262144, .i32⟩

abbrev bufTy : (tb : Table) → Fin (tcTables nBuf tb) → BufTy
  | .hbm, ⟨i, _⟩ => hbmTy i
  | _, _ => ⟨S2x262144, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_c : Ref sig .tc := ⟨.hbm, 24, rfl⟩
abbrev main_v14 : Ref sig .tc := ⟨.hbm, 25, rfl⟩
abbrev main_v15 : Ref sig .tc := ⟨.hbm, 26, rfl⟩
abbrev main_c_0 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_c_1 : Ref sig .tc := ⟨.hbm, 33, rfl⟩
abbrev main_v21 : Ref sig .tc := ⟨.hbm, 34, rfl⟩
abbrev main_v22 : Ref sig .tc := ⟨.hbm, 35, rfl⟩
abbrev main_c_2 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_c_3 : Ref sig .tc := ⟨.hbm, 43, rfl⟩
abbrev main_v29 : Ref sig .tc := ⟨.hbm, 44, rfl⟩
abbrev main_v30 : Ref sig .tc := ⟨.hbm, 45, rfl⟩
abbrev main_c_4 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_c_5 : Ref sig .tc := ⟨.hbm, 52, rfl⟩
abbrev main_v36 : Ref sig .tc := ⟨.hbm, 53, rfl⟩
abbrev main_v37 : Ref sig .tc := ⟨.hbm, 54, rfl⟩
abbrev main_c_6 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst : Ref sig .tc := ⟨.hbm, 62, rfl⟩
abbrev main_v44 : Ref sig .tc := ⟨.hbm, 63, rfl⟩
abbrev main_v45 : Ref sig .tc := ⟨.hbm, 64, rfl⟩
abbrev main_cst_7 : Ref sig .tc := ⟨.hbm, 65, rfl⟩
abbrev main_v46 : Ref sig .tc := ⟨.hbm, 66, rfl⟩
abbrev main_cst_8 : Ref sig .tc := ⟨.hbm, 67, rfl⟩
abbrev main_call0_v0 : Ref sig .tc := ⟨.hbm, 68, rfl⟩
abbrev main_call0_v1 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_c_9 : Ref sig .tc := ⟨.hbm, 75, rfl⟩
abbrev main_v52 : Ref sig .tc := ⟨.hbm, 76, rfl⟩
abbrev main_v53 : Ref sig .tc := ⟨.hbm, 77, rfl⟩
abbrev main_c_10 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_c_11 : Ref sig .tc := ⟨.hbm, 84, rfl⟩
abbrev main_v59 : Ref sig .tc := ⟨.hbm, 85, rfl⟩
abbrev main_v60 : Ref sig .tc := ⟨.hbm, 86, rfl⟩
abbrev main_c_12 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_call1_v0 : Ref sig .tc := ⟨.hbm, 101, rfl⟩
abbrev main_call1_v1 : Ref sig .tc := ⟨.hbm, 102, rfl⟩
abbrev main_call1_cst : Ref sig .tc := ⟨.hbm, 103, rfl⟩
abbrev main_call1_v2 : Ref sig .tc := ⟨.hbm, 104, rfl⟩
abbrev main_call1_v3 : Ref sig .tc := ⟨.hbm, 105, rfl⟩
abbrev main_call1_cst_0 : Ref sig .tc := ⟨.hbm, 106, rfl⟩
abbrev main_call1_v4 : Ref sig .tc := ⟨.hbm, 107, rfl⟩
abbrev main_call1_v5 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_c_13 : Ref sig .tc := ⟨.hbm, 114, rfl⟩
abbrev main_v79 : Ref sig .tc := ⟨.hbm, 115, rfl⟩
abbrev main_v80 : Ref sig .tc := ⟨.hbm, 116, rfl⟩
abbrev main_c_14 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_cst_15 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_cst_16 : Ref sig .tc := ⟨.hbm, 136, rfl⟩
abbrev main_v98 : Ref sig .tc := ⟨.hbm, 137, rfl⟩
abbrev main_cst_17 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩
abbrev main_cst_18 : Ref sig .tc := ⟨.hbm, 142, rfl⟩
abbrev main_v102 : Ref sig .tc := ⟨.hbm, 143, rfl⟩
abbrev main_v103 : Ref sig .tc := ⟨.hbm, 144, rfl⟩
abbrev main_v104 : Ref sig .tc := ⟨.hbm, 145, rfl⟩
abbrev main_v105 : Ref sig .tc := ⟨.hbm, 146, rfl⟩
abbrev main_v106 : Ref sig .tc := ⟨.hbm, 147, rfl⟩
abbrev main_v107 : Ref sig .tc := ⟨.hbm, 148, rfl⟩
abbrev main_v108 : Ref sig .tc := ⟨.hbm, 149, rfl⟩
abbrev main_cst_19 : Ref sig .tc := ⟨.hbm, 150, rfl⟩
abbrev main_v109 : Ref sig .tc := ⟨.hbm, 151, rfl⟩
abbrev main_v110 : Ref sig .tc := ⟨.hbm, 152, rfl⟩
abbrev main_v111 : Ref sig .tc := ⟨.hbm, 153, rfl⟩
abbrev main_cst_20 : Ref sig .tc := ⟨.hbm, 154, rfl⟩
abbrev main_v112 : Ref sig .tc := ⟨.hbm, 155, rfl⟩
abbrev main_cst_21 : Ref sig .tc := ⟨.hbm, 156, rfl⟩
abbrev main_v113 : Ref sig .tc := ⟨.hbm, 157, rfl⟩
abbrev main_v114 : Ref sig .tc := ⟨.hbm, 158, rfl⟩
abbrev main_v115 : Ref sig .tc := ⟨.hbm, 159, rfl⟩
abbrev main_cst_22 : Ref sig .tc := ⟨.hbm, 160, rfl⟩
abbrev main_v116 : Ref sig .tc := ⟨.hbm, 161, rfl⟩
abbrev main_v117 : Ref sig .tc := ⟨.hbm, 162, rfl⟩
abbrev main_v118 : Ref sig .tc := ⟨.hbm, 163, rfl⟩
abbrev main_v119 : Ref sig .tc := ⟨.hbm, 164, rfl⟩
abbrev main_v120 : Ref sig .tc := ⟨.hbm, 165, rfl⟩
abbrev main_v121 : Ref sig .tc := ⟨.hbm, 166, rfl⟩
abbrev main_v122 : Ref sig .tc := ⟨.hbm, 167, rfl⟩
abbrev main_v123 : Ref sig .tc := ⟨.hbm, 168, rfl⟩
abbrev main_v124 : Ref sig .tc := ⟨.hbm, 169, rfl⟩
abbrev main_cst_23 : Ref sig .tc := ⟨.hbm, 170, rfl⟩
abbrev main_v125 : Ref sig .tc := ⟨.hbm, 171, rfl⟩
abbrev main_v126 : Ref sig .tc := ⟨.hbm, 172, rfl⟩
abbrev main_v127 : Ref sig .tc := ⟨.hbm, 173, rfl⟩
abbrev main_cst_24 : Ref sig .tc := ⟨.hbm, 174, rfl⟩
abbrev main_v128 : Ref sig .tc := ⟨.hbm, 175, rfl⟩
abbrev main_cst_25 : Ref sig .tc := ⟨.hbm, 176, rfl⟩
abbrev main_v129 : Ref sig .tc := ⟨.hbm, 177, rfl⟩
abbrev main_v130 : Ref sig .tc := ⟨.hbm, 178, rfl⟩
abbrev main_v131 : Ref sig .tc := ⟨.hbm, 179, rfl⟩
abbrev main_cst_26 : Ref sig .tc := ⟨.hbm, 180, rfl⟩
abbrev main_v132 : Ref sig .tc := ⟨.hbm, 181, rfl⟩
abbrev main_v133 : Ref sig .tc := ⟨.hbm, 182, rfl⟩
abbrev main_v134 : Ref sig .tc := ⟨.hbm, 183, rfl⟩
abbrev main_v135 : Ref sig .tc := ⟨.hbm, 184, rfl⟩
abbrev main_v136 : Ref sig .tc := ⟨.hbm, 185, rfl⟩
abbrev main_v137 : Ref sig .tc := ⟨.hbm, 186, rfl⟩
abbrev main_call2_v0 : Ref sig .tc := ⟨.hbm, 187, rfl⟩
abbrev main_call2_v1 : Ref sig .tc := ⟨.hbm, 188, rfl⟩
abbrev main_call2_cst : Ref sig .tc := ⟨.hbm, 189, rfl⟩
abbrev main_call2_v2 : Ref sig .tc := ⟨.hbm, 190, rfl⟩
abbrev main_call2_v3 : Ref sig .tc := ⟨.hbm, 191, rfl⟩
abbrev main_call2_cst_0 : Ref sig .tc := ⟨.hbm, 192, rfl⟩
abbrev main_call2_v4 : Ref sig .tc := ⟨.hbm, 193, rfl⟩
abbrev main_call2_v5 : Ref sig .tc := ⟨.hbm, 194, rfl⟩
abbrev main_v138 : Ref sig .tc := ⟨.hbm, 195, rfl⟩
abbrev main_cst_27 : Ref sig .tc := ⟨.hbm, 196, rfl⟩
abbrev main_v139 : Ref sig .tc := ⟨.hbm, 197, rfl⟩
abbrev main_v140 : Ref sig .tc := ⟨.hbm, 198, rfl⟩
abbrev main_v141 : Ref sig .tc := ⟨.hbm, 199, rfl⟩
abbrev main_cst_28 : Ref sig .tc := ⟨.hbm, 200, rfl⟩
abbrev main_v142 : Ref sig .tc := ⟨.hbm, 201, rfl⟩
abbrev main_cst_29 : Ref sig .tc := ⟨.hbm, 202, rfl⟩
abbrev main_v143 : Ref sig .tc := ⟨.hbm, 203, rfl⟩
abbrev main_v144 : Ref sig .tc := ⟨.hbm, 204, rfl⟩
abbrev main_v145 : Ref sig .tc := ⟨.hbm, 205, rfl⟩
abbrev main_cst_30 : Ref sig .tc := ⟨.hbm, 206, rfl⟩
abbrev main_v146 : Ref sig .tc := ⟨.hbm, 207, rfl⟩
abbrev main_v147 : Ref sig .tc := ⟨.hbm, 208, rfl⟩
abbrev main_v148 : Ref sig .tc := ⟨.hbm, 209, rfl⟩
abbrev main_v149 : Ref sig .tc := ⟨.hbm, 210, rfl⟩
abbrev main_v150 : Ref sig .tc := ⟨.hbm, 211, rfl⟩
abbrev main_c_31 : Ref sig .tc := ⟨.hbm, 212, rfl⟩
abbrev main_v151 : Ref sig .tc := ⟨.hbm, 213, rfl⟩
abbrev main_v152 : Ref sig .tc := ⟨.hbm, 214, rfl⟩
abbrev main_c_32 : Ref sig .tc := ⟨.hbm, 215, rfl⟩
abbrev main_v153 : Ref sig .tc := ⟨.hbm, 216, rfl⟩
abbrev main_v154 : Ref sig .tc := ⟨.hbm, 217, rfl⟩
abbrev main_v155 : Ref sig .tc := ⟨.hbm, 218, rfl⟩
abbrev main_v156 : Ref sig .tc := ⟨.hbm, 219, rfl⟩
abbrev main_v157 : Ref sig .tc := ⟨.hbm, 220, rfl⟩
abbrev main_v158 : Ref sig .tc := ⟨.hbm, 221, rfl⟩
abbrev main_cst_33 : Ref sig .tc := ⟨.hbm, 222, rfl⟩
abbrev main_v159 : Ref sig .tc := ⟨.hbm, 223, rfl⟩
abbrev main_v160 : Ref sig .tc := ⟨.hbm, 224, rfl⟩
abbrev main_cst_34 : Ref sig .tc := ⟨.hbm, 225, rfl⟩
abbrev main_v161 : Ref sig .tc := ⟨.hbm, 226, rfl⟩
abbrev main_v162 : Ref sig .tc := ⟨.hbm, 227, rfl⟩
abbrev main_c_35 : Ref sig .tc := ⟨.hbm, 228, rfl⟩
abbrev main_call3_cst : Ref sig .tc := ⟨.hbm, 229, rfl⟩
abbrev main_call3_v0 : Ref sig .tc := ⟨.hbm, 230, rfl⟩
abbrev main_call3_v1 : Ref sig .tc := ⟨.hbm, 231, rfl⟩
abbrev main_call3_cst_0 : Ref sig .tc := ⟨.hbm, 232, rfl⟩
abbrev main_call3_v2 : Ref sig .tc := ⟨.hbm, 233, rfl⟩
abbrev main_call3_v3 : Ref sig .tc := ⟨.hbm, 234, rfl⟩
abbrev main_call3_v4 : Ref sig .tc := ⟨.hbm, 235, rfl⟩
abbrev main_call3_v5 : Ref sig .tc := ⟨.hbm, 236, rfl⟩
abbrev main_call3_v6 : Ref sig .tc := ⟨.hbm, 237, rfl⟩
abbrev main_call3_v7 : Ref sig .tc := ⟨.hbm, 238, rfl⟩
abbrev main_call3_cst_1 : Ref sig .tc := ⟨.hbm, 239, rfl⟩
abbrev main_call3_v8 : Ref sig .tc := ⟨.hbm, 240, rfl⟩
abbrev main_call3_cst_2 : Ref sig .tc := ⟨.hbm, 241, rfl⟩
abbrev main_call3_v9 : Ref sig .tc := ⟨.hbm, 242, rfl⟩
abbrev main_call3_v10 : Ref sig .tc := ⟨.hbm, 243, rfl⟩
abbrev main_call3_v11 : Ref sig .tc := ⟨.hbm, 244, rfl⟩
abbrev main_call3_v12 : Ref sig .tc := ⟨.hbm, 245, rfl⟩
abbrev main_call3_cst_3 : Ref sig .tc := ⟨.hbm, 246, rfl⟩
abbrev main_call3_v13 : Ref sig .tc := ⟨.hbm, 247, rfl⟩
abbrev main_call3_cst_4 : Ref sig .tc := ⟨.hbm, 248, rfl⟩
abbrev main_call3_call0_v0 : Ref sig .tc := ⟨.hbm, 249, rfl⟩
abbrev main_call3_call0_v1 : Ref sig .tc := ⟨.hbm, 250, rfl⟩
abbrev main_v163 : Ref sig .tc := ⟨.hbm, 251, rfl⟩
abbrev main_v164 : Ref sig .tc := ⟨.hbm, 252, rfl⟩
abbrev main_v165 : Ref sig .tc := ⟨.hbm, 253, rfl⟩
abbrev main_cst_36 : Ref sig .tc := ⟨.hbm, 254, rfl⟩
abbrev main_v166 : Ref sig .tc := ⟨.hbm, 255, rfl⟩
abbrev main_v167 : Ref sig .tc := ⟨.hbm, 256, rfl⟩
abbrev main_v168 : Ref sig .tc := ⟨.hbm, 257, rfl⟩
abbrev main_v169 : Ref sig .tc := ⟨.hbm, 258, rfl⟩
abbrev main_v170 : Ref sig .tc := ⟨.hbm, 259, rfl⟩
abbrev main_v171 : Ref sig .tc := ⟨.hbm, 260, rfl⟩
abbrev main_v172 : Ref sig .tc := ⟨.hbm, 261, rfl⟩
abbrev main_v173 : Ref sig .tc := ⟨.hbm, 262, rfl⟩
abbrev main_v174 : Ref sig .tc := ⟨.hbm, 263, rfl⟩
abbrev main_v175 : Ref sig .tc := ⟨.hbm, 264, rfl⟩
abbrev main_v176 : Ref sig .tc := ⟨.hbm, 265, rfl⟩
abbrev main_v177 : Ref sig .tc := ⟨.hbm, 266, rfl⟩
abbrev main_cst_37 : Ref sig .tc := ⟨.hbm, 267, rfl⟩
abbrev main_v178 : Ref sig .tc := ⟨.hbm, 268, rfl⟩
abbrev main_v179 : Ref sig .tc := ⟨.hbm, 269, rfl⟩
abbrev main_cst_38 : Ref sig .tc := ⟨.hbm, 270, rfl⟩
abbrev main_v180 : Ref sig .tc := ⟨.hbm, 271, rfl⟩
abbrev main_v181 : Ref sig .tc := ⟨.hbm, 272, rfl⟩
abbrev main_cst_39 : Ref sig .tc := ⟨.hbm, 273, rfl⟩
abbrev main_v182 : Ref sig .tc := ⟨.hbm, 274, rfl⟩
abbrev main_v183 : Ref sig .tc := ⟨.hbm, 275, rfl⟩
abbrev main_cst_40 : Ref sig .tc := ⟨.hbm, 276, rfl⟩
abbrev main_v184 : Ref sig .tc := ⟨.hbm, 277, rfl⟩
abbrev main_v185 : Ref sig .tc := ⟨.hbm, 278, rfl⟩
abbrev main_v186 : Ref sig .tc := ⟨.hbm, 279, rfl⟩
abbrev main_v187 : Ref sig .tc := ⟨.hbm, 280, rfl⟩
abbrev main_v188 : Ref sig .tc := ⟨.hbm, 281, rfl⟩
abbrev main_v189 : Ref sig .tc := ⟨.hbm, 282, rfl⟩
abbrev main_v190 : Ref sig .tc := ⟨.hbm, 283, rfl⟩
abbrev main_v191 : Ref sig .tc := ⟨.hbm, 284, rfl⟩
abbrev main_v192 : Ref sig .tc := ⟨.hbm, 285, rfl⟩
abbrev main_cst_41 : Ref sig .tc := ⟨.hbm, 286, rfl⟩
abbrev main_v193 : Ref sig .tc := ⟨.hbm, 287, rfl⟩
abbrev main_v194 : Ref sig .tc := ⟨.hbm, 288, rfl⟩
abbrev main_v195 : Ref sig .tc := ⟨.hbm, 289, rfl⟩
abbrev main_cst_42 : Ref sig .tc := ⟨.hbm, 290, rfl⟩
abbrev main_v196 : Ref sig .tc := ⟨.hbm, 291, rfl⟩
abbrev main_v197 : Ref sig .tc := ⟨.hbm, 292, rfl⟩

abbrev nD : Nat := 1
abbrev τ : Topo := Topo.v7x

variable {F : FTy → Type} [FloatOps F]
-- ==== FirstKernel.lean ====
abbrev S2x262144 : Shape := ⟨2, ![2, 262144]⟩
abbrev S262144 : Shape := ⟨1, ![262144]⟩
abbrev S262144x3 : Shape := ⟨2, ![262144, 3]⟩
abbrev S262144x16 : Shape := ⟨2, ![262144, 16]⟩
abbrev S512x128 : Shape := ⟨2, ![512, 128]⟩
abbrev S146x113 : Shape := ⟨2, ![146, 113]⟩
abbrev S113 : Shape := ⟨1, ![113]⟩
abbrev S64x64 : Shape := ⟨2, ![64, 64]⟩
abbrev S64 : Shape := ⟨1, ![64]⟩
abbrev S512 : Shape := ⟨1, ![512]⟩
abbrev S262144x1 : Shape := ⟨2, ![262144, 1]⟩
abbrev S_ : Shape := ⟨0, ![]⟩
abbrev S262144x8 : Shape := ⟨2, ![262144, 8]⟩
abbrev S1x262144 : Shape := ⟨2, ![1, 262144]⟩
abbrev S256x1024x1 : Shape := ⟨3, ![256, 1024, 1]⟩
abbrev S256x1x1024 : Shape := ⟨3, ![256, 1, 1024]⟩
abbrev S512x1 : Shape := ⟨2, ![512, 1]⟩
abbrev S64x113 : Shape := ⟨2, ![64, 113]⟩
abbrev S64x128 : Shape := ⟨2, ![64, 128]⟩
abbrev S16x113 : Shape := ⟨2, ![16, 113]⟩
abbrev S16x128 : Shape := ⟨2, ![16, 128]⟩
abbrev S1x113 : Shape := ⟨2, ![1, 113]⟩
abbrev S3x113 : Shape := ⟨2, ![3, 113]⟩
abbrev S8x128 : Shape := ⟨2, ![8, 128]⟩
abbrev S1x64 : Shape := ⟨2, ![1, 64]⟩
abbrev S2x64 : Shape := ⟨2, ![2, 64]⟩
abbrev S1x1024x1 : Shape := ⟨3, ![1, 1024, 1]⟩
abbrev S1x1x1024 : Shape := ⟨3, ![1, 1, 1024]⟩
abbrev S1024x16 : Shape := ⟨2, ![1024, 16]⟩
abbrev S1024x8 : Shape := ⟨2, ![1024, 8]⟩
abbrev S1024x1 : Shape := ⟨2, ![1024, 1]⟩
abbrev S1x1024 : Shape := ⟨2, ![1, 1024]⟩
abbrev S1024x512 : Shape := ⟨2, ![1024, 512]⟩
abbrev S512x1024 : Shape := ⟨2, ![512, 1024]⟩
abbrev S1024x128 : Shape := ⟨2, ![1024, 128]⟩
abbrev S1024x3 : Shape := ⟨2, ![1024, 3]⟩
abbrev S1024x64 : Shape := ⟨2, ![1024, 64]⟩
abbrev S1x128 : Shape := ⟨2, ![1, 128]⟩
abbrev S1024x48 : Shape := ⟨2, ![1024, 48]⟩
abbrev S1024x12 : Shape := ⟨2, ![1024, 12]⟩
abbrev S512x64 : Shape := ⟨2, ![512, 64]⟩
abbrev S512x48 : Shape := ⟨2, ![512, 48]⟩
abbrev S512x3 : Shape := ⟨2, ![512, 3]⟩
abbrev S512x4 : Shape := ⟨2, ![512, 4]⟩
abbrev S128x4 : Shape := ⟨2, ![128, 4]⟩
abbrev S128x1 : Shape := ⟨2, ![128, 1]⟩
abbrev S128x3 : Shape := ⟨2, ![128, 3]⟩
abbrev S512x13 : Shape := ⟨2, ![512, 13]⟩
abbrev S512x10 : Shape := ⟨2, ![512, 10]⟩

abbrev nBuf : Space → Nat
  | .hbm => 57
  | .vmem => 23
  | .smem => 0
  | _ => 0

abbrev bufTy : (tb : Table) → Fin (tcTables nBuf tb) → BufTy
  | .hbm, ⟨0, _⟩ => ⟨S2x262144, .i32⟩
  | .hbm, ⟨1, _⟩ => ⟨S262144, .f32⟩
  | .hbm, ⟨2, _⟩ => ⟨S262144, .f32⟩
  | .hbm, ⟨3, _⟩ => ⟨S262144x3, .f32⟩
  | .hbm, ⟨4, _⟩ => ⟨S262144x16, .f32⟩
  | .hbm, ⟨5, _⟩ => ⟨S512x128, .f32⟩
  | .hbm, ⟨6, _⟩ => ⟨S146x113, .f32⟩
  | .hbm, ⟨7, _⟩ => ⟨S113, .f32⟩
  | .hbm, ⟨8, _⟩ => ⟨S64x64, .f32⟩
  | .hbm, ⟨9, _⟩ => ⟨S64, .f32⟩
  | .hbm, ⟨10, _⟩ => ⟨S64, .f32⟩
  | .hbm, ⟨11, _⟩ => ⟨S512, .i32⟩
  | .hbm, ⟨12, _⟩ => ⟨S262144x1, .f32⟩
  | .hbm, ⟨13, _⟩ => ⟨S262144x1, .f32⟩
  | .hbm, ⟨14, _⟩ => ⟨S_, .f32⟩
  | .hbm, ⟨15, _⟩ => ⟨S262144x3, .f32⟩
  | .hbm, ⟨16, _⟩ => ⟨S262144x8, .f32⟩
  | .hbm, ⟨17, _⟩ => ⟨S1x262144, .i32⟩
  | .hbm, ⟨18, _⟩ => ⟨S262144, .i32⟩
  | .hbm, ⟨19, _⟩ => ⟨S1x262144, .i32⟩
  | .hbm, ⟨20, _⟩ => ⟨S262144, .i32⟩
  | .hbm, ⟨21, _⟩ => ⟨S256x1024x1, .i32⟩
  | .hbm, ⟨22, _⟩ => ⟨S256x1024x1, .i32⟩
  | .hbm, ⟨23, _⟩ => ⟨S256x1x1024, .i32⟩
  | .hbm, ⟨24, _⟩ => ⟨S512x1, .i32⟩
  | .hbm, ⟨25, _⟩ => ⟨S64x113, .f32⟩
  | .hbm, ⟨26, _⟩ => ⟨S_, .i32⟩
  | .hbm, ⟨27, _⟩ => ⟨S_, .f32⟩
  | .hbm, ⟨28, _⟩ => ⟨S64x128, .f32⟩
  | .hbm, ⟨29, _⟩ => ⟨S64x113, .f32⟩
  | .hbm, ⟨30, _⟩ => ⟨S_, .i32⟩
  | .hbm, ⟨31, _⟩ => ⟨S_, .f32⟩
  | .hbm, ⟨32, _⟩ => ⟨S64x128, .f32⟩
  | .hbm, ⟨33, _⟩ => ⟨S16x113, .f32⟩
  | .hbm, ⟨34, _⟩ => ⟨S_, .i32⟩
  | .hbm, ⟨35, _⟩ => ⟨S_, .f32⟩
  | .hbm, ⟨36, _⟩ => ⟨S16x128, .f32⟩
  | .hbm, ⟨37, _⟩ => ⟨S1x113, .f32⟩
  | .hbm, ⟨38, _⟩ => ⟨S113, .f32⟩
  | .hbm, ⟨39, _⟩ => ⟨S1x113, .f32⟩
  | .hbm, ⟨40, _⟩ => ⟨S113, .f32⟩
  | .hbm, ⟨41, _⟩ => ⟨S1x113, .f32⟩
  | .hbm, ⟨42, _⟩ => ⟨S1x113, .f32⟩
  | .hbm, ⟨43, _⟩ => ⟨S1x113, .f32⟩
  | .hbm, ⟨44, _⟩ => ⟨S3x113, .f32⟩
  | .hbm, ⟨45, _⟩ => ⟨S_, .i32⟩
  | .hbm, ⟨46, _⟩ => ⟨S_, .f32⟩
  | .hbm, ⟨47, _⟩ => ⟨S8x128, .f32⟩
  | .hbm, ⟨48, _⟩ => ⟨S1x64, .f32⟩
  | .hbm, ⟨49, _⟩ => ⟨S1x64, .f32⟩
  | .hbm, ⟨50, _⟩ => ⟨S2x64, .f32⟩
  | .hbm, ⟨51, _⟩ => ⟨S_, .i32⟩
  | .hbm, ⟨52, _⟩ => ⟨S_, .f32⟩
  | .hbm, ⟨53, _⟩ => ⟨S8x128, .f32⟩
  | .hbm, ⟨54, _⟩ => ⟨S262144x16, .f32⟩
  | .hbm, ⟨55, _⟩ => ⟨S512x128, .f32⟩
  | .hbm, ⟨56, _⟩ => ⟨S512x128, .f32⟩
  | .local _ .vmem, ⟨0, _⟩ => ⟨S1x1024x1, .i32⟩
  | .local _ .vmem, ⟨1, _⟩ => ⟨S1x1024x1, .i32⟩
  | .local _ .vmem, ⟨2, _⟩ => ⟨S1x1024x1, .i32⟩
  | .local _ .vmem, ⟨3, _⟩ => ⟨S1x1024x1, .i32⟩
  | .local _ .vmem, ⟨4, _⟩ => ⟨S1x1x1024, .i32⟩
  | .local _ .vmem, ⟨5, _⟩ => ⟨S1x1x1024, .i32⟩
  | .local _ .vmem, ⟨6, _⟩ => ⟨S1024x16, .f32⟩
  | .local _ .vmem, ⟨7, _⟩ => ⟨S1024x16, .f32⟩
  | .local _ .vmem, ⟨8, _⟩ => ⟨S1024x8, .f32⟩
  | .local _ .vmem, ⟨9, _⟩ => ⟨S1024x8, .f32⟩
  | .local _ .vmem, ⟨10, _⟩ => ⟨S512x128, .f32⟩
  | .local _ .vmem, ⟨11, _⟩ => ⟨S64x128, .f32⟩
  | .local _ .vmem, ⟨12, _⟩ => ⟨S64x128, .f32⟩
  | .local _ .vmem, ⟨13, _⟩ => ⟨S16x128, .f32⟩
  | .local _ .vmem, ⟨14, _⟩ => ⟨S8x128, .f32⟩
  | .local _ .vmem, ⟨15, _⟩ => ⟨S64x64, .f32⟩
  | .local _ .vmem, ⟨16, _⟩ => ⟨S8x128, .f32⟩
  | .local _ .vmem, ⟨17, _⟩ => ⟨S512x1, .i32⟩
  | .local _ .vmem, ⟨18, _⟩ => ⟨S1024x16, .f32⟩
  | .local _ .vmem, ⟨19, _⟩ => ⟨S1024x16, .f32⟩
  | .local _ .vmem, ⟨20, _⟩ => ⟨S512x128, .f32⟩
  | .local _ .vmem, ⟨21, _⟩ => ⟨S512x128, .f32⟩
  | .local _ .vmem, ⟨22, _⟩ => ⟨S512x128, .f32⟩
  | _, _ => ⟨S2x262144, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_cst : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_c : Ref sig .tc := ⟨.hbm, 26, rfl⟩
abbrev main_call0_v0 : Ref sig .tc := ⟨.hbm, 27, rfl⟩
abbrev main_v13 : Ref sig .tc := ⟨.hbm, 28, rfl⟩
abbrev main_v14 : Ref sig .tc := ⟨.hbm, 29, rfl⟩
abbrev main_c_0 : Ref sig .tc := ⟨.hbm, 30, rfl⟩
abbrev main_call1_v0 : Ref sig .tc := ⟨.hbm, 31, rfl⟩
abbrev main_v15 : Ref sig .tc := ⟨.hbm, 32, rfl⟩
abbrev main_v16 : Ref sig .tc := ⟨.hbm, 33, rfl⟩
abbrev main_c_1 : Ref sig .tc := ⟨.hbm, 34, rfl⟩
abbrev main_call2_v0 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_c_2 : Ref sig .tc := ⟨.hbm, 45, rfl⟩
abbrev main_call3_v0 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_c_3 : Ref sig .tc := ⟨.hbm, 51, rfl⟩
abbrev main_call4_v0 : Ref sig .tc := ⟨.hbm, 52, rfl⟩
abbrev main_v30 : Ref sig .tc := ⟨.hbm, 53, rfl⟩
abbrev main_v31_0 : Ref sig .tc := ⟨.hbm, 54, rfl⟩
abbrev main_v31_1 : Ref sig .tc := ⟨.hbm, 55, rfl⟩
abbrev main_v31_2 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg15_0 : Ref sig .tc := ⟨.vmem, 21, rfl⟩
abbrev cc0_scratch0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem13_1 : DmaSem sig := 19
abbrev cc0_sem14_0 : DmaSem sig := 20
abbrev cc0_sem15_0 : DmaSem sig := 21

abbrev nD : Nat := 1
abbrev τ : Topo := Topo.v7x

variable {F : FTy → Type} [FloatOps F]

abbrev grid0 : Pipeline.Grid := ⟨1, ![256], ![false]⟩

def k0_cond2 (i : grid0.Coords) : BitVec 1 :=
  let arg0 : BitVec 32 := BitVec.ofNat 32 (i 0).val
  let c255_i32 : BitVec 32 := 255#32
  let v107 : BitVec 1 := Scalar.cmpi .eq arg0 c255_i32
  let v108 : BitVec 32 := Scalar.extui v107
  let c0_i32_38 : BitVec 32 := 0#32
  let v109 : BitVec 1 := Scalar.cmpi .ne v108 c0_i32_38
  v109

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x1024x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x8 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S512x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S16x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S8x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S64x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S8x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S512x1 .i32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S1024x16 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S512x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S512x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]
-- ==== FirstReferenceIdeal.lean ====
abbrev S2x262144 : Shape := ⟨2, ![2, 262144]⟩
abbrev S262144 : Shape := ⟨1, ![262144]⟩
abbrev S262144x3 : Shape := ⟨2, ![262144, 3]⟩
abbrev S262144x16 : Shape := ⟨2, ![262144, 16]⟩
abbrev S512x128 : Shape := ⟨2, ![512, 128]⟩
abbrev S146x113 : Shape := ⟨2, ![146, 113]⟩
abbrev S113 : Shape := ⟨1, ![113]⟩
abbrev S64x64 : Shape := ⟨2, ![64, 64]⟩
abbrev S64 : Shape := ⟨1, ![64]⟩
abbrev S512 : Shape := ⟨1, ![512]⟩
abbrev S1x262144 : Shape := ⟨2, ![1, 262144]⟩
abbrev S512x64 : Shape := ⟨2, ![512, 64]⟩
abbrev S512x48 : Shape := ⟨2, ![512, 48]⟩
abbrev S512x3x16 : Shape := ⟨3, ![512, 3, 16]⟩
abbrev S512x3 : Shape := ⟨2, ![512, 3]⟩
abbrev S_ : Shape := ⟨0, ![]⟩
abbrev S262144x1 : Shape := ⟨2, ![262144, 1]⟩
abbrev S262144x64 : Shape := ⟨2, ![262144, 64]⟩
abbrev S262144x146 : Shape := ⟨2, ![262144, 146]⟩
abbrev S262144x113 : Shape := ⟨2, ![262144, 113]⟩
abbrev S1x113 : Shape := ⟨2, ![1, 113]⟩
abbrev S262144x3x16 : Shape := ⟨3, ![262144, 3, 16]⟩
abbrev S262144x1x16 : Shape := ⟨3, ![262144, 1, 16]⟩
abbrev S262144x3x1 : Shape := ⟨3, ![262144, 3, 1]⟩
abbrev S512x1 : Shape := ⟨2, ![512, 1]⟩
abbrev S512x1x1 : Shape := ⟨3, ![512, 1, 1]⟩
abbrev S16x3 : Shape := ⟨2, ![16, 3]⟩
abbrev S16 : Shape := ⟨1, ![16]⟩
abbrev S16x1 : Shape := ⟨2, ![16, 1]⟩
abbrev S1x64 : Shape := ⟨2, ![1, 64]⟩
abbrev S512x16 : Shape := ⟨2, ![512, 16]⟩
abbrev S512x1x16 : Shape := ⟨3, ![512, 1, 16]⟩
abbrev S512x10 : Shape := ⟨2, ![512, 10]⟩
abbrev S512x13 : Shape := ⟨2, ![512, 13]⟩

abbrev nBuf : Space → Nat
  | .hbm => 240
  | .vmem => 0
  | .smem => 0
  | _ => 0

abbrev hbmTy0_0 (i : Nat) : BufTy := match i % 128 with
  | 0 => ⟨S2x262144, .i32⟩
  | 1 => ⟨S262144, .f32⟩
  | 2 => ⟨S262144, .f32⟩
  | 3 => ⟨S262144x3, .f32⟩
  | 4 => ⟨S262144x16, .f32⟩
  | 5 => ⟨S512x128, .f32⟩
  | 6 => ⟨S146x113, .f32⟩
  | 7 => ⟨S113, .f32⟩
  | 8 => ⟨S64x64, .f32⟩
  | 9 => ⟨S64, .f32⟩
  | 10 => ⟨S64, .f32⟩
  | 11 => ⟨S512, .i32⟩
  | 12 => ⟨S1x262144, .i32⟩
  | 13 => ⟨S262144, .i32⟩
  | 14 => ⟨S1x262144, .i32⟩
  | 15 => ⟨S262144, .i32⟩
  | 16 => ⟨S512x64, .f32⟩
  | 17 => ⟨S512x48, .f32⟩
  | 18 => ⟨S512x3x16, .f32⟩
  | 19 => ⟨S512x3, .f32⟩
  | 20 => ⟨S512x3, .f32⟩
  | 21 => ⟨S512x3, .f32⟩
  | 22 => ⟨S_, .i32⟩
  | 23 => ⟨S262144, .i32⟩
  | 24 => ⟨S262144, .i1⟩
  | 25 => ⟨S_, .i32⟩
  | 26 => ⟨S262144, .i32⟩
  | 27 => ⟨S262144, .i32⟩
  | 28 => ⟨S262144, .i32⟩
  | 29 => ⟨S262144x1, .i32⟩
  | 30 => ⟨S262144x64, .f32⟩
  | 31 => ⟨S_, .i32⟩
  | 32 => ⟨S262144, .i32⟩
  | 33 => ⟨S262144, .i1⟩
  | 34 => ⟨S_, .i32⟩
  | 35 => ⟨S262144, .i32⟩
  | 36 => ⟨S262144, .i32⟩
  | 37 => ⟨S262144, .i32⟩
  | 38 => ⟨S262144x1, .i32⟩
  | 39 => ⟨S262144x64, .f32⟩
  | 40 => ⟨S262144x1, .f32⟩
  | 41 => ⟨S262144x1, .f32⟩
  | 42 => ⟨S262144x146, .f32⟩
  | 43 => ⟨S262144x113, .f32⟩
  | 44 => ⟨S1x113, .f32⟩
  | 45 => ⟨S262144x113, .f32⟩
  | 46 => ⟨S262144x113, .f32⟩
  | 47 => ⟨S262144x64, .f32⟩
  | 48 => ⟨S262144x64, .f32⟩
  | 49 => ⟨S262144x64, .f32⟩
  | 50 => ⟨S_, .f32⟩
  | 51 => ⟨S262144x64, .f32⟩
  | 52 => ⟨S262144x64, .f32⟩
  | 53 => ⟨S_, .f32⟩
  | 54 => ⟨S262144x64, .f32⟩
  | 55 => ⟨S262144x64, .f32⟩
  | 56 => ⟨S262144x64, .f32⟩
  | 57 => ⟨S262144x16, .f32⟩
  | 58 => ⟨S262144x16, .f32⟩
  | 59 => ⟨S262144x16, .f32⟩
  | 60 => ⟨S262144x1, .f32⟩
  | 61 => ⟨S_, .i32⟩
  | 62 => ⟨S262144, .i32⟩
  | 63 => ⟨S262144, .i1⟩
  | 64 => ⟨S_, .i32⟩
  | 65 => ⟨S262144, .i32⟩
  | 66 => ⟨S262144, .i32⟩
  | 67 => ⟨S262144, .i32⟩
  | 68 => ⟨S262144x1, .i32⟩
  | 69 => ⟨S262144x3x16, .f32⟩
  | 70 => ⟨S262144x1x16, .f32⟩
  | 71 => ⟨S262144x3x16, .f32⟩
  | 72 => ⟨S262144x3x16, .f32⟩
  | 73 => ⟨S262144x3x1, .f32⟩
  | 74 => ⟨S262144x1x16, .f32⟩
  | 75 => ⟨S262144x3x16, .f32⟩
  | 76 => ⟨S262144x3x16, .f32⟩
  | 77 => ⟨S262144x3x16, .f32⟩
  | 78 => ⟨S262144x3x16, .f32⟩
  | 79 => ⟨S_, .f32⟩
  | 80 => ⟨S512x64, .f32⟩
  | 81 => ⟨S262144x1, .i32⟩
  | 82 => ⟨S512x64, .f32⟩
  | 83 => ⟨S_, .f32⟩
  | 84 => ⟨S262144, .f32⟩
  | 85 => ⟨S_, .f32⟩
  | 86 => ⟨S512, .f32⟩
  | 87 => ⟨S262144x1, .i32⟩
  | 88 => ⟨S512, .f32⟩
  | 89 => ⟨S_, .f32⟩
  | 90 => ⟨S512, .f32⟩
  | 91 => ⟨S512, .f32⟩
  | 92 => ⟨S512x1, .f32⟩
  | 93 => ⟨S512x64, .f32⟩
  | 94 => ⟨S512x64, .f32⟩
  | 95 => ⟨S512x64, .f32⟩
  | 96 => ⟨S512x64, .f32⟩
  | 97 => ⟨S_, .f32⟩
  | 98 => ⟨S512x3x16, .f32⟩
  | 99 => ⟨S262144x1, .i32⟩
  | 100 => ⟨S512x3x16, .f32⟩
  | 101 => ⟨S_, .f32⟩
  | 102 => ⟨S262144, .f32⟩
  | 103 => ⟨S_, .f32⟩
  | 104 => ⟨S512, .f32⟩
  | 105 => ⟨S262144x1, .i32⟩
  | 106 => ⟨S512, .f32⟩
  | 107 => ⟨S_, .f32⟩
  | 108 => ⟨S512, .f32⟩
  | 109 => ⟨S512, .f32⟩
  | 110 => ⟨S512x1x1, .f32⟩
  | 111 => ⟨S512x3x16, .f32⟩
  | 112 => ⟨S512x3x16, .f32⟩
  | 113 => ⟨S512x3x16, .f32⟩
  | 114 => ⟨S262144x1, .f32⟩
  | 115 => ⟨S262144x3, .f32⟩
  | 116 => ⟨S262144x3, .f32⟩
  | 117 => ⟨S_, .f32⟩
  | 118 => ⟨S512x3, .f32⟩
  | 119 => ⟨S262144x1, .i32⟩
  | 120 => ⟨S512x3, .f32⟩
  | 121 => ⟨S_, .f32⟩
  | 122 => ⟨S262144, .f32⟩
  | 123 => ⟨S_, .f32⟩
  | 124 => ⟨S512, .f32⟩
  | 125 => ⟨S262144x1, .i32⟩
  | 126 => ⟨S512, .f32⟩
  | 127 => ⟨S_, .f32⟩
  | _ => ⟨S2x262144, .i32⟩

abbrev hbmTy0_1 (i : Nat) : BufTy := match i % 128 with
  | 0 => ⟨S512, .f32⟩
  | 1 => ⟨S512, .f32⟩
  | 2 => ⟨S512x1, .f32⟩
  | 3 => ⟨S512x3, .f32⟩
  | 4 => ⟨S512x3, .f32⟩
  | 5 => ⟨S512x3, .f32⟩
  | 6 => ⟨S262144x16, .f32⟩
  | 7 => ⟨S262144x16, .f32⟩
  | 8 => ⟨S_, .f32⟩
  | 9 => ⟨S262144x16, .f32⟩
  | 10 => ⟨S262144x16, .f32⟩
  | 11 => ⟨S_, .f32⟩
  | 12 => ⟨S262144x16, .f32⟩
  | 13 => ⟨S262144x16, .f32⟩
  | 14 => ⟨S262144x16, .f32⟩
  | 15 => ⟨S_, .f32⟩
  | 16 => ⟨S16x3, .f32⟩
  | 17 => ⟨S512x1, .i32⟩
  | 18 => ⟨S16x3, .f32⟩
  | 19 => ⟨S_, .f32⟩
  | 20 => ⟨S512, .f32⟩
  | 21 => ⟨S_, .f32⟩
  | 22 => ⟨S16, .f32⟩
  | 23 => ⟨S512x1, .i32⟩
  | 24 => ⟨S16, .f32⟩
  | 25 => ⟨S_, .f32⟩
  | 26 => ⟨S16, .f32⟩
  | 27 => ⟨S16, .f32⟩
  | 28 => ⟨S16x1, .f32⟩
  | 29 => ⟨S16x3, .f32⟩
  | 30 => ⟨S16x3, .f32⟩
  | 31 => ⟨S_, .i32⟩
  | 32 => ⟨S512, .i32⟩
  | 33 => ⟨S512, .i1⟩
  | 34 => ⟨S_, .i32⟩
  | 35 => ⟨S512, .i32⟩
  | 36 => ⟨S512, .i32⟩
  | 37 => ⟨S512, .i32⟩
  | 38 => ⟨S512x1, .i32⟩
  | 39 => ⟨S512x3, .f32⟩
  | 40 => ⟨S512x3, .f32⟩
  | 41 => ⟨S_, .f32⟩
  | 42 => ⟨S512, .f32⟩
  | 43 => ⟨S512x1, .f32⟩
  | 44 => ⟨S_, .f32⟩
  | 45 => ⟨S512x1, .f32⟩
  | 46 => ⟨S512x1, .f32⟩
  | 47 => ⟨S_, .i32⟩
  | 48 => ⟨S_, .f32⟩
  | 49 => ⟨S512, .f32⟩
  | 50 => ⟨S512x1, .f32⟩
  | 51 => ⟨S_, .f32⟩
  | 52 => ⟨S512x1, .f32⟩
  | 53 => ⟨S512x1, .f32⟩
  | 54 => ⟨S512x64, .f32⟩
  | 55 => ⟨S512x64, .f32⟩
  | 56 => ⟨S512x64, .f32⟩
  | 57 => ⟨S_, .f32⟩
  | 58 => ⟨S_, .f32⟩
  | 59 => ⟨S_, .f32⟩
  | 60 => ⟨S_, .f32⟩
  | 61 => ⟨S512, .f32⟩
  | 62 => ⟨S512x1, .f32⟩
  | 63 => ⟨S512x1, .f32⟩
  | 64 => ⟨S512x1, .f32⟩
  | 65 => ⟨S_, .f32⟩
  | 66 => ⟨S_, .i1⟩
  | 67 => ⟨S_, .f32⟩
  | 68 => ⟨S_, .f32⟩
  | 69 => ⟨S512x1, .f32⟩
  | 70 => ⟨S512x1, .f32⟩
  | 71 => ⟨S512x64, .f32⟩
  | 72 => ⟨S512x64, .f32⟩
  | 73 => ⟨S_, .f32⟩
  | 74 => ⟨S512x1, .f32⟩
  | 75 => ⟨S512x1, .f32⟩
  | 76 => ⟨S512x1, .f32⟩
  | 77 => ⟨S512x64, .f32⟩
  | 78 => ⟨S512x64, .f32⟩
  | 79 => ⟨S1x64, .f32⟩
  | 80 => ⟨S512x64, .f32⟩
  | 81 => ⟨S512x64, .f32⟩
  | 82 => ⟨S1x64, .f32⟩
  | 83 => ⟨S512x64, .f32⟩
  | 84 => ⟨S512x64, .f32⟩
  | 85 => ⟨S512x3x16, .f32⟩
  | 86 => ⟨S_, .f32⟩
  | 87 => ⟨S512x16, .f32⟩
  | 88 => ⟨S512x1x16, .f32⟩
  | 89 => ⟨S_, .f32⟩
  | 90 => ⟨S512x1, .f32⟩
  | 91 => ⟨S512x1x1, .f32⟩
  | 92 => ⟨S_, .f32⟩
  | 93 => ⟨S512x1x1, .f32⟩
  | 94 => ⟨S512x1x1, .f32⟩
  | 95 => ⟨S_, .f32⟩
  | 96 => ⟨S512x1x1, .f32⟩
  | 97 => ⟨S512x1x1, .f32⟩
  | 98 => ⟨S512x1x1, .f32⟩
  | 99 => ⟨S512x3x16, .f32⟩
  | 100 => ⟨S512x3x16, .f32⟩
  | 101 => ⟨S512x3, .bf16⟩
  | 102 => ⟨S512x3, .f32⟩
  | 103 => ⟨S512x48, .f32⟩
  | 104 => ⟨S512x3, .f32⟩
  | 105 => ⟨S_, .f32⟩
  | 106 => ⟨S512x10, .f32⟩
  | 107 => ⟨S512x128, .f32⟩
  | 108 => ⟨S512x48, .f32⟩
  | 109 => ⟨S_, .f32⟩
  | 110 => ⟨S512x13, .f32⟩
  | 111 => ⟨S512x128, .f32⟩
  | _ => ⟨S2x262144, .i32⟩

abbrev hbmTy (i : Nat) : BufTy := match i / 128 with
  | 0 => hbmTy0_0 i
  | 1 => hbmTy0_1 i
  | _ => ⟨S2x262144, .i32⟩

abbrev bufTy : (tb : Table) → Fin (tcTables nBuf tb) → BufTy
  | .hbm, ⟨i, _⟩ => hbmTy i
  | _, _ => ⟨S2x262144, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_c : Ref sig .tc := ⟨.hbm, 22, rfl⟩
abbrev main_v10 : Ref sig .tc := ⟨.hbm, 23, rfl⟩
abbrev main_v11 : Ref sig .tc := ⟨.hbm, 24, rfl⟩
abbrev main_c_0 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_c_1 : Ref sig .tc := ⟨.hbm, 31, rfl⟩
abbrev main_v17 : Ref sig .tc := ⟨.hbm, 32, rfl⟩
abbrev main_v18 : Ref sig .tc := ⟨.hbm, 33, rfl⟩
abbrev main_c_2 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_call0_v0 : Ref sig .tc := ⟨.hbm, 48, rfl⟩
abbrev main_call0_v1 : Ref sig .tc := ⟨.hbm, 49, rfl⟩
abbrev main_call0_cst : Ref sig .tc := ⟨.hbm, 50, rfl⟩
abbrev main_call0_v2 : Ref sig .tc := ⟨.hbm, 51, rfl⟩
abbrev main_call0_v3 : Ref sig .tc := ⟨.hbm, 52, rfl⟩
abbrev main_call0_cst_0 : Ref sig .tc := ⟨.hbm, 53, rfl⟩
abbrev main_call0_v4 : Ref sig .tc := ⟨.hbm, 54, rfl⟩
abbrev main_call0_v5 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_c_3 : Ref sig .tc := ⟨.hbm, 61, rfl⟩
abbrev main_v37 : Ref sig .tc := ⟨.hbm, 62, rfl⟩
abbrev main_v38 : Ref sig .tc := ⟨.hbm, 63, rfl⟩
abbrev main_c_4 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_cst : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_cst_5 : Ref sig .tc := ⟨.hbm, 83, rfl⟩
abbrev main_v56 : Ref sig .tc := ⟨.hbm, 84, rfl⟩
abbrev main_cst_6 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_cst_7 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_cst_8 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_cst_9 : Ref sig .tc := ⟨.hbm, 101, rfl⟩
abbrev main_v70 : Ref sig .tc := ⟨.hbm, 102, rfl⟩
abbrev main_cst_10 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_cst_11 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_cst_12 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_cst_13 : Ref sig .tc := ⟨.hbm, 121, rfl⟩
abbrev main_v86 : Ref sig .tc := ⟨.hbm, 122, rfl⟩
abbrev main_cst_14 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_cst_15 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_call1_v0 : Ref sig .tc := ⟨.hbm, 134, rfl⟩
abbrev main_call1_v1 : Ref sig .tc := ⟨.hbm, 135, rfl⟩
abbrev main_call1_cst : Ref sig .tc := ⟨.hbm, 136, rfl⟩
abbrev main_call1_v2 : Ref sig .tc := ⟨.hbm, 137, rfl⟩
abbrev main_call1_v3 : Ref sig .tc := ⟨.hbm, 138, rfl⟩
abbrev main_call1_cst_0 : Ref sig .tc := ⟨.hbm, 139, rfl⟩
abbrev main_call1_v4 : Ref sig .tc := ⟨.hbm, 140, rfl⟩
abbrev main_call1_v5 : Ref sig .tc := ⟨.hbm, 141, rfl⟩
abbrev main_v96 : Ref sig .tc := ⟨.hbm, 142, rfl⟩
abbrev main_cst_16 : Ref sig .tc := ⟨.hbm, 143, rfl⟩
abbrev main_v97 : Ref sig .tc := ⟨.hbm, 144, rfl⟩
abbrev main_v98 : Ref sig .tc := ⟨.hbm, 145, rfl⟩
abbrev main_v99 : Ref sig .tc := ⟨.hbm, 146, rfl⟩
abbrev main_cst_17 : Ref sig .tc := ⟨.hbm, 147, rfl⟩
abbrev main_v100 : Ref sig .tc := ⟨.hbm, 148, rfl⟩
abbrev main_cst_18 : Ref sig .tc := ⟨.hbm, 149, rfl⟩
abbrev main_v101 : Ref sig .tc := ⟨.hbm, 150, rfl⟩
abbrev main_v102 : Ref sig .tc := ⟨.hbm, 151, rfl⟩
abbrev main_v103 : Ref sig .tc := ⟨.hbm, 152, rfl⟩
abbrev main_cst_19 : Ref sig .tc := ⟨.hbm, 153, rfl⟩
abbrev main_v104 : Ref sig .tc := ⟨.hbm, 154, rfl⟩
abbrev main_v105 : Ref sig .tc := ⟨.hbm, 155, rfl⟩
abbrev main_v106 : Ref sig .tc := ⟨.hbm, 156, rfl⟩
abbrev main_v107 : Ref sig .tc := ⟨.hbm, 157, rfl⟩
abbrev main_v108 : Ref sig .tc := ⟨.hbm, 158, rfl⟩
abbrev main_c_20 : Ref sig .tc := ⟨.hbm, 159, rfl⟩
abbrev main_v109 : Ref sig .tc := ⟨.hbm, 160, rfl⟩
abbrev main_v110 : Ref sig .tc := ⟨.hbm, 161, rfl⟩
abbrev main_c_21 : Ref sig .tc := ⟨.hbm, 162, rfl⟩
abbrev main_v111 : Ref sig .tc := ⟨.hbm, 163, rfl⟩
abbrev main_v112 : Ref sig .tc := ⟨.hbm, 164, rfl⟩
abbrev main_v113 : Ref sig .tc := ⟨.hbm, 165, rfl⟩
abbrev main_v114 : Ref sig .tc := ⟨.hbm, 166, rfl⟩
abbrev main_v115 : Ref sig .tc := ⟨.hbm, 167, rfl⟩
abbrev main_v116 : Ref sig .tc := ⟨.hbm, 168, rfl⟩
abbrev main_cst_22 : Ref sig .tc := ⟨.hbm, 169, rfl⟩
abbrev main_v117 : Ref sig .tc := ⟨.hbm, 170, rfl⟩
abbrev main_v118 : Ref sig .tc := ⟨.hbm, 171, rfl⟩
abbrev main_cst_23 : Ref sig .tc := ⟨.hbm, 172, rfl⟩
abbrev main_v119 : Ref sig .tc := ⟨.hbm, 173, rfl⟩
abbrev main_v120 : Ref sig .tc := ⟨.hbm, 174, rfl⟩
abbrev main_c_24 : Ref sig .tc := ⟨.hbm, 175, rfl⟩
abbrev main_call2_cst : Ref sig .tc := ⟨.hbm, 176, rfl⟩
abbrev main_call2_v0 : Ref sig .tc := ⟨.hbm, 177, rfl⟩
abbrev main_call2_v1 : Ref sig .tc := ⟨.hbm, 178, rfl⟩
abbrev main_call2_cst_0 : Ref sig .tc := ⟨.hbm, 179, rfl⟩
abbrev main_call2_v2 : Ref sig .tc := ⟨.hbm, 180, rfl⟩
abbrev main_call2_v3 : Ref sig .tc := ⟨.hbm, 181, rfl⟩
abbrev main_call2_v4 : Ref sig .tc := ⟨.hbm, 182, rfl⟩
abbrev main_call2_v5 : Ref sig .tc := ⟨.hbm, 183, rfl⟩
abbrev main_call2_v6 : Ref sig .tc := ⟨.hbm, 184, rfl⟩
abbrev main_call2_v7 : Ref sig .tc := ⟨.hbm, 185, rfl⟩
abbrev main_call2_cst_1 : Ref sig .tc := ⟨.hbm, 186, rfl⟩
abbrev main_call2_v8 : Ref sig .tc := ⟨.hbm, 187, rfl⟩
abbrev main_call2_cst_2 : Ref sig .tc := ⟨.hbm, 188, rfl⟩
abbrev main_call2_v9 : Ref sig .tc := ⟨.hbm, 189, rfl⟩
abbrev main_call2_v10 : Ref sig .tc := ⟨.hbm, 190, rfl⟩
abbrev main_call2_v11 : Ref sig .tc := ⟨.hbm, 191, rfl⟩
abbrev main_call2_v12 : Ref sig .tc := ⟨.hbm, 192, rfl⟩
abbrev main_call2_cst_3 : Ref sig .tc := ⟨.hbm, 193, rfl⟩
abbrev main_call2_v13 : Ref sig .tc := ⟨.hbm, 194, rfl⟩
abbrev main_call2_cst_4 : Ref sig .tc := ⟨.hbm, 195, rfl⟩
abbrev main_call2_call0_v0 : Ref sig .tc := ⟨.hbm, 196, rfl⟩
abbrev main_call2_call0_v1 : Ref sig .tc := ⟨.hbm, 197, rfl⟩
abbrev main_v121 : Ref sig .tc := ⟨.hbm, 198, rfl⟩
abbrev main_v122 : Ref sig .tc := ⟨.hbm, 199, rfl⟩
abbrev main_v123 : Ref sig .tc := ⟨.hbm, 200, rfl⟩
abbrev main_cst_25 : Ref sig .tc := ⟨.hbm, 201, rfl⟩
abbrev main_v124 : Ref sig .tc := ⟨.hbm, 202, rfl⟩
abbrev main_v125 : Ref sig .tc := ⟨.hbm, 203, rfl⟩
abbrev main_v126 : Ref sig .tc := ⟨.hbm, 204, rfl⟩
abbrev main_v127 : Ref sig .tc := ⟨.hbm, 205, rfl⟩
abbrev main_v128 : Ref sig .tc := ⟨.hbm, 206, rfl⟩
abbrev main_v129 : Ref sig .tc := ⟨.hbm, 207, rfl⟩
abbrev main_v130 : Ref sig .tc := ⟨.hbm, 208, rfl⟩
abbrev main_v131 : Ref sig .tc := ⟨.hbm, 209, rfl⟩
abbrev main_v132 : Ref sig .tc := ⟨.hbm, 210, rfl⟩
abbrev main_v133 : Ref sig .tc := ⟨.hbm, 211, rfl⟩
abbrev main_v134 : Ref sig .tc := ⟨.hbm, 212, rfl⟩
abbrev main_v135 : Ref sig .tc := ⟨.hbm, 213, rfl⟩
abbrev main_cst_26 : Ref sig .tc := ⟨.hbm, 214, rfl⟩
abbrev main_v136 : Ref sig .tc := ⟨.hbm, 215, rfl⟩
abbrev main_v137 : Ref sig .tc := ⟨.hbm, 216, rfl⟩
abbrev main_cst_27 : Ref sig .tc := ⟨.hbm, 217, rfl⟩
abbrev main_v138 : Ref sig .tc := ⟨.hbm, 218, rfl⟩
abbrev main_v139 : Ref sig .tc := ⟨.hbm, 219, rfl⟩
abbrev main_cst_28 : Ref sig .tc := ⟨.hbm, 220, rfl⟩
abbrev main_v140 : Ref sig .tc := ⟨.hbm, 221, rfl⟩
abbrev main_v141 : Ref sig .tc := ⟨.hbm, 222, rfl⟩
abbrev main_cst_29 : Ref sig .tc := ⟨.hbm, 223, rfl⟩
abbrev main_v142 : Ref sig .tc := ⟨.hbm, 224, rfl⟩
abbrev main_v143 : Ref sig .tc := ⟨.hbm, 225, rfl⟩
abbrev main_v144 : Ref sig .tc := ⟨.hbm, 226, rfl⟩
abbrev main_v145 : Ref sig .tc := ⟨.hbm, 227, rfl⟩
abbrev main_v146 : Ref sig .tc := ⟨.hbm, 228, rfl⟩
abbrev main_v147 : Ref sig .tc := ⟨.hbm, 229, rfl⟩
abbrev main_v148 : Ref sig .tc := ⟨.hbm, 230, rfl⟩
abbrev main_v149 : Ref sig .tc := ⟨.hbm, 231, rfl⟩
abbrev main_v150 : Ref sig .tc := ⟨.hbm, 232, rfl⟩
abbrev main_cst_30 : Ref sig .tc := ⟨.hbm, 233, rfl⟩
abbrev main_v151 : Ref sig .tc := ⟨.hbm, 234, rfl⟩
abbrev main_v152 : Ref sig .tc := ⟨.hbm, 235, rfl⟩
abbrev main_v153 : Ref sig .tc := ⟨.hbm, 236, rfl⟩
abbrev main_cst_31 : Ref sig .tc := ⟨.hbm, 237, rfl⟩
abbrev main_v154 : Ref sig .tc := ⟨.hbm, 238, rfl⟩
abbrev main_v155 : Ref sig .tc := ⟨.hbm, 239, rfl⟩

abbrev nD : Nat := 1
abbrev τ : Topo := Topo.v7x

variable {F : FTy → Type} [FloatOps F]
-- ==== PreKernel.lean ====
abbrev S512x64 : Shape := ⟨2, ![512, 64]⟩
abbrev S512x3x16 : Shape := ⟨3, ![512, 3, 16]⟩
abbrev S512x3 : Shape := ⟨2, ![512, 3]⟩
abbrev S64 : Shape := ⟨1, ![64]⟩
abbrev S512x48 : Shape := ⟨2, ![512, 48]⟩
abbrev S_ : Shape := ⟨0, ![]⟩
abbrev S512x8 : Shape := ⟨2, ![512, 8]⟩
abbrev S1x64 : Shape := ⟨2, ![1, 64]⟩
abbrev S512x128 : Shape := ⟨2, ![512, 128]⟩
abbrev S512 : Shape := ⟨1, ![512]⟩
abbrev S512x1 : Shape := ⟨2, ![512, 1]⟩
abbrev S512x10 : Shape := ⟨2, ![512, 10]⟩

abbrev nBuf : Space → Nat
  | .hbm => 12
  | .vmem => 6
  | .smem => 0
  | _ => 0

abbrev bufTy : (tb : Table) → Fin (tcTables nBuf tb) → BufTy
  | .hbm, ⟨0, _⟩ => ⟨S512x64, .f32⟩
  | .hbm, ⟨1, _⟩ => ⟨S512x3x16, .f32⟩
  | .hbm, ⟨2, _⟩ => ⟨S512x3, .f32⟩
  | .hbm, ⟨3, _⟩ => ⟨S64, .f32⟩
  | .hbm, ⟨4, _⟩ => ⟨S64, .f32⟩
  | .hbm, ⟨5, _⟩ => ⟨S512x48, .f32⟩
  | .hbm, ⟨6, _⟩ => ⟨S_, .i32⟩
  | .hbm, ⟨7, _⟩ => ⟨S_, .f32⟩
  | .hbm, ⟨8, _⟩ => ⟨S512x8, .f32⟩
  | .hbm, ⟨9, _⟩ => ⟨S1x64, .f32⟩
  | .hbm, ⟨10, _⟩ => ⟨S1x64, .f32⟩
  | .hbm, ⟨11, _⟩ => ⟨S512x128, .f32⟩
  | .local _ .vmem, ⟨0, _⟩ => ⟨S512x64, .f32⟩
  | .local _ .vmem, ⟨1, _⟩ => ⟨S512x48, .f32⟩
  | .local _ .vmem, ⟨2, _⟩ => ⟨S512x8, .f32⟩
  | .local _ .vmem, ⟨3, _⟩ => ⟨S1x64, .f32⟩
  | .local _ .vmem, ⟨4, _⟩ => ⟨S1x64, .f32⟩
  | .local _ .vmem, ⟨5, _⟩ => ⟨S512x128, .f32⟩
  | _, _ => ⟨S512x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_call0_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S512x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x48 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S512x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== PreReferenceIdeal.lean ====
abbrev S512x64 : Shape := ⟨2, ![512, 64]⟩
abbrev S512x3x16 : Shape := ⟨3, ![512, 3, 16]⟩
abbrev S512x3 : Shape := ⟨2, ![512, 3]⟩
abbrev S64 : Shape := ⟨1, ![64]⟩
abbrev S_ : Shape := ⟨0, ![]⟩
abbrev S512 : Shape := ⟨1, ![512]⟩
abbrev S512x1 : Shape := ⟨2, ![512, 1]⟩
abbrev S1x64 : Shape := ⟨2, ![1, 64]⟩
abbrev S512x16 : Shape := ⟨2, ![512, 16]⟩
abbrev S512x1x16 : Shape := ⟨3, ![512, 1, 16]⟩
abbrev S512x1x1 : Shape := ⟨3, ![512, 1, 1]⟩
abbrev S512x48 : Shape := ⟨2, ![512, 48]⟩
abbrev S512x10 : Shape := ⟨2, ![512, 10]⟩
abbrev S512x128 : Shape := ⟨2, ![512, 128]⟩

abbrev nBuf : Space → Nat
  | .hbm => 72
  | .vmem => 0
  | .smem => 0
  | _ => 0

abbrev bufTy : (tb : Table) → Fin (tcTables nBuf tb) → BufTy
  | .hbm, ⟨0, _⟩ => ⟨S512x64, .f32⟩
  | .hbm, ⟨1, _⟩ => ⟨S512x3x16, .f32⟩
  | .hbm, ⟨2, _⟩ => ⟨S512x3, .f32⟩
  | .hbm, ⟨3, _⟩ => ⟨S64, .f32⟩
  | .hbm, ⟨4, _⟩ => ⟨S64, .f32⟩
  | .hbm, ⟨5, _⟩ => ⟨S_, .f32⟩
  | .hbm, ⟨6, _⟩ => ⟨S512, .f32⟩
  | .hbm, ⟨7, _⟩ => ⟨S512x1, .f32⟩
  | .hbm, ⟨8, _⟩ => ⟨S_, .f32⟩
  | .hbm, ⟨9, _⟩ => ⟨S512x1, .f32⟩
  | .hbm, ⟨10, _⟩ => ⟨S512x1, .f32⟩
  | .hbm, ⟨11, _⟩ => ⟨S_, .i32⟩
  | .hbm, ⟨12, _⟩ => ⟨S_, .f32⟩
  | .hbm, ⟨13, _⟩ => ⟨S512, .f32⟩
  | .hbm, ⟨14, _⟩ => ⟨S512x1, .f32⟩
  | .hbm, ⟨15, _⟩ => ⟨S_, .f32⟩
  | .hbm, ⟨16, _⟩ => ⟨S512x1, .f32⟩
  | .hbm, ⟨17, _⟩ => ⟨S512x1, .f32⟩
  | .hbm, ⟨18, _⟩ => ⟨S512x64, .f32⟩
  | .hbm, ⟨19, _⟩ => ⟨S512x64, .f32⟩
  | .hbm, ⟨20, _⟩ => ⟨S512x64, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S512, .f32⟩
  | .hbm, ⟨26, _⟩ => ⟨S512x1, .f32⟩
  | .hbm, ⟨27, _⟩ => ⟨S512x1, .f32⟩
  | .hbm, ⟨28, _⟩ => ⟨S512x1, .f32⟩
  | .hbm, ⟨29, _⟩ => ⟨S_, .f32⟩
  | .hbm, ⟨30, _⟩ => ⟨S_, .i1⟩
  | .hbm, ⟨31, _⟩ => ⟨S_, .f32⟩
  | .hbm, ⟨32, _⟩ => ⟨S_, .f32⟩
  | .hbm, ⟨33, _⟩ => ⟨S512x1, .f32⟩
  | .hbm, ⟨34, _⟩ => ⟨S512x1, .f32⟩
  | .hbm, ⟨35, _⟩ => ⟨S512x64, .f32⟩
  | .hbm, ⟨36, _⟩ => ⟨S512x64, .f32⟩
  | .hbm, ⟨37, _⟩ => ⟨S_, .f32⟩
  | .hbm, ⟨38, _⟩ => ⟨S512x1, .f32⟩
  | .hbm, ⟨39, _⟩ => ⟨S512x1, .f32⟩
  | .hbm, ⟨40, _⟩ => ⟨S512x1, .f32⟩
  | .hbm, ⟨41, _⟩ => ⟨S512x64, .f32⟩
  | .hbm, ⟨42, _⟩ => ⟨S512x64, .f32⟩
  | .hbm, ⟨43, _⟩ => ⟨S1x64, .f32⟩
  | .hbm, ⟨44, _⟩ => ⟨S512x64, .f32⟩
  | .hbm, ⟨45, _⟩ => ⟨S512x64, .f32⟩
  | .hbm, ⟨46, _⟩ => ⟨S1x64, .f32⟩
  | .hbm, ⟨47, _⟩ => ⟨S512x64, .f32⟩
  | .hbm, ⟨48, _⟩ => ⟨S512x64, .f32⟩
  | .hbm, ⟨49, _⟩ => ⟨S512x3x16, .f32⟩
  | .hbm, ⟨50, _⟩ => ⟨S_, .f32⟩
  | .hbm, ⟨51, _⟩ => ⟨S512x16, .f32⟩
  | .hbm, ⟨52, _⟩ => ⟨S512x1x16, .f32⟩
  | .hbm, ⟨53, _⟩ => ⟨S_, .f32⟩
  | .hbm, ⟨54, _⟩ => ⟨S512x1, .f32⟩
  | .hbm, ⟨55, _⟩ => ⟨S512x1x1, .f32⟩
  | .hbm, ⟨56, _⟩ => ⟨S_, .f32⟩
  | .hbm, ⟨57, _⟩ => ⟨S512x1x1, .f32⟩
  | .hbm, ⟨58, _⟩ => ⟨S512x1x1, .f32⟩
  | .hbm, ⟨59, _⟩ => ⟨S_, .f32⟩
  | .hbm, ⟨60, _⟩ => ⟨S512x1x1, .f32⟩
  | .hbm, ⟨61, _⟩ => ⟨S512x1x1, .f32⟩
  | .hbm, ⟨62, _⟩ => ⟨S512x1x1, .f32⟩
  | .hbm, ⟨63, _⟩ => ⟨S512x3x16, .f32⟩
  | .hbm, ⟨64, _⟩ => ⟨S512x3x16, .f32⟩
  | .hbm, ⟨65, _⟩ => ⟨S512x3, .bf16⟩
  | .hbm, ⟨66, _⟩ => ⟨S512x3, .f32⟩
  | .hbm, ⟨67, _⟩ => ⟨S512x48, .f32⟩
  | .hbm, ⟨68, _⟩ => ⟨S512x3, .f32⟩
  | .hbm, ⟨69, _⟩ => ⟨S_, .f32⟩
  | .hbm, ⟨70, _⟩ => ⟨S512x10, .f32⟩
  | .hbm, ⟨71, _⟩ => ⟨S512x128, .f32⟩
  | _, _ => ⟨S512x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_call0_cst : Ref sig .tc := ⟨.hbm, 12, rfl⟩
abbrev main_call0_v0 : Ref sig .tc := ⟨.hbm, 13, rfl⟩
abbrev main_call0_v1 : Ref sig .tc := ⟨.hbm, 14, rfl⟩
abbrev main_call0_cst_0 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_v6 : Ref sig .tc := ⟨.hbm, 20, rfl⟩
abbrev main_call0_v7 : Ref sig .tc := ⟨.hbm, 21, rfl⟩
abbrev main_call0_cst_1 : Ref sig .tc := ⟨.hbm, 22, rfl⟩
abbrev main_call0_v8 : Ref sig .tc := ⟨.hbm, 23, rfl⟩
abbrev main_call0_cst_2 : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_v12 : Ref sig .tc := ⟨.hbm, 28, rfl⟩
abbrev main_call0_cst_3 : Ref sig .tc := ⟨.hbm, 29, rfl⟩
abbrev main_call0_v13 : Ref sig .tc := ⟨.hbm, 30, rfl⟩
abbrev main_call0_cst_4 : Ref sig .tc := ⟨.hbm, 31, rfl⟩
abbrev main_call0_call0_v0 : Ref sig .tc := ⟨.hbm, 32, rfl⟩
abbrev main_call0_call0_v1 : Ref sig .tc := ⟨.hbm, 33, rfl⟩
abbrev main_v4 : Ref sig .tc := ⟨.hbm, 34, rfl⟩
abbrev main_v5 : Ref sig .tc := ⟨.hbm, 35, rfl⟩
abbrev main_v6 : Ref sig .tc := ⟨.hbm, 36, rfl⟩
abbrev main_cst_1 : Ref sig .tc := ⟨.hbm, 37, rfl⟩
abbrev main_v7 : Ref sig .tc := ⟨.hbm, 38, rfl⟩
abbrev main_v8 : Ref sig .tc := ⟨.hbm, 39, rfl⟩
abbrev main_v9 : Ref sig .tc := ⟨.hbm, 40, rfl⟩
abbrev main_v10 : Ref sig .tc := ⟨.hbm, 41, rfl⟩
abbrev main_v11 : Ref sig .tc := ⟨.hbm, 42, rfl⟩
abbrev main_v12 : Ref sig .tc := ⟨.hbm, 43, rfl⟩
abbrev main_v13 : Ref sig .tc := ⟨.hbm, 44, rfl⟩
abbrev main_v14 : Ref sig .tc := ⟨.hbm, 45, rfl⟩
abbrev main_v15 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_cst_2 : Ref sig .tc := ⟨.hbm, 50, rfl⟩
abbrev main_v19 : Ref sig .tc := ⟨.hbm, 51, rfl⟩
abbrev main_v20 : Ref sig .tc := ⟨.hbm, 52, rfl⟩
abbrev main_cst_3 : Ref sig .tc := ⟨.hbm, 53, rfl⟩
abbrev main_v21 : Ref sig .tc := ⟨.hbm, 54, rfl⟩
abbrev main_v22 : Ref sig .tc := ⟨.hbm, 55, rfl⟩
abbrev main_cst_4 : Ref sig .tc := ⟨.hbm, 56, rfl⟩
abbrev main_v23 : Ref sig .tc := ⟨.hbm, 57, rfl⟩
abbrev main_v24 : Ref sig .tc := ⟨.hbm, 58, rfl⟩
abbrev main_cst_5 : Ref sig .tc := ⟨.hbm, 59, rfl⟩
abbrev main_v25 : Ref sig .tc := ⟨.hbm, 60, rfl⟩
abbrev main_v26 : Ref sig .tc := ⟨.hbm, 61, rfl⟩
abbrev main_v27 : Ref sig .tc := ⟨.hbm, 62, rfl⟩
abbrev main_v28 : Ref sig .tc := ⟨.hbm, 63, rfl⟩
abbrev main_v29 : Ref sig .tc := ⟨.hbm, 64, rfl⟩
abbrev main_v30 : Ref sig .tc := ⟨.hbm, 65, rfl⟩
abbrev main_v31 : Ref sig .tc := ⟨.hbm, 66, rfl⟩
abbrev main_v32 : Ref sig .tc := ⟨.hbm, 67, rfl⟩
abbrev main_v33 : Ref sig .tc := ⟨.hbm, 68, rfl⟩
abbrev main_cst_6 : Ref sig .tc := ⟨.hbm, 69, rfl⟩
abbrev main_v34 : Ref sig .tc := ⟨.hbm, 70, rfl⟩
abbrev main_v35 : Ref sig .tc := ⟨.hbm, 71, rfl⟩

abbrev nD : Nat := 1
abbrev τ : Topo := Topo.v7x

variable {F : FTy → Type} [FloatOps F]
-- ==== Proof.Spec.lean ====
module
public import Idealize.ShloMosaic.Lib.Pointwise
public import Idealize.ShloMosaic.Lib.Pipeline.ValueKit
@[expose] public section
noncomputable section
set_option maxRecDepth 16384
open Idealize.ShloMosaic Idealize.ShloMosaic.TcCoe Idealize.SL.Sem

/-! One layer of the network, over plain functions of node, edge and channel numbers. -/
namespace Spec

/-- The sigmoid-weighted unit. -/
def silu (x : EReal) : EReal := x * Ideal.logistic x

/-- The layer norm of one row of node scalars, scaled by `g` and shifted by `b`. -/
def normS (g b s : Fin 64 → EReal) (l : Fin 64) : EReal :=
  Ideal.div (s l - Ideal.div (∑ k, s k) (Ideal.ofBits FTy.f32 0x42800000#32))
      (Ideal.sqrt (Ideal.div (∑ k, (s k - Ideal.div (∑ k, s k) (Ideal.ofBits FTy.f32 0x42800000#32))
          * (s k - Ideal.div (∑ k, s k) (Ideal.ofBits FTy.f32 0x42800000#32))) (Ideal.ofBits FTy.f32 0x42800000#32)
        + Ideal.ofBits FTy.f32 0x3727C5AC#32)) * g l + b l

/-- The root-mean-square norm of one row of node vectors (48 numbers: three components of 16 channels). -/
def normV (v : Fin 48 → EReal) (j : Fin 48) : EReal :=
  Ideal.div (v j) (Ideal.sqrt (Ideal.div (∑ k, v k * v k) (Ideal.ofBits FTy.f32 0x41800000#32)
    + Ideal.ofBits FTy.f32 0x358637BD#32))

/-- The pre-activation message of one edge: its source's and target's scalars, its features, its length
    and the inner product of its ends' positions, through one dense layer. -/
def msg (sa sb : Fin 64 → EReal) (e : Fin 16 → EReal) (d a : EReal) (W : Fin 146 → Fin 113 → EReal)
    (b : Fin 113 → EReal) (l : Fin 113) : EReal :=
  (∑ k : Fin 64, sa k * W ⟨k.val, by omega⟩ l) + (∑ k : Fin 64, sb k * W ⟨64 + k.val, by omega⟩ l)
    + (∑ k : Fin 16, e k * W ⟨128 + k.val, by omega⟩ l) + d * W 144 l + a * W 145 l + b l

/-- What one edge contributes to its target, as 128 columns: scalars, vectors, displacement, a count of one,
    zeros. -/
def pay (m : Fin 113 → EReal) (vs : Fin 48 → EReal) (rn : Fin 3 → EReal) (l : Fin 128) : EReal :=
  if h : l.val < 64 then silu (m ⟨l.val, by omega⟩)
  else if h : l.val < 112 then
    vs ⟨l.val - 64, by omega⟩ * m ⟨64 + (l.val - 64) % 16, by omega⟩
      + rn ⟨(l.val - 64) / 16, by omega⟩ * m ⟨80 + (l.val - 64) % 16, by omega⟩
  else if h : l.val < 115 then rn ⟨l.val - 112, by omega⟩ * Ideal.tanh (m 112)
  else if l.val = 115 then 1 else 0

/-- The average at column `l` of what arrived at a node, `A` the sums and column 115 the count. -/
def mean (A : Fin 128 → EReal) (l : Fin 128) : EReal := Ideal.div (A l) (max (A 115) 1)

/-- The next scalars of a node. -/
def nextS (sn : Fin 64 → EReal) (A : Fin 128 → EReal) (Wu : Fin 64 → Fin 64 → EReal) (l : Fin 64) : EReal :=
  sn l + ∑ k : Fin 64, mean A ⟨k.val, by omega⟩ * Wu k l

/-- The next vectors of a node. -/
def nextV (vn : Fin 48 → EReal) (A : Fin 128 → EReal) (j : Fin 48) : EReal := vn j + mean A ⟨64 + j.val, by omega⟩

/-- The moved position of a node, before centring. -/
def midP (p : Fin 3 → EReal) (A : Fin 128 → EReal) (c : Fin 3) : EReal := p c + mean A ⟨112 + c.val, by omega⟩

/-- Positions less the mean of their molecule. -/
def center (bt : Fin 512 → Fin 16) (pm : Fin 512 → Fin 3 → EReal) (n : Fin 512) (c : Fin 3) : EReal :=
  pm n c - Ideal.div (∑ k, if bt k = bt n then pm k c else 0) (max (∑ k, if bt k = bt n then 1 else 0) 1)

/-- The displacement along an edge. -/
def disp (pa pb : Fin 3 → EReal) (c : Fin 3) : EReal := pb c - pa c

/-- The length of an edge, kept away from zero. -/
def dist (pa pb : Fin 3 → EReal) : EReal :=
  Ideal.sqrt (max (Ideal.ofBits FTy.f32 0x358637BD#32) (∑ c, disp pa pb c * disp pa pb c))

/-- The inner product of the two positions of an edge. -/
def inner (pa pb : Fin 3 → EReal) : EReal := ∑ c, pa c * pb c

/-- The unit vector along an edge. -/
def unit (pa pb : Fin 3 → EReal) (c : Fin 3) : EReal := Ideal.div (disp pa pb c) (dist pa pb)

/-- The sums that arrive at node `n`: over the edges whose target is `n`. -/
def agg {E : ℕ} (dst : Fin E → Fin 512) (f : Fin E → Fin 128 → EReal) (n : Fin 512) (l : Fin 128) : EReal :=
  ∑ x, if dst x = n then f x l else 0

/-- A sum over the 146 inputs of the dense layer, piece by piece. -/
theorem sum146 (f : Fin 146 → EReal) : ∑ k, f k = (∑ k : Fin 64, f ⟨k.val, by omega⟩) + (∑ k : Fin 64, f ⟨64 + k.val, by omega⟩)
    + (∑ k : Fin 16, f ⟨128 + k.val, by omega⟩) + f 144 + f 145 := by
  rw [Fin.sum_univ_castSucc (n := 145), Fin.sum_univ_castSucc (n := 144)]
  refine congrArg (· + f 145) (congrArg (· + f 144) ?_)
  rw [Fin.sum_univ_add (a := 128) (b := 16), Fin.sum_univ_add (a := 64) (b := 64)]
  rfl

/-- A sum over 48 numbers, by component and channel. -/
theorem sum48 (f : Fin 48 → EReal) : ∑ j, f j = ∑ k : Fin 16, ∑ c : Fin 3, f ⟨16 * c.val + k.val, by omega⟩ := by
  rw [Finset.sum_comm, ← (finProdFinEquiv (m := 3) (n := 16)).sum_comp, Fintype.sum_prod_type]
  refine Finset.sum_congr rfl fun c _ => Finset.sum_congr rfl fun k _ => congrArg f (Fin.ext ?_)
  show k.val + 16 * c.val = 16 * c.val + k.val
  omega

/-- A one-hot sum picks its term. -/
theorem sum_pick {n : ℕ} (s : Fin n) (f : Fin n → EReal) : (∑ x, (if x = s then (1 : EReal) else 0) * f x) = f s := by
  rw [Finset.sum_eq_single s]
  · simp
  · intro b _ hb; simp [hb]
  · intro h; exact absurd (Finset.mem_univ _) h

/-- The comparison of two small 16-bit numbers, as a float. -/
theorem hot16 (x s : Fin 512) :
    FloatOps.sitofp (F := Ideal) FTy.f32 (BitVec.setWidth 32
      (IntOp.cmpi CmpIPredicate.eq (BitVec.ofNat 16 x.val) (BitVec.setWidth 16 (BitVec.ofNat 32 s.val))))
      = if x = s then 1 else 0 := by
  have h : (BitVec.ofNat 16 x.val = BitVec.setWidth 16 (BitVec.ofNat 32 s.val)) ↔ x = s := by
    constructor
    · intro h
      have := congrArg BitVec.toNat h
      simp at this
      ext
      omega
    · rintro rfl
      apply BitVec.eq_of_toNat_eq
      simp
  by_cases hx : x = s
  · rw [if_pos hx, show IntOp.cmpi CmpIPredicate.eq (BitVec.ofNat 16 x.val) (BitVec.setWidth 16 (BitVec.ofNat 32 s.val)) = 1#1 by
      simp [IntOp.cmpi, h.2 hx]]
    show (((BitVec.setWidth 32 1#1).toInt : ℝ) : EReal) = 1
    norm_num
  · rw [if_neg hx, show IntOp.cmpi CmpIPredicate.eq (BitVec.ofNat 16 x.val) (BitVec.setWidth 16 (BitVec.ofNat 32 s.val)) = 0#1 by
      show BitVec.ofBool (_ == _) = 0#1
      rw [beq_eq_false_iff_ne.2 (mt h.1 hx)]; rfl]
    show (((BitVec.setWidth 32 0#1).toInt : ℝ) : EReal) = 0
    norm_num

/-- The comparison of a lane number with a molecule number, as a float. -/
theorem hot32 (x : Fin 128) (s : Fin 16) :
    FloatOps.sitofp (F := Ideal) FTy.f32 (BitVec.setWidth 32
      (IntOp.cmpi CmpIPredicate.eq (BitVec.ofNat 32 x.val) (BitVec.ofNat 32 s.val)))
      = if x.val = s.val then 1 else 0 := by
  have h : (BitVec.ofNat 32 x.val = BitVec.ofNat 32 s.val) ↔ x.val = s.val := by
    constructor
    · intro h
      have := congrArg BitVec.toNat h
      simp at this
      omega
    · intro h; rw [h]
  by_cases hx : x.val = s.val
  · rw [if_pos hx, show IntOp.cmpi CmpIPredicate.eq (BitVec.ofNat 32 x.val) (BitVec.ofNat 32 s.val) = 1#1 by
      simp [IntOp.cmpi, h.2 hx]]
    show (((BitVec.setWidth 32 1#1).toInt : ℝ) : EReal) = 1
    norm_num
  · rw [if_neg hx, show IntOp.cmpi CmpIPredicate.eq (BitVec.ofNat 32 x.val) (BitVec.ofNat 32 s.val) = 0#1 by
      show BitVec.ofBool (_ == _) = 0#1
      rw [beq_eq_false_iff_ne.2 (mt h.1 hx)]; rfl]
    show (((BitVec.setWidth 32 0#1).toInt : ℝ) : EReal) = 0
    norm_num

/-- A sum of zeros and ones is a natural number. -/
theorem count_nat {E : ℕ} (P : Fin E → Prop) [DecidablePred P] :
    ∃ k : ℕ, (∑ x, if P x then (1 : EReal) else 0) = ((k : ℝ) : EReal) := by
  refine ⟨(Finset.univ.filter P).card, ?_⟩
  rw [Finset.sum_boole]
  simp

/-- A count kept above one is a nonzero real. -/
theorem max_count {E : ℕ} (P : Fin E → Prop) [DecidablePred P] :
    ∃ r : ℝ, r ≠ 0 ∧ max (∑ x, if P x then (1 : EReal) else 0) 1 = (r : EReal) := by
  obtain ⟨k, hk⟩ := count_nat P
  refine ⟨max (k : ℝ) 1, ne_of_gt (lt_of_lt_of_le one_pos (le_max_right _ _)), ?_⟩
  rw [hk, ← EReal.coe_one]
  exact (EReal.coe_strictMono.monotone.map_max).symm

/-- Multiplying by the reciprocal of a nonzero real is dividing by it. -/
theorem mul_inv_real {x y : EReal} (h : ∃ r : ℝ, r ≠ 0 ∧ y = (r : EReal)) : x * Ideal.div 1 y = Ideal.div x y := by
  obtain ⟨r, hr, rfl⟩ := h
  rw [Ideal.div_coe hr, Ideal.div_coe hr, one_mul]

/-- The column of ones gathers the number of edges into a node. -/
theorem agg_count {E : ℕ} (dst : Fin E → Fin 512) (m : Fin E → Fin 113 → EReal) (vs : Fin E → Fin 48 → EReal)
    (rn : Fin E → Fin 3 → EReal) (n : Fin 512) :
    agg dst (fun x => pay (m x) (vs x) (rn x)) n 115 = ∑ x, if dst x = n then 1 else 0 := by
  unfold agg
  refine Finset.sum_congr rfl fun x _ => ?_
  rfl

/-- The scalar columns of the sums. -/
theorem agg_s {E : ℕ} (dst : Fin E → Fin 512) (m : Fin E → Fin 113 → EReal) (vs : Fin E → Fin 48 → EReal)
    (rn : Fin E → Fin 3 → EReal) (n : Fin 512) (l : Fin 64) :
    agg dst (fun x => pay (m x) (vs x) (rn x)) n ⟨l.val, by omega⟩ = ∑ x, if dst x = n then silu (m x ⟨l.val, by omega⟩) else 0 := by
  refine Finset.sum_congr rfl fun x _ => ?_
  beta_reduce
  unfold pay
  rw [dif_pos l.isLt]

/-- The vector columns of the sums. -/
theorem agg_v {E : ℕ} (dst : Fin E → Fin 512) (m : Fin E → Fin 113 → EReal) (vs : Fin E → Fin 48 → EReal)
    (rn : Fin E → Fin 3 → EReal) (n : Fin 512) (j : Fin 48) :
    agg dst (fun x => pay (m x) (vs x) (rn x)) n ⟨64 + j.val, by omega⟩ = ∑ x, if dst x = n then
      vs x j * m x ⟨64 + j.val % 16, by omega⟩ + rn x ⟨j.val / 16, by omega⟩ * m x ⟨80 + j.val % 16, by omega⟩ else 0 := by
  refine Finset.sum_congr rfl fun x _ => ?_
  beta_reduce
  unfold pay
  rw [dif_neg (by show ¬ 64 + j.val < 64; omega), dif_pos (by show 64 + j.val < 112; omega)]
  have e : 64 + j.val - 64 = j.val := by omega
  simp only [e]

/-- The displacement columns of the sums. -/
theorem agg_p {E : ℕ} (dst : Fin E → Fin 512) (m : Fin E → Fin 113 → EReal) (vs : Fin E → Fin 48 → EReal)
    (rn : Fin E → Fin 3 → EReal) (n : Fin 512) (c : Fin 3) :
    agg dst (fun x => pay (m x) (vs x) (rn x)) n ⟨112 + c.val, by omega⟩ = ∑ x, if dst x = n then
      rn x c * Ideal.tanh (m x 112) else 0 := by
  refine Finset.sum_congr rfl fun x _ => ?_
  beta_reduce
  unfold pay
  rw [dif_neg (by show ¬ 112 + c.val < 64; omega), dif_neg (by show ¬ 112 + c.val < 112; omega), dif_pos (by show 112 + c.val < 115; omega)]
  have e : 112 + c.val - 112 = c.val := by omega
  simp only [e]

/-- Sixty-four is positive. -/
theorem pos64 : (0 : EReal) < Ideal.ofBits FTy.f32 0x42800000#32 := by
  rw [show Ideal.ofBits FTy.f32 0x42800000#32 = ((64 : ℝ) : EReal) by
    simp [Ideal.ofBits, Ideal.ieee, -EReal.coe_mul]; norm_num]
  exact EReal.coe_pos.2 (by norm_num)
end Spec
-- ==== Proof.Body.lean ====
module
public import proofs.«01_k».proof.Proof.Gen.KernelIdeal.Skeleton
public import proofs.«01_k».proof.Proof.Spec
@[expose] public section
noncomputable section
set_option maxRecDepth 16384
open Idealize.ShloMosaic Idealize.ShloMosaic.TcCoe Idealize.SL.Sem

/-! What the edge kernel's values are, entry by entry. -/
namespace Cert.KernelIdeal.Gen

/-- The gathered rows at the source words are the source nodes' rows. -/
theorem gs_apply (T : Vec Ideal S512x128 .f32) (y : Vec Ideal S1x1024x1 .i32) (src : Fin 1024 → Fin 512)
    (hy : ∀ t, y (ix3 0 t 0) = BitVec.ofNat 32 (src t).val) (t : Fin 1024) (l : Fin 128) :
    k0_pay16 (F := Ideal) T y (ix2 t l) = T (ix2 (src t) l) := by
  pointwise [k0_pay16, k0_pay15]
  rw [hy]
  simp only [Spec.hot16]
  exact Spec.sum_pick (src t) fun x => T (ix2 x l)

/-- The gathered rows at the target words are the target nodes' rows. -/
theorem gd_apply (T : Vec Ideal S512x128 .f32) (y : Vec Ideal S1x1024x1 .i32) (dst : Fin 1024 → Fin 512)
    (hy : ∀ t, y (ix3 0 t 0) = BitVec.ofNat 32 (dst t).val) (t : Fin 1024) (l : Fin 128) :
    k0_pay17 (F := Ideal) T y (ix2 t l) = T (ix2 (dst t) l) := by
  pointwise [k0_pay17, k0_pay15]
  rw [hy]
  simp only [Spec.hot16]
  exact Spec.sum_pick (dst t) fun x => T (ix2 x l)

/-- The target indicator. -/
theorem ohd_apply (y : Vec Ideal S1x1x1024 .i32) (dst : Fin 1024 → Fin 512)
    (hy : ∀ t, y (ix3 0 0 t) = BitVec.ofNat 32 (dst t).val) (n : Fin 512) (t : Fin 1024) :
    k0_pay14 (F := Ideal) y (ix2 n t) = if n = dst t then 1 else 0 := by
  pointwise [k0_pay14]
  rw [hy]
  exact Spec.hot16 _ _

/-- The position a table row holds, as the sum of its two parts. -/
def tblP (T : Vec Ideal S512x128 .f32) (n : Fin 512) (c : Fin 3) : EReal :=
  T (ix2 n ⟨112 + c.val, by omega⟩) + T (ix2 n ⟨115 + c.val, by omega⟩)

/-- The scalars a table row holds. -/
def tblS (T : Vec Ideal S512x128 .f32) (n : Fin 512) (l : Fin 64) : EReal := T (ix2 n ⟨l.val, by omega⟩)

/-- The vectors a table row holds. -/
def tblV (T : Vec Ideal S512x128 .f32) (n : Fin 512) (l : Fin 48) : EReal := T (ix2 n ⟨64 + l.val, by omega⟩)

/-- The length of an edge of the block. -/
theorem d_apply (T : Vec Ideal S512x128 .f32) (y z : Vec Ideal S1x1024x1 .i32) (src dst : Fin 1024 → Fin 512)
    (hy : ∀ t, y (ix3 0 t 0) = BitVec.ofNat 32 (src t).val) (hz : ∀ t, z (ix3 0 t 0) = BitVec.ofNat 32 (dst t).val)
    (t : Fin 1024) : k0_pay21 (F := Ideal) T y z (ix2 t 0) = Spec.dist (tblP T (src t)) (tblP T (dst t)) := by
  pointwise [k0_pay21, k0_pay20, k0_pay18, k0_pay19]
  simp only [gs_apply T y src hy, gd_apply T z dst hz]
  rfl

/-- The unit vector along an edge of the block. -/
theorem rn_apply (T : Vec Ideal S512x128 .f32) (y z : Vec Ideal S1x1024x1 .i32) (src dst : Fin 1024 → Fin 512)
    (hy : ∀ t, y (ix3 0 t 0) = BitVec.ofNat 32 (src t).val) (hz : ∀ t, z (ix3 0 t 0) = BitVec.ofNat 32 (dst t).val)
    (t : Fin 1024) (c : Fin 3) : k0_pay23 (F := Ideal) (k0_pay20 T y z) (k0_pay21 T y z) (ix2 t c)
      = Spec.unit (tblP T (src t)) (tblP T (dst t)) c := by
  pointwise [k0_pay23]
  rw [d_apply T y z src dst hy hz]
  pointwise [k0_pay20, k0_pay18, k0_pay19]
  simp only [gs_apply T y src hy, gd_apply T z dst hz]
  rfl

/-- The message of an edge of the block at a column that is used. -/
theorem m_apply (T : Vec Ideal S512x128 .f32) (y z : Vec Ideal S1x1024x1 .i32) (src dst : Fin 1024 → Fin 512)
    (hy : ∀ t, y (ix3 0 t 0) = BitVec.ofNat 32 (src t).val) (hz : ∀ t, z (ix3 0 t 0) = BitVec.ofNat 32 (dst t).val)
    (e : Vec Ideal S1024x16 .f32) (w1 w2 : Vec Ideal S64x128 .f32) (w3 : Vec Ideal S16x128 .f32)
    (wd wa wb : Vec Ideal S1x128 .f32) (W : Fin 146 → Fin 113 → EReal) (b : Fin 113 → EReal)
    (h1 : ∀ (k : Fin 64) (l : Fin 113), w1 (ix2 k ⟨l.val, by omega⟩) = W ⟨k.val, by omega⟩ l)
    (h2 : ∀ (k : Fin 64) (l : Fin 113), w2 (ix2 k ⟨l.val, by omega⟩) = W ⟨64 + k.val, by omega⟩ l)
    (h3 : ∀ (k : Fin 16) (l : Fin 113), w3 (ix2 k ⟨l.val, by omega⟩) = W ⟨128 + k.val, by omega⟩ l)
    (hd : ∀ (l : Fin 113), wd (ix2 0 ⟨l.val, by omega⟩) = W 144 l)
    (ha : ∀ (l : Fin 113), wa (ix2 0 ⟨l.val, by omega⟩) = W 145 l)
    (hb : ∀ (l : Fin 113), wb (ix2 0 ⟨l.val, by omega⟩) = b l)
    (t : Fin 1024) (l : Fin 113) :
    k0_pay24 (F := Ideal) (k0_pay16 T y) (k0_pay17 T z) (k0_pay21 T y z) (k0_pay22 T y z) e w1 w2 w3 wd wa wb
        (ix2 t ⟨l.val, by omega⟩)
      = Spec.msg (tblS T (src t)) (tblS T (dst t)) (fun k => e (ix2 t k))
          (Spec.dist (tblP T (src t)) (tblP T (dst t))) (Spec.inner (tblP T (src t)) (tblP T (dst t))) W b l := by
  pointwise [k0_pay24, k0_pay22, k0_pay18, k0_pay19]
  simp only [gs_apply T y src hy, gd_apply T z dst hz, d_apply T y z src dst hy hz, h1, h2, h3, hd, ha, hb]
  rfl

/-- The columns one edge adds, from the values the block holds for it. -/
theorem contrib_apply (ohd : Vec Ideal S512x1024 .bf16) (gs : Vec Ideal S1024x128 .f32) (rn : Vec Ideal S1024x3 .f32)
    (ms : Vec Ideal S1024x64 .f32) (gv gr : Vec Ideal S1024x16 .f32) (gp : Vec Ideal S1024x1 .f32)
    (acc : Vec Ideal S512x128 .f32) (dst : Fin 1024 → Fin 512) (m : Fin 1024 → Fin 113 → EReal)
    (ho : ∀ n t, ohd (ix2 n t) = if n = dst t then 1 else 0)
    (hms : ∀ t (l : Fin 64), ms (ix2 t l) = Spec.silu (m t ⟨l.val, by omega⟩))
    (hgv : ∀ t (l : Fin 16), gv (ix2 t l) = m t ⟨64 + l.val, by omega⟩)
    (hgr : ∀ t (l : Fin 16), gr (ix2 t l) = m t ⟨80 + l.val, by omega⟩)
    (hgp : ∀ t, gp (ix2 t 0) = m t 112) (n : Fin 512) (l : Fin 128) :
    k0_pay3 (F := Ideal) ohd gs rn ms gv gr gp acc (ix2 n l) = acc (ix2 n l)
      + ∑ t, if dst t = n then Spec.pay (m t) (fun j => gs (ix2 t ⟨64 + j.val, by omega⟩)) (fun c => rn (ix2 t c)) l else 0 := by
  pointwise [k0_pay3]
  refine Ideal.add_congr rfl (Finset.sum_congr rfl fun t _ => ?_)
  rw [ho]
  by_cases hn : dst t = n
  swap
  · rw [if_neg hn, if_neg (fun h => hn h.symm), zero_mul]
  rw [if_pos hn, if_pos hn.symm, one_mul]
  simp only [hms, hgv, hgr, hgp]
  unfold Spec.pay
  obtain ⟨l, hl⟩ := l
  by_cases h64 : l < 64
  · simp [h64]
  by_cases h112 : l < 112
  · have e1 : l - 64 < 48 := by omega
    simp only [h64, h112, e1, dite_true, dite_false]
    by_cases c0 : l - 64 < 16
    · have a1 : (l - 64) % 16 = l - 64 := by omega
      have a2 : (l - 64) / 16 = 0 := by omega
      simp only [c0, dite_true, a1, a2]
      rfl
    by_cases c1 : l - 64 - 16 < 16
    · have a1 : (l - 64) % 16 = l - 64 - 16 := by omega
      have a2 : (l - 64) / 16 = 1 := by omega
      simp only [c0, c1, dite_true, dite_false, a1, a2]
      rfl
    · have a1 : (l - 64) % 16 = l - 64 - 16 - 16 := by omega
      have a2 : (l - 64) / 16 = 2 := by omega
      simp only [c0, c1, dite_false, a1, a2]
      rfl
  have e1 : ¬ l - 64 < 48 := by omega
  by_cases h115 : l < 115
  · have e2 : l - 64 - 48 < 3 := by omega
    have e3 : l - 64 - 48 = l - 112 := by omega
    have e4 : l - 112 < 3 := by omega
    simp only [h64, h112, h115, e1, e2, dite_true, dite_false, e3, e4]
  have e2 : ¬ l - 64 - 48 < 3 := by omega
  by_cases h5 : l = 115
  · subst h5; rfl
  · have e3 : ¬ l - 64 - 48 - 3 < 1 := by omega
    simp only [h64, h112, h115, e1, e2, h5, e3, dite_false, if_false]

/-- The inverse count at a node. -/
theorem inv_apply (A : Vec Ideal S512x128 .f32) (n : Fin 512) :
    k0_pay5 (F := Ideal) A (ix2 n 0) = Ideal.div 1 (max (A (ix2 n 115)) 1) := by
  pointwise [k0_pay5]

/-- The next scalars. -/
theorem s_apply (T A : Vec Ideal S512x128 .f32) (Wu : Vec Ideal S64x64 .f32)
    (hA : ∀ n, ∃ r : ℝ, r ≠ 0 ∧ max (A (ix2 n 115)) 1 = (r : EReal)) (n : Fin 512) (l : Fin 64) :
    k0_pay6 (F := Ideal) T A Wu (ix2 n l)
      = Spec.nextS (tblS T n) (fun l => A (ix2 n l)) (fun k l => Wu (ix2 k l)) l := by
  pointwise [k0_pay6]
  simp only [inv_apply, Spec.mul_inv_real (hA n)]
  rfl

/-- The next vectors. -/
theorem v_apply (T A : Vec Ideal S512x128 .f32)
    (hA : ∀ n, ∃ r : ℝ, r ≠ 0 ∧ max (A (ix2 n 115)) 1 = (r : EReal)) (n : Fin 512) (l : Fin 48) :
    k0_pay7 (F := Ideal) T A (ix2 n l) = Spec.nextV (tblV T n) (fun l => A (ix2 n l)) l := by
  pointwise [k0_pay7]
  simp only [inv_apply, Spec.mul_inv_real (hA n)]
  rfl

/-- The next positions. -/
theorem p_apply (T A : Vec Ideal S512x128 .f32) (B : Vec Ideal S512x1 .i32) (bt : Fin 512 → Fin 16)
    (hB : ∀ n, B (ix2 n 0) = BitVec.ofNat 32 (bt n).val)
    (hA : ∀ n, ∃ r : ℝ, r ≠ 0 ∧ max (A (ix2 n 115)) 1 = (r : EReal)) (n : Fin 512) (c : Fin 3) :
    k0_pay8 (F := Ideal) T A B (ix2 n c)
      = Spec.center bt (fun n => Spec.midP (tblP T n) fun l => A (ix2 n l)) n c := by
  pointwise [k0_pay8]
  simp only [inv_apply, Spec.mul_inv_real (hA _), hB, Spec.hot32]
  have key : ∀ f : Fin 128 → EReal, (∑ x : Fin 128, (if x.val = (bt n).val then (1 : EReal) else 0) * f x)
      = f ⟨(bt n).val, by omega⟩ := by
    intro f
    rw [← Spec.sum_pick ⟨(bt n).val, by omega⟩ f]
    refine Finset.sum_congr rfl fun x _ => ?_
    simp [Fin.ext_iff]
  rw [key]
  have hbt : ∀ k, ((bt n).val = (bt k).val) ↔ bt k = bt n := fun k => by rw [Fin.ext_iff]; exact eq_comm
  simp only [hbt]
  rw [Spec.mul_inv_real (Spec.max_count _)]
  simp only [ite_mul, one_mul, zero_mul]
  rfl

/-- The normalised next scalars. -/
theorem sn_apply (s : Vec Ideal S512x64 .f32) (g b : Vec Ideal S1x64 .f32) (n : Fin 512) (l : Fin 64) :
    k0_pay10 (F := Ideal) s g b (ix2 n l)
      = Spec.normS (fun l => g (ix2 0 l)) (fun l => b (ix2 0 l)) (fun l => s (ix2 n l)) l := by
  pointwise [k0_pay10]
  rfl

/-- The normalised next vectors. -/
theorem vn_apply (v : Vec Ideal S512x48 .f32) (n : Fin 512) (l : Fin 48) :
    k0_pay11 (F := Ideal) v (ix2 n l) = Spec.normV (fun l => v (ix2 n l)) l := by
  pointwise [k0_pay11]
  rfl

end Cert.KernelIdeal.Gen
-- ==== Proof.Layer.lean ====
module
public import proofs.«01_k».proof.Proof.Spec
@[expose] public section
noncomputable section
set_option maxRecDepth 16384
open Idealize.ShloMosaic Idealize.ShloMosaic.TcCoe Idealize.SL.Sem

/-! One layer as a whole: messages, sums, next state, and the rows both programs return. -/
namespace Spec

variable {E : ℕ}

/-- The message of every edge. -/
def msgs (src dst : Fin E → Fin 512) (s : Fin 512 → Fin 64 → EReal) (e : Fin E → Fin 16 → EReal) (d a : Fin E → EReal)
    (W : Fin 146 → Fin 113 → EReal) (b : Fin 113 → EReal) (x : Fin E) : Fin 113 → EReal :=
  msg (s (src x)) (s (dst x)) (e x) (d x) (a x) W b

/-- What arrives at every node. -/
def sums (src dst : Fin E → Fin 512) (v : Fin 512 → Fin 48 → EReal) (m : Fin E → Fin 113 → EReal)
    (rn : Fin E → Fin 3 → EReal) : Fin 512 → Fin 128 → EReal :=
  agg dst fun x => pay (m x) (v (src x)) (rn x)

/-- A row of the next layer's table: scalars, vectors and a position in two parts. -/
def rowT (s : Fin 64 → EReal) (v : Fin 48 → EReal) (hi lo : Fin 3 → EReal) (l : Fin 128) : EReal :=
  if h : l.val < 64 then s ⟨l.val, h⟩
  else if h : l.val < 112 then v ⟨l.val - 64, by omega⟩
  else if h : l.val < 115 then hi ⟨l.val - 112, by omega⟩
  else if h : l.val < 118 then lo ⟨l.val - 115, by omega⟩
  else 0

/-- A row of the state: scalars, vectors and a position. -/
def rowS (s : Fin 64 → EReal) (v : Fin 48 → EReal) (p : Fin 3 → EReal) (l : Fin 128) : EReal :=
  if h : l.val < 64 then s ⟨l.val, h⟩
  else if h : l.val < 112 then v ⟨l.val - 64, by omega⟩
  else if h : l.val < 115 then p ⟨l.val - 112, by omega⟩
  else 0

/-- A table row written by the widths of its parts. -/
theorem rowT_chain (s : Fin 64 → EReal) (v : Fin 48 → EReal) (hi lo : Fin 3 → EReal) (l : Fin 128) :
    (if h : l.val < 64 then s ⟨l.val, h⟩ else if h : l.val - 64 < 48 then v ⟨l.val - 64, h⟩
      else if h : l.val - 64 - 48 < 3 then hi ⟨l.val - 64 - 48, h⟩
      else if h : l.val - 64 - 48 - 3 < 3 then lo ⟨l.val - 64 - 48 - 3, h⟩ else 0) = rowT s v hi lo l := by
  unfold rowT
  by_cases h1 : l.val < 64
  · rw [dif_pos h1, dif_pos h1]
  rw [dif_neg h1, dif_neg h1]
  by_cases h2 : l.val < 112
  · rw [dif_pos (by omega), dif_pos h2]
  rw [dif_neg (by omega), dif_neg h2]
  by_cases h3 : l.val < 115
  · rw [dif_pos (by omega), dif_pos h3]
    exact congrArg hi (Fin.ext (by show l.val - 64 - 48 = l.val - 112; omega))
  rw [dif_neg (by omega), dif_neg h3]
  by_cases h4 : l.val < 118
  · rw [dif_pos (by omega), dif_pos h4]
    exact congrArg lo (Fin.ext (by show l.val - 64 - 48 - 3 = l.val - 115; omega))
  rw [dif_neg (by omega), dif_neg h4]

/-- A state row written by the widths of its parts. -/
theorem rowS_chain (s : Fin 64 → EReal) (v : Fin 48 → EReal) (p : Fin 3 → EReal) (l : Fin 128) :
    (if h : l.val < 64 then s ⟨l.val, h⟩ else if h : l.val - 64 < 48 then v ⟨l.val - 64, h⟩
      else if h : l.val - 64 - 48 < 3 then p ⟨l.val - 64 - 48, h⟩ else 0) = rowS s v p l := by
  unfold rowS
  by_cases h1 : l.val < 64
  · rw [dif_pos h1, dif_pos h1]
  rw [dif_neg h1, dif_neg h1]
  by_cases h2 : l.val < 112
  · rw [dif_pos (by omega), dif_pos h2]
  rw [dif_neg (by omega), dif_neg h2]
  by_cases h3 : l.val < 115
  · rw [dif_pos (by omega), dif_pos h3]
    exact congrArg p (Fin.ext (by show l.val - 64 - 48 = l.val - 112; omega))
  rw [dif_neg (by omega), dif_neg h3]

/-- The next table row of a node from the sums `A` of all nodes. -/
def nextT (bt : Fin 512 → Fin 16) (s : Fin 512 → Fin 64 → EReal) (v : Fin 512 → Fin 48 → EReal) (p : Fin 512 → Fin 3 → EReal)
    (Wu : Fin 64 → Fin 64 → EReal) (g b : Fin 64 → EReal) (A : Fin 512 → Fin 128 → EReal) (n : Fin 512) : Fin 128 → EReal :=
  rowT (normS g b (nextS (s n) (A n) Wu)) (normV (nextV (v n) (A n))) (center bt (fun n => midP (p n) (A n)) n)
    fun c => center bt (fun n => midP (p n) (A n)) n c - center bt (fun n => midP (p n) (A n)) n c

/-- The next state row of a node from the sums `A` of all nodes. -/
def nextR (bt : Fin 512 → Fin 16) (s : Fin 512 → Fin 64 → EReal) (v : Fin 512 → Fin 48 → EReal) (p : Fin 512 → Fin 3 → EReal)
    (Wu : Fin 64 → Fin 64 → EReal) (A : Fin 512 → Fin 128 → EReal) (n : Fin 512) : Fin 128 → EReal :=
  rowS (nextS (s n) (A n) Wu) (nextV (v n) (A n)) (center bt (fun n => midP (p n) (A n)) n)

/-- The sums over all edges, block of 1024 by block. -/
theorem sums_blocks (f : Fin 262144 → EReal) :
    ∑ x, f x = ∑ t : Fin 256, ∑ j : Fin 1024, f ⟨1024 * t.val + j.val, by omega⟩ := by
  rw [← (finProdFinEquiv (m := 256) (n := 1024)).sum_comp f, Fintype.sum_prod_type]
  refine Finset.sum_congr rfl fun t _ => Finset.sum_congr rfl fun j _ => congrArg f (Fin.ext ?_)
  show j.val + 1024 * t.val = 1024 * t.val + j.val
  omega

end Spec
-- ==== Proof.Step.lean ====
module
public import proofs.«01_k».proof.Proof.Gen.KernelIdeal.Skeleton
public import proofs.«01_k».proof.Proof.Body
public import proofs.«01_k».proof.Proof.Layer
@[expose] public section
noncomputable section
set_option maxRecDepth 16384
open Idealize.ShloMosaic Idealize.ShloMosaic.TcCoe Idealize.SL.Sem

/-! What one grid point computes from its blocks, and its entries. -/
namespace Cert.KernelIdeal.Gen

/-- The messages of a block of edges. -/
def stepM (x0 x1 : Vec Ideal S1x1024x1 .i32) (x3 : Vec Ideal S1024x16 .f32) (x5 : Vec Ideal S512x128 .f32)
    (x6 x7 : Vec Ideal S64x128 .f32) (x8 : Vec Ideal S16x128 .f32) (x9 : Vec Ideal S8x128 .f32) : Vec Ideal S1024x128 .f32 :=
  k0_pay24 (F := Ideal) (k0_pay16 x5 x0) (k0_pay17 x5 x1) (k0_pay21 x5 x0 x1) (k0_pay22 x5 x0 x1) x3 x6 x7 x8
    (View.ld x9 (Rect.unit ![0, 0] S1x128.size inb_S8x128_S1x128_0_0))
    (View.ld x9 (Rect.unit ![1, 0] S1x128.size inb_S8x128_S1x128_1_0))
    (View.ld x9 (Rect.unit ![2, 0] S1x128.size inb_S8x128_S1x128_2_0))

/-- The accumulator after a block of edges, over what it was before. -/
def stepA (x0 x1 : Vec Ideal S1x1024x1 .i32) (x2 : Vec Ideal S1x1x1024 .i32) (x3 : Vec Ideal S1024x16 .f32)
    (x5 : Vec Ideal S512x128 .f32) (x6 x7 : Vec Ideal S64x128 .f32) (x8 : Vec Ideal S16x128 .f32)
    (x9 : Vec Ideal S8x128 .f32) (acc : Vec Ideal S512x128 .f32) : Vec Ideal S512x128 .f32 :=
  k0_pay3 (F := Ideal) (k0_pay14 x2) (k0_pay16 x5 x0) (k0_pay23 (k0_pay20 x5 x0 x1) (k0_pay21 x5 x0 x1))
    (mulf (extractStridedSlice S1024x64 ![0, 0] (stepM x0 x1 x3 x5 x6 x7 x8 x9) slices_S1024x128_o0_0_S1024x64)
      (logistic (extractStridedSlice S1024x64 ![0, 0] (stepM x0 x1 x3 x5 x6 x7 x8 x9) slices_S1024x128_o0_0_S1024x64)))
    (extractStridedSlice S1024x16 ![0, 64] (stepM x0 x1 x3 x5 x6 x7 x8 x9) slices_S1024x128_o0_64_S1024x16)
    (extractStridedSlice S1024x16 ![0, 80] (stepM x0 x1 x3 x5 x6 x7 x8 x9) slices_S1024x128_o0_80_S1024x16)
    (extractStridedSlice S1024x1 ![0, 112] (stepM x0 x1 x3 x5 x6 x7 x8 x9) slices_S1024x128_o0_112_S1024x1) acc

/-- The edge features of a block of edges. -/
def stepE (x0 x1 : Vec Ideal S1x1024x1 .i32) (x3 : Vec Ideal S1024x16 .f32) (x5 : Vec Ideal S512x128 .f32)
    (x6 x7 : Vec Ideal S64x128 .f32) (x8 : Vec Ideal S16x128 .f32) (x9 : Vec Ideal S8x128 .f32) : Vec Ideal S1024x16 .f32 :=
  mulf (F := Ideal) (φ := .f32) (extractStridedSlice S1024x16 ![0, 96] (stepM x0 x1 x3 x5 x6 x7 x8 x9) slices_S1024x128_o0_96_S1024x16)
    (logistic (extractStridedSlice S1024x16 ![0, 96] (stepM x0 x1 x3 x5 x6 x7 x8 x9) slices_S1024x128_o0_96_S1024x16))

/-- The next table, from the full accumulator. -/
def stepT (x5 : Vec Ideal S512x128 .f32) (x10 : Vec Ideal S64x64 .f32) (x11 : Vec Ideal S8x128 .f32)
    (x12 : Vec Ideal S512x1 .i32) (A : Vec Ideal S512x128 .f32) : Vec Ideal S512x128 .f32 :=
  k0_pay4 (F := Ideal) (k0_pay10 (k0_pay6 x5 A x10) (View.ld x11 (Rect.unit ![0, 0] S1x64.size inb_S8x128_S1x64_0_0))
      (View.ld x11 (Rect.unit ![1, 0] S1x64.size inb_S8x128_S1x64_1_0)))
    (k0_pay11 (k0_pay7 x5 A)) (k0_pay12 (k0_pay8 x5 A x12)) (k0_pay13 (k0_pay8 x5 A x12)) (FloatOps.ofBits FTy.f32 0#32)

/-- The next state, from the full accumulator. -/
def stepR (x5 : Vec Ideal S512x128 .f32) (x10 : Vec Ideal S64x64 .f32) (x12 : Vec Ideal S512x1 .i32)
    (A : Vec Ideal S512x128 .f32) : Vec Ideal S512x128 .f32 :=
  k0_pay9 (F := Ideal) (k0_pay6 x5 A x10) (k0_pay7 x5 A) (k0_pay8 x5 A x12) (FloatOps.ofBits FTy.f32 0#32)

section Entries

variable (x0 x1 : Vec Ideal S1x1024x1 .i32) (x2 : Vec Ideal S1x1x1024 .i32) (x3 : Vec Ideal S1024x16 .f32)
    (x5 : Vec Ideal S512x128 .f32) (x6 x7 : Vec Ideal S64x128 .f32) (x8 : Vec Ideal S16x128 .f32)
    (x9 : Vec Ideal S8x128 .f32)
    (src dst : Fin 1024 → Fin 512) (W : Fin 146 → Fin 113 → EReal) (b : Fin 113 → EReal)
    (hy : ∀ t, x0 (ix3 0 t 0) = BitVec.ofNat 32 (src t).val) (hz : ∀ t, x1 (ix3 0 t 0) = BitVec.ofNat 32 (dst t).val)
    (h2 : ∀ t, x2 (ix3 0 0 t) = BitVec.ofNat 32 (dst t).val)
    (hw1 : ∀ (k : Fin 64) (l : Fin 113), x6 (ix2 k ⟨l.val, Nat.lt_of_lt_of_le l.isLt (Nat.le_of_ble_eq_true rfl)⟩) = W ⟨k.val, Nat.lt_of_lt_of_le k.isLt (Nat.le_of_ble_eq_true rfl)⟩ l)
    (hw2 : ∀ (k : Fin 64) (l : Fin 113), x7 (ix2 k ⟨l.val, Nat.lt_of_lt_of_le l.isLt (Nat.le_of_ble_eq_true rfl)⟩) = W ⟨64 + k.val, Nat.lt_of_lt_of_le (Nat.add_lt_add_left k.isLt 64) (Nat.le_of_ble_eq_true rfl)⟩ l)
    (hw3 : ∀ (k : Fin 16) (l : Fin 113), x8 (ix2 k ⟨l.val, Nat.lt_of_lt_of_le l.isLt (Nat.le_of_ble_eq_true rfl)⟩) = W ⟨128 + k.val, Nat.lt_of_lt_of_le (Nat.add_lt_add_left k.isLt 128) (Nat.le_of_ble_eq_true rfl)⟩ l)
    (hd : ∀ (l : Fin 113), x9 (ix2 0 ⟨l.val, Nat.lt_of_lt_of_le l.isLt (Nat.le_of_ble_eq_true rfl)⟩) = W 144 l)
    (ha : ∀ (l : Fin 113), x9 (ix2 1 ⟨l.val, Nat.lt_of_lt_of_le l.isLt (Nat.le_of_ble_eq_true rfl)⟩) = W 145 l)
    (hb : ∀ (l : Fin 113), x9 (ix2 2 ⟨l.val, Nat.lt_of_lt_of_le l.isLt (Nat.le_of_ble_eq_true rfl)⟩) = b l)

/-- The messages the block's edges carry. -/
abbrev stepMsg (x3 : Vec Ideal S1024x16 .f32) (x5 : Vec Ideal S512x128 .f32) (src dst : Fin 1024 → Fin 512)
    (W : Fin 146 → Fin 113 → EReal) (b : Fin 113 → EReal) : Fin 1024 → Fin 113 → EReal :=
  Spec.msgs src dst (tblS x5) (fun t k => x3 (ix2 t k)) (fun t => Spec.dist (tblP x5 (src t)) (tblP x5 (dst t)))
    (fun t => Spec.inner (tblP x5 (src t)) (tblP x5 (dst t))) W b

include hy hz hw1 hw2 hw3 hd ha hb

/-- A block's messages at a used column. -/
theorem stepM_apply (t : Fin 1024) (l : Fin 113) :
    stepM x0 x1 x3 x5 x6 x7 x8 x9 (ix2 t ⟨l.val, by omega⟩) = stepMsg x3 x5 src dst W b t l := by
  unfold stepM
  refine m_apply x5 x0 x1 src dst hy hz x3 x6 x7 x8 _ _ _ W b hw1 hw2 hw3 (fun l => ?_) (fun l => ?_) (fun l => ?_) t l
  · exact (View.ld_unit_apply_of x9 _ _ _ _ _ (fun a => by match a with | ⟨0, _⟩ => rfl | ⟨1, _⟩ => exact (Nat.zero_add _).symm)).trans (hd l)
  · exact (View.ld_unit_apply_of x9 _ _ _ _ _ (fun a => by match a with | ⟨0, _⟩ => rfl | ⟨1, _⟩ => exact (Nat.zero_add _).symm)).trans (ha l)
  · exact (View.ld_unit_apply_of x9 _ _ _ _ _ (fun a => by match a with | ⟨0, _⟩ => rfl | ⟨1, _⟩ => exact (Nat.zero_add _).symm)).trans (hb l)

/-- A block's edge features. -/
theorem stepE_apply (t : Fin 1024) (l : Fin 16) :
    stepE x0 x1 x3 x5 x6 x7 x8 x9 (ix2 t l) = Spec.silu (stepMsg x3 x5 src dst W b t ⟨96 + l.val, by omega⟩) := by
  pointwise [stepE]
  rw [stepM_apply x0 x1 x3 x5 x6 x7 x8 x9 src dst W b hy hz hw1 hw2 hw3 hd ha hb t ⟨96 + l.val, by omega⟩]
  rfl

include h2

/-- The accumulator's entries after a block: what was there plus what the block's edges bring. -/
theorem stepA_apply (acc : Vec Ideal S512x128 .f32) (n : Fin 512) (l : Fin 128) :
    stepA x0 x1 x2 x3 x5 x6 x7 x8 x9 acc (ix2 n l) = acc (ix2 n l)
      + Spec.sums src dst (tblV x5) (stepMsg x3 x5 src dst W b)
          (fun t => Spec.unit (tblP x5 (src t)) (tblP x5 (dst t))) n l := by
  unfold stepA
  have key := stepM_apply x0 x1 x3 x5 x6 x7 x8 x9 src dst W b hy hz hw1 hw2 hw3 hd ha hb
  rw [contrib_apply _ _ _ _ _ _ _ acc dst (stepMsg x3 x5 src dst W b) (ohd_apply x2 dst h2)]
  · simp only [gs_apply x5 x0 src hy, rn_apply x5 x0 x1 src dst hy hz]
    rfl
  · intro t l
    pointwise []
    rw [key t ⟨l.val, by omega⟩]
    rfl
  · intro t l
    pointwise []
    exact key t ⟨64 + l.val, by omega⟩
  · intro t l
    pointwise []
    exact key t ⟨80 + l.val, by omega⟩
  · intro t
    pointwise []
    exact key t 112

end Entries

section Last

variable (x5 A : Vec Ideal S512x128 .f32) (x10 : Vec Ideal S64x64 .f32) (x11 : Vec Ideal S8x128 .f32)
    (x12 : Vec Ideal S512x1 .i32) (bt : Fin 512 → Fin 16) (g b : Fin 64 → EReal)
    (hB : ∀ n, x12 (ix2 n 0) = BitVec.ofNat 32 (bt n).val)
    (hA : ∀ n, ∃ r : ℝ, r ≠ 0 ∧ max (A (ix2 n 115)) 1 = (r : EReal))
    (hg : ∀ l : Fin 64, x11 (ix2 0 ⟨l.val, Nat.lt_of_lt_of_le l.isLt (Nat.le_of_ble_eq_true rfl)⟩) = g l) (hb : ∀ l : Fin 64, x11 (ix2 1 ⟨l.val, Nat.lt_of_lt_of_le l.isLt (Nat.le_of_ble_eq_true rfl)⟩) = b l)

include hB hA

/-- The next state's rows. -/
theorem stepR_apply (n : Fin 512) (l : Fin 128) :
    stepR x5 x10 x12 A (ix2 n l)
      = Spec.nextR bt (tblS x5) (tblV x5) (tblP x5) (fun k l => x10 (ix2 k l)) (fun n l => A (ix2 n l)) n l := by
  unfold stepR
  pointwise [k0_pay9]
  simp only [s_apply x5 A x10 hA, v_apply x5 A hA, p_apply x5 A x12 bt hB hA]
  exact Spec.rowS_chain (Spec.nextS (tblS x5 n) (fun l => A (ix2 n l)) fun k l => x10 (ix2 k l))
    (Spec.nextV (tblV x5 n) fun l => A (ix2 n l)) (Spec.center bt (fun n => Spec.midP (tblP x5 n) fun l => A (ix2 n l)) n) l

include hg hb

/-- The next table's rows. -/
theorem stepT_apply (n : Fin 512) (l : Fin 128) :
    stepT x5 x10 x11 x12 A (ix2 n l)
      = Spec.nextT bt (tblS x5) (tblV x5) (tblP x5) (fun k l => x10 (ix2 k l)) g b (fun n l => A (ix2 n l)) n l := by
  unfold stepT
  pointwise [k0_pay4, k0_pay12, k0_pay13]
  simp only [sn_apply, vn_apply, s_apply x5 A x10 hA, v_apply x5 A hA, p_apply x5 A x12 bt hB hA]
  have e0 : ∀ l : Fin 64, View.ld x11 (Rect.unit ![0, 0] S1x64.size inb_S8x128_S1x64_0_0) (ix2 0 l) = g l := fun l =>
    (View.ld_unit_apply_of x11 _ _ _ _ _ (fun a => by match a with | ⟨0, _⟩ => rfl | ⟨1, _⟩ => exact (Nat.zero_add _).symm)).trans (hg l)
  have e1 : ∀ l : Fin 64, View.ld x11 (Rect.unit ![1, 0] S1x64.size inb_S8x128_S1x64_1_0) (ix2 0 l) = b l := fun l =>
    (View.ld_unit_apply_of x11 _ _ _ _ _ (fun a => by match a with | ⟨0, _⟩ => rfl | ⟨1, _⟩ => exact (Nat.zero_add _).symm)).trans (hb l)
  simp only [e0, e1]
  exact Spec.rowT_chain (Spec.normS g b (Spec.nextS (tblS x5 n) (fun l => A (ix2 n l)) fun k l => x10 (ix2 k l)))
    (Spec.normV (Spec.nextV (tblV x5 n) fun l => A (ix2 n l)))
    (Spec.center bt (fun n => Spec.midP (tblP x5 n) fun l => A (ix2 n l)) n)
    (fun c => Spec.center bt (fun n => Spec.midP (tblP x5 n) fun l => A (ix2 n l)) n c
      - Spec.center bt (fun n => Spec.midP (tblP x5 n) fun l => A (ix2 n l)) n c) l

end Last

end Cert.KernelIdeal.Gen
-- ==== Proof.Ker.lean ====
module
public import proofs.«01_k».proof.Proof.Gen.KernelIdeal.Value
public import proofs.«01_k».proof.Proof.Step
public import Idealize.ShloMosaic.Lib.Pipeline.ReadBack
@[expose] public section
noncomputable section
set_option maxRecDepth 16384
open Idealize.ShloMosaic Idealize.ShloMosaic.TcCoe Idealize.SL.Sem

/-! The grid points' contents as steps over their blocks. -/
namespace Cert.KernelIdeal.Gen
open Cert.KernelIdeal Cert.KernelIdeal.Value

variable (m : (ℓ : Loc nD τ sig) → Buf (Elt Ideal) ℓ) (c : Dev nD)

/-- The contents of the outputs and the accumulator after a point. -/
abbrev Acc : Type := Vec Ideal S1024x16 .f32 × Vec Ideal S512x128 .f32 × Vec Ideal S512x128 .f32 × Vec Ideal S512x128 .f32

/-- The accumulator after point `t`, over what it was before. -/
def ptA (t : Fin cfg0.N) (a : Vec Ideal S512x128 .f32) : Vec Ideal S512x128 .f32 :=
  stepA (iblk m c 0 t) (iblk m c 1 t) (iblk m c 2 t) (iblk m c 3 t) (iblk m c 5 t) (iblk m c 6 t) (iblk m c 7 t) (iblk m c 8 t)
    (iblk m c 9 t) a

/-- The edge features point `t` writes. -/
def ptE (t : Fin cfg0.N) : Vec Ideal S1024x16 .f32 :=
  stepE (iblk m c 0 t) (iblk m c 1 t) (iblk m c 3 t) (iblk m c 5 t) (iblk m c 6 t) (iblk m c 7 t) (iblk m c 8 t) (iblk m c 9 t)

/-- At the first point the accumulator starts from zeros. -/
theorem stA_acc (t : Fin cfg0.N) (acc : Acc) (h0 : t.val % 256 = 0) (h1 : ¬ t.val % 256 = 255) :
    (stAt0 m c t.val t.isLt acc).2.2.2 = ptA m c t (k0_pay2 (F := Ideal)) := by
  rw [stAt0_A m c t acc h0 h1]
  dsimp only
  frame_out
  rfl

theorem stA_e (t : Fin cfg0.N) (acc : Acc) (h0 : t.val % 256 = 0) (h1 : ¬ t.val % 256 = 255) :
    (stAt0 m c t.val t.isLt acc).1 = ptE m c t := by
  rw [stAt0_A m c t acc h0 h1]
  dsimp only
  frame_out
  rfl

/-- At a later point the accumulator grows from what it was. -/
theorem stB_acc (t : Fin cfg0.N) (acc : Acc) (h0 : ¬ t.val % 256 = 0) (h1 : ¬ t.val % 256 = 255) :
    (stAt0 m c t.val t.isLt acc).2.2.2 = ptA m c t acc.2.2.2 := by
  rw [stAt0_B m c t acc h0 h1]
  dsimp only
  frame_out
  simp only [read_unread_whole]
  rfl

theorem stB_e (t : Fin cfg0.N) (acc : Acc) (h0 : ¬ t.val % 256 = 0) (h1 : ¬ t.val % 256 = 255) :
    (stAt0 m c t.val t.isLt acc).1 = ptE m c t := by
  rw [stAt0_B m c t acc h0 h1]
  dsimp only
  frame_out
  rfl

theorem stC_e (t : Fin cfg0.N) (acc : Acc) (h0 : ¬ t.val % 256 = 0) (h1 : t.val % 256 = 255) :
    (stAt0 m c t.val t.isLt acc).1 = ptE m c t := by
  rw [stAt0_C m c t acc h0 h1]
  dsimp only
  frame_out
  rfl

/-- At the last point the next table is written from the full accumulator. -/
theorem stC_t (t : Fin cfg0.N) (acc : Acc) (h0 : ¬ t.val % 256 = 0) (h1 : t.val % 256 = 255) :
    (stAt0 m c t.val t.isLt acc).2.1
      = stepT (iblk m c 5 t) (iblk m c 10 t) (iblk m c 11 t) (iblk m c 12 t) (ptA m c t acc.2.2.2) := by
  rw [stAt0_C m c t acc h0 h1]
  dsimp only
  frame_out
  simp only [read_unread_whole]
  rfl

/-- At the last point the next state is written from the full accumulator. -/
theorem stC_r (t : Fin cfg0.N) (acc : Acc) (h0 : ¬ t.val % 256 = 0) (h1 : t.val % 256 = 255) :
    (stAt0 m c t.val t.isLt acc).2.2.1
      = stepR (iblk m c 5 t) (iblk m c 10 t) (iblk m c 12 t) (ptA m c t acc.2.2.2) := by
  rw [stAt0_C m c t acc h0 h1]
  dsimp only
  frame_out
  simp only [read_unread_whole]
  rfl

end Cert.KernelIdeal.Gen
-- ==== Proof.Blocks.lean ====
module
public import proofs.«01_k».proof.Proof.Gen.KernelIdeal.Value
public import proofs.«01_k».proof.Proof.Step
@[expose] public section
noncomputable section
set_option maxRecDepth 16384
open Idealize.ShloMosaic Idealize.ShloMosaic.TcCoe Idealize.SL.Sem

/-! What the blocks of a grid point hold, as entries of the arguments. -/
namespace Cert.KernelIdeal.Gen

variable (m : (ℓ : Loc nD τ sig) → Buf (Elt Ideal) ℓ) (c : Dev nD)

/-- Which block each input window shows at each point. -/
theorem idx : ∀ t : Fin cfg0.N, win0_0.index t = ![t.val, 0, 0] ∧ win0_1.index t = ![t.val, 0, 0]
    ∧ win0_2.index t = ![t.val, 0, 0] ∧ win0_3.index t = ![t.val, 0] ∧ win0_5.index t = ![0, 0]
    ∧ win0_6.index t = ![0, 0] ∧ win0_7.index t = ![0, 0] ∧ win0_8.index t = ![0, 0] ∧ win0_9.index t = ![0, 0]
    ∧ win0_10.index t = ![0, 0] ∧ win0_11.index t = ![0, 0] ∧ win0_12.index t = ![0, 0] :=
  (by decide +kernel : ∀ t : Fin grid0.N, _)

/-- A point's number is below 256. -/
theorem pt_lt (t : Fin cfg0.N) : t.val < 256 := lt_of_lt_of_eq t.isLt N_0

/-- What the host hands over: the source words, block by block. -/
theorem V_v4 : V m c main_v4 = shapeCast S256x1024x1 (shapeCast S262144 (extractStridedSlice S1x262144 ![0, 0] (m ((c : Thread nD τ).loc main_arg0)) slices_S2x262144_S1x262144_0_0) shapeCasts_S1x262144_S262144) shapeCasts_S262144_S256x1024x1 := by
  unfold V
  simp only [hostOps0, hostOps0_1, hostOps0_2, hostOps0_3, hostOps0_4, hostOps0_5, hostOps0_6, hostOps0_7, hostOps0_8, hostOps0_9, List.flatten_cons,
    List.flatten_nil, List.append_nil, List.cons_append, List.nil_append]
  after_results
  try rfl

/-- What the host hands over: the target words, block by block. -/
theorem V_v5 : V m c main_v5 = shapeCast S256x1024x1 (shapeCast S262144 (extractStridedSlice S1x262144 ![1, 0] (m ((c : Thread nD τ).loc main_arg0)) slices_S2x262144_S1x262144_1_0) shapeCasts_S1x262144_S262144) shapeCasts_S262144_S256x1024x1 := by
  unfold V
  simp only [hostOps0, hostOps0_1, hostOps0_2, hostOps0_3, hostOps0_4, hostOps0_5, hostOps0_6, hostOps0_7, hostOps0_8, hostOps0_9, List.flatten_cons,
    List.flatten_nil, List.append_nil, List.cons_append, List.nil_append]
  after_results
  try rfl

/-- What the host hands over: the target words as rows, block by block. -/
theorem V_v6 : V m c main_v6 = shapeCast S256x1x1024 (shapeCast S262144 (extractStridedSlice S1x262144 ![1, 0] (m ((c : Thread nD τ).loc main_arg0)) slices_S2x262144_S1x262144_1_0) shapeCasts_S1x262144_S262144) shapeCasts_S262144_S256x1x1024 := by
  unfold V
  simp only [hostOps0, hostOps0_1, hostOps0_2, hostOps0_3, hostOps0_4, hostOps0_5, hostOps0_6, hostOps0_7, hostOps0_8, hostOps0_9, List.flatten_cons,
    List.flatten_nil, List.append_nil, List.cons_append, List.nil_append]
  after_results
  try rfl

/-- What the host hands over: the molecule words as a column. -/
theorem V_v7 : V m c main_v7 = shapeCast S512x1 (m ((c : Thread nD τ).loc main_arg9)) shapeCasts_S512_S512x1 := by
  unfold V
  simp only [hostOps0, hostOps0_1, hostOps0_2, hostOps0_3, hostOps0_4, hostOps0_5, hostOps0_6, hostOps0_7, hostOps0_8, hostOps0_9, List.flatten_cons,
    List.flatten_nil, List.append_nil, List.cons_append, List.nil_append]
  after_results
  try rfl

/-- What the host hands over: the weights of the source scalars, padded. -/
theorem V_v9 : V m c main_v9 = pad S64x128 ![0, 0] ![0, 15] ![0, 0] (extractStridedSlice S64x113 ![0, 0] (m ((c : Thread nD τ).loc main_arg4)) slices_S146x113_S64x113_0_0) (sitofp (F := Ideal) .f32 (constantI S_ 32 0#32)) pads_S64x113_S64x128_000_0150 h_S_ := by
  unfold V
  simp only [hostOps0, hostOps0_1, hostOps0_2, hostOps0_3, hostOps0_4, hostOps0_5, hostOps0_6, hostOps0_7, hostOps0_8, hostOps0_9, List.flatten_cons,
    List.flatten_nil, List.append_nil, List.cons_append, List.nil_append]
  after_results
  try rfl

/-- What the host hands over: the weights of the target scalars, padded. -/
theorem V_v11 : V m c main_v11 = pad S64x128 ![0, 0] ![0, 15] ![0, 0] (extractStridedSlice S64x113 ![64, 0] (m ((c : Thread nD τ).loc main_arg4)) slices_S146x113_S64x113_64_0) (sitofp (F := Ideal) .f32 (constantI S_ 32 0#32)) pads_S64x113_S64x128_000_0150 h_S_ := by
  unfold V
  simp only [hostOps0, hostOps0_1, hostOps0_2, hostOps0_3, hostOps0_4, hostOps0_5, hostOps0_6, hostOps0_7, hostOps0_8, hostOps0_9, List.flatten_cons,
    List.flatten_nil, List.append_nil, List.cons_append, List.nil_append]
  after_results
  try rfl

/-- What the host hands over: the weights of the edge features, padded. -/
theorem V_v13 : V m c main_v13 = pad S16x128 ![0, 0] ![0, 15] ![0, 0] (extractStridedSlice S16x113 ![128, 0] (m ((c : Thread nD τ).loc main_arg4)) slices_S146x113_S16x113_128_0) (sitofp (F := Ideal) .f32 (constantI S_ 32 0#32)) pads_S16x113_S16x128_000_0150 h_S_ := by
  unfold V
  simp only [hostOps0, hostOps0_1, hostOps0_2, hostOps0_3, hostOps0_4, hostOps0_5, hostOps0_6, hostOps0_7, hostOps0_8, hostOps0_9, List.flatten_cons,
    List.flatten_nil, List.append_nil, List.cons_append, List.nil_append]
  after_results
  try rfl

/-- What the host hands over: the weights of length and inner product and the bias, padded. -/
theorem V_v22 : V m c main_v22 = pad S8x128 ![0, 0] ![5, 15] ![0, 0] (concatenate S3x113 0 [⟨S1x113, (broadcastInDim S1x113 ![1] bcast_S113_S1x113_1 (shapeCast S113 (extractStridedSlice S1x113 ![144, 0] (m ((c : Thread nD τ).loc main_arg4)) slices_S146x113_S1x113_144_0) shapeCasts_S1x113_S113))⟩, ⟨S1x113, (broadcastInDim S1x113 ![1] bcast_S113_S1x113_1 (shapeCast S113 (extractStridedSlice S1x113 ![145, 0] (m ((c : Thread nD τ).loc main_arg4)) slices_S146x113_S1x113_145_0) shapeCasts_S1x113_S113))⟩, ⟨S1x113, broadcastInDim S1x113 ![1] bcast_S113_S1x113_1 (m ((c : Thread nD τ).loc main_arg5))⟩] concatenates_S1x113_S1x113_S1x113_S3x113_d0) (sitofp (F := Ideal) .f32 (constantI S_ 32 0#32)) pads_S3x113_S8x128_050_0150 h_S_ := by
  unfold V
  simp only [hostOps0, hostOps0_1, hostOps0_2, hostOps0_3, hostOps0_4, hostOps0_5, hostOps0_6, hostOps0_7, hostOps0_8, hostOps0_9, List.flatten_cons,
    List.flatten_nil, List.append_nil, List.cons_append, List.nil_append]
  after_results
  try rfl

/-- What the host hands over: scale and shift, padded. -/
theorem V_v26 : V m c main_v26 = pad S8x128 ![0, 0] ![6, 64] ![0, 0] (concatenate S2x64 0 [⟨S1x64, broadcastInDim S1x64 ![1] bcast_S64_S1x64_1 (m ((c : Thread nD τ).loc main_arg7))⟩, ⟨S1x64, broadcastInDim S1x64 ![1] bcast_S64_S1x64_1 (m ((c : Thread nD τ).loc main_arg8))⟩] concatenates_S1x64_S1x64_S2x64_d0) (sitofp (F := Ideal) .f32 (constantI S_ 32 0#32)) pads_S2x64_S8x128_060_0640 h_S_ := by
  unfold V
  simp only [hostOps0, hostOps0_1, hostOps0_2, hostOps0_3, hostOps0_4, hostOps0_5, hostOps0_6, hostOps0_7, hostOps0_8, hostOps0_9, List.flatten_cons,
    List.flatten_nil, List.append_nil, List.cons_append, List.nil_append]
  after_results
  try rfl

theorem e0 (t : Fin 256) (j : Fin 1024) : V m c main_v4 (ix3 t j 0)
    = m ((c : Thread nD τ).loc main_arg0) (ix2 0 ⟨1024 * t.val + j.val, by omega⟩) := by
  rw [V_v4]
  pointwise []
  blk_ext

theorem e1 (t : Fin 256) (j : Fin 1024) : V m c main_v5 (ix3 t j 0)
    = m ((c : Thread nD τ).loc main_arg0) (ix2 1 ⟨1024 * t.val + j.val, by omega⟩) := by
  rw [V_v5]
  pointwise []
  blk_ext

theorem e2 (t : Fin 256) (j : Fin 1024) : V m c main_v6 (ix3 t 0 j)
    = m ((c : Thread nD τ).loc main_arg0) (ix2 1 ⟨1024 * t.val + j.val, by omega⟩) := by
  rw [V_v6]
  pointwise []
  blk_ext

theorem e12 (n : Fin 512) : V m c main_v7 (ix2 n 0)
    = m ((c : Thread nD τ).loc main_arg9) (ix1 n) := by
  rw [V_v7]
  pointwise []
  blk_ext

theorem e6 (k : Fin 64) (l : Fin 113) : V m c main_v9 (ix2 k (⟨l.val, by omega⟩ : Fin 128))
    = m ((c : Thread nD τ).loc main_arg4) (ix2 (⟨k.val, by omega⟩ : Fin 146) l) := by
  rw [V_v9]
  pointwise []
  blk_ext

theorem e7 (k : Fin 64) (l : Fin 113) : V m c main_v11 (ix2 k (⟨l.val, by omega⟩ : Fin 128))
    = m ((c : Thread nD τ).loc main_arg4) (ix2 (⟨64 + k.val, by omega⟩ : Fin 146) l) := by
  rw [V_v11]
  pointwise []
  blk_ext

theorem e8 (k : Fin 16) (l : Fin 113) : V m c main_v13 (ix2 k (⟨l.val, by omega⟩ : Fin 128))
    = m ((c : Thread nD τ).loc main_arg4) (ix2 (⟨128 + k.val, by omega⟩ : Fin 146) l) := by
  rw [V_v13]
  pointwise []
  blk_ext

theorem e9d (l : Fin 113) : V m c main_v22 (ix2 (0 : Fin 8) (⟨l.val, by omega⟩ : Fin 128))
    = m ((c : Thread nD τ).loc main_arg4) (ix2 (144 : Fin 146) l) := by
  rw [V_v22]
  pointwise []
  blk_ext

theorem e9a (l : Fin 113) : V m c main_v22 (ix2 (1 : Fin 8) (⟨l.val, by omega⟩ : Fin 128))
    = m ((c : Thread nD τ).loc main_arg4) (ix2 (145 : Fin 146) l) := by
  rw [V_v22]
  pointwise []
  blk_ext

theorem e9b (l : Fin 113) : V m c main_v22 (ix2 (2 : Fin 8) (⟨l.val, by omega⟩ : Fin 128))
    = m ((c : Thread nD τ).loc main_arg5) (ix1 l) := by
  rw [V_v22]
  pointwise []
  blk_ext

theorem e11g (l : Fin 64) : V m c main_v26 (ix2 (0 : Fin 8) (⟨l.val, by omega⟩ : Fin 128))
    = m ((c : Thread nD τ).loc main_arg7) (ix1 l) := by
  rw [V_v26]
  pointwise []
  blk_ext

theorem e11b (l : Fin 64) : V m c main_v26 (ix2 (1 : Fin 8) (⟨l.val, by omega⟩ : Fin 128))
    = m ((c : Thread nD τ).loc main_arg8) (ix1 l) := by
  rw [V_v26]
  pointwise []
  blk_ext

theorem blk6 (t : Fin cfg0.N) : iblk m c 6 t = V m c main_v9 := by blk_ext! [iblk, idx t]

theorem blk7 (t : Fin cfg0.N) : iblk m c 7 t = V m c main_v11 := by blk_ext! [iblk, idx t]

theorem blk8 (t : Fin cfg0.N) : iblk m c 8 t = V m c main_v13 := by blk_ext! [iblk, idx t]

theorem blk9 (t : Fin cfg0.N) : iblk m c 9 t = V m c main_v22 := by blk_ext! [iblk, idx t]

theorem blk11 (t : Fin cfg0.N) : iblk m c 11 t = V m c main_v26 := by blk_ext! [iblk, idx t]

theorem blk12 (t : Fin cfg0.N) : iblk m c 12 t = V m c main_v7 := by blk_ext! [iblk, idx t]

theorem blk5 (t : Fin cfg0.N) : iblk m c 5 t = m ((c : Thread nD τ).loc main_arg3) := by
  rw [← V_main_arg3 m c]
  blk_ext! [iblk, idx t]

theorem blk10 (t : Fin cfg0.N) : iblk m c 10 t = m ((c : Thread nD τ).loc main_arg6) := by
  rw [← V_main_arg6 m c]
  blk_ext! [iblk, idx t]

theorem blk3 (t : Fin cfg0.N) (j : Fin 1024) (k : Fin 16) : iblk m c 3 t (ix2 j k)
    = m ((c : Thread nD τ).loc main_arg1) (ix2 ⟨1024 * t.val + j.val, by have := pt_lt t; omega⟩ k) := by
  have := pt_lt t
  rw [← V_main_arg1 m c]
  blk_ext [iblk, idx t]

theorem blk0 (t : Fin cfg0.N) (j : Fin 1024) : iblk m c 0 t (ix3 0 j 0) = V m c main_v4 (ix3 ⟨t.val, pt_lt t⟩ j 0) := by
  blk_ext [iblk, idx t]

theorem blk1 (t : Fin cfg0.N) (j : Fin 1024) : iblk m c 1 t (ix3 0 j 0) = V m c main_v5 (ix3 ⟨t.val, pt_lt t⟩ j 0) := by
  blk_ext [iblk, idx t]

theorem blk2 (t : Fin cfg0.N) (j : Fin 1024) : iblk m c 2 t (ix3 0 0 j) = V m c main_v6 (ix3 ⟨t.val, pt_lt t⟩ 0 j) := by
  blk_ext [iblk, idx t]

end Cert.KernelIdeal.Gen
-- ==== Proof.KerVal.lean ====
module
public import proofs.«01_k».proof.Proof.Ker
public import proofs.«01_k».proof.Proof.Blocks
@[expose] public section
noncomputable section
set_option maxRecDepth 16384
open Idealize.ShloMosaic Idealize.ShloMosaic.TcCoe Idealize.SL.Sem

/-! The kernel's three results, entry by entry, over the arguments. -/
namespace Cert.KernelIdeal.Gen
open Cert.KernelIdeal Cert.KernelIdeal.Value

variable (m : (ℓ : Loc nD τ sig) → Buf (Elt Ideal) ℓ) (c : Dev nD) (src dst : Fin 262144 → Fin 512) (bt : Fin 512 → Fin 16)

/-- The table argument. -/
abbrev argT : Vec Ideal S512x128 .f32 := m ((c : Thread nD τ).loc main_arg3)

/-- The dense layer's weights. -/
abbrev argW (k : Fin 146) (l : Fin 113) : EReal := m ((c : Thread nD τ).loc main_arg4) (ix2 k l)

/-- The dense layer's bias. -/
abbrev argB (l : Fin 113) : EReal := m ((c : Thread nD τ).loc main_arg5) (ix1 l)

/-- The messages of all edges. -/
abbrev kerM : Fin 262144 → Fin 113 → EReal :=
  Spec.msgs src dst (tblS (argT m c)) (fun x k => m ((c : Thread nD τ).loc main_arg1) (ix2 x k))
    (fun x => Spec.dist (tblP (argT m c) (src x)) (tblP (argT m c) (dst x)))
    (fun x => Spec.inner (tblP (argT m c) (src x)) (tblP (argT m c) (dst x))) (argW m c) (argB m c)

/-- The unit vectors of all edges. -/
abbrev kerU (x : Fin 262144) : Fin 3 → EReal := Spec.unit (tblP (argT m c) (src x)) (tblP (argT m c) (dst x))

/-- What one edge brings to column `l` of node `n`. -/
abbrev kerF (n : Fin 512) (l : Fin 128) (x : Fin 262144) : EReal :=
  if dst x = n then Spec.pay (kerM m c src dst x) (tblV (argT m c) (src x)) (kerU m c src dst x) l else 0

/-- The sums at every node. -/
abbrev kerA : Fin 512 → Fin 128 → EReal := Spec.sums src dst (tblV (argT m c)) (kerM m c src dst) (kerU m c src dst)

/-- Edge `j` of block `t`. -/
abbrev edge (t : Fin 256) (j : Fin 1024) : Fin 262144 := ⟨1024 * t.val + j.val, by omega⟩

section Points

variable (hs : ∀ x, m ((c : Thread nD τ).loc main_arg0) (ix2 0 x) = BitVec.ofNat 32 (src x).val)
    (hd : ∀ x, m ((c : Thread nD τ).loc main_arg0) (ix2 1 x) = BitVec.ofNat 32 (dst x).val)

include hs hd

/-- The edge features a point writes. -/
theorem ptE_apply (t : Fin cfg0.N) (j : Fin 1024) (l : Fin 16) : ptE m c t (ix2 j l)
    = Spec.silu (kerM m c src dst (edge ⟨t.val, pt_lt t⟩ j) ⟨96 + l.val, by omega⟩) := by
  unfold ptE
  rw [stepE_apply _ _ _ _ _ _ _ _ (fun j => src (edge ⟨t.val, pt_lt t⟩ j)) (fun j => dst (edge ⟨t.val, pt_lt t⟩ j))
    (argW m c) (argB m c)
    (fun j => (blk0 m c t j).trans ((e0 m c _ j).trans (hs _))) (fun j => (blk1 m c t j).trans ((e1 m c _ j).trans (hd _)))
    (fun k l => (congrFun (blk6 m c t) _).trans (e6 m c k l)) (fun k l => (congrFun (blk7 m c t) _).trans (e7 m c k l))
    (fun k l => (congrFun (blk8 m c t) _).trans (e8 m c k l)) (fun l => (congrFun (blk9 m c t) _).trans (e9d m c l))
    (fun l => (congrFun (blk9 m c t) _).trans (e9a m c l)) (fun l => (congrFun (blk9 m c t) _).trans (e9b m c l))]
  unfold stepMsg
  rw [blk5]
  simp only [blk3]
  rfl

/-- What a point adds to the accumulator. -/
theorem ptA_apply (t : Fin cfg0.N) (a : Vec Ideal S512x128 .f32) (n : Fin 512) (l : Fin 128) : ptA m c t a (ix2 n l)
    = a (ix2 n l) + ∑ j : Fin 1024, kerF m c src dst n l (edge ⟨t.val, pt_lt t⟩ j) := by
  unfold ptA
  rw [stepA_apply _ _ _ _ _ _ _ _ _ (fun j => src (edge ⟨t.val, pt_lt t⟩ j)) (fun j => dst (edge ⟨t.val, pt_lt t⟩ j))
    (argW m c) (argB m c)
    (fun j => (blk0 m c t j).trans ((e0 m c _ j).trans (hs _))) (fun j => (blk1 m c t j).trans ((e1 m c _ j).trans (hd _)))
    (fun j => (blk2 m c t j).trans ((e2 m c _ j).trans (hd _)))
    (fun k l => (congrFun (blk6 m c t) _).trans (e6 m c k l)) (fun k l => (congrFun (blk7 m c t) _).trans (e7 m c k l))
    (fun k l => (congrFun (blk8 m c t) _).trans (e8 m c k l)) (fun l => (congrFun (blk9 m c t) _).trans (e9d m c l))
    (fun l => (congrFun (blk9 m c t) _).trans (e9a m c l)) (fun l => (congrFun (blk9 m c t) _).trans (e9b m c l))]
  unfold stepMsg
  rw [blk5]
  simp only [blk3]
  rfl

/-- The fold over the points up to `k`. -/
abbrev sweep (k : ℕ) (h : 0 + k < cfg0.N) : Acc := Pipeline.accAt (fun n h => stAt0 m c n h junk0) (stAt0 m c) 0 k h

/-- The accumulator after the first `k + 1` blocks, short of the last. -/
theorem sweep_acc (n : Fin 512) (l : Fin 128) : ∀ (k : ℕ) (h : 0 + k < cfg0.N), k < 255 →
    (sweep m c k h).2.2.2 (ix2 n l) = ∑ t ∈ Finset.range (k + 1),
      (if ht : t < 256 then ∑ j : Fin 1024, kerF m c src dst n l (edge ⟨t, ht⟩ j) else 0)
  | 0, h, _ => by
    have e := congrFun (stA_acc m c ⟨0, lt_of_lt_of_eq (by decide) N_0.symm⟩ junk0 rfl (by decide)) (ix2 n l)
    rw [ptA_apply m c src dst hs hd] at e
    rw [Finset.sum_range_one, dif_pos (by omega)]
    refine Eq.trans e ?_
    have z : k0_pay2 (F := Ideal) (ix2 n l) = 0 := by pointwise [k0_pay2]
    rw [z, zero_add]
  | k + 1, h, hk => by
    have hN : k + 1 < cfg0.N := by omega
    have e := congrFun (stB_acc m c ⟨k + 1, hN⟩ (sweep m c k (Nat.lt_of_succ_lt h)) (by show ¬ (k + 1) % 256 = 0; omega)
      (by show ¬ (k + 1) % 256 = 255; omega)) (ix2 n l)
    rw [ptA_apply m c src dst hs hd, sweep_acc n l k (Nat.lt_of_succ_lt h) (by omega)] at e
    rw [Finset.sum_range_succ, dif_pos (by omega : k + 1 < 256)]
    refine Eq.trans ?_ e
    unfold sweep
    rw [Pipeline.accAt_succ]
    have ek : 0 + (k + 1) = k + 1 := by omega
    simp only [ek]

/-- The full accumulator holds the sums over all edges. -/
theorem full (h : 0 + 254 < cfg0.N) (h' : 255 < cfg0.N) (n : Fin 512) (l : Fin 128) :
    ptA m c ⟨255, h'⟩ (sweep m c 254 h).2.2.2 (ix2 n l) = kerA m c src dst n l := by
  rw [ptA_apply m c src dst hs hd, sweep_acc m c src dst hs hd n l 254 h (by omega)]
  show _ = ∑ x, kerF m c src dst n l x
  rw [Spec.sums_blocks, Finset.sum_fin_eq_sum_range (n := 256), Finset.sum_range_succ _ 255, dif_pos (by omega : 255 < 256)]

omit hs hd in
/-- The edge features after a point. -/
theorem sweep_e (k : ℕ) (h : 0 + k < cfg0.N) (h' : k < cfg0.N) : (sweep m c k h).1 = ptE m c ⟨k, h'⟩ := by
  cases k with
  | zero => exact stA_e m c ⟨0, h'⟩ junk0 rfl (by show ¬ 0 % 256 = 255; omega)
  | succ k =>
    have ek : 0 + (k + 1) = k + 1 := by omega
    have hk : k + 1 < 256 := pt_lt ⟨k + 1, h'⟩
    unfold sweep
    rw [Pipeline.accAt_succ]
    simp only [ek]
    by_cases h1 : (k + 1) % 256 = 255
    · exact stC_e m c ⟨k + 1, h'⟩ _ (by show ¬ (k + 1) % 256 = 0; omega) h1
    · exact stB_e m c ⟨k + 1, h'⟩ _ (by show ¬ (k + 1) % 256 = 0; omega) h1

omit hs hd in
/-- The last point's table and state, over the fold up to the point before. -/
theorem sweep_last (K k : ℕ) (hK : K = k + 1) (h : 0 + K < cfg0.N) (hk : 0 + k < cfg0.N) (h' : K < cfg0.N) (h1 : K % 256 = 255) :
    (sweep m c K h).2.1 = stepT (iblk m c 5 ⟨K, h'⟩) (iblk m c 10 ⟨K, h'⟩) (iblk m c 11 ⟨K, h'⟩) (iblk m c 12 ⟨K, h'⟩)
        (ptA m c ⟨K, h'⟩ (sweep m c k hk).2.2.2)
    ∧ (sweep m c K h).2.2.1 = stepR (iblk m c 5 ⟨K, h'⟩) (iblk m c 10 ⟨K, h'⟩) (iblk m c 12 ⟨K, h'⟩)
        (ptA m c ⟨K, h'⟩ (sweep m c k hk).2.2.2) := by
  subst hK
  have ek : 0 + (k + 1) = k + 1 := by omega
  have h0 : ¬ (k + 1) % 256 = 0 := by omega
  have e : sweep m c (k + 1) h = stAt0 m c (k + 1) h' (sweep m c k hk) := by
    unfold sweep
    rw [Pipeline.accAt_succ]
    simp only [ek]
  rw [e]
  exact ⟨stC_t m c ⟨k + 1, h'⟩ _ h0 h1, stC_r m c ⟨k + 1, h'⟩ _ h0 h1⟩

omit hs hd in
/-- The number of edges into a node, kept above one, is a nonzero real. -/
theorem count_real (n : Fin 512) : ∃ r : ℝ, r ≠ 0 ∧ max (kerA m c src dst n 115) 1 = (r : EReal) := by
  unfold kerA Spec.sums
  rw [Spec.agg_count]
  exact Spec.max_count _

/-- The first result: the edge features. -/
theorem res_e (x : Fin 262144) (l : Fin 16) :
    G13 m c (ix2 x l) = Spec.silu (kerM m c src dst x ⟨96 + l.val, by omega⟩) := by
  have hp : pt13Of (ix2 x l) = x.val / 1024 := by
    show 1 * (x.val / 1024 - 0) + 1 * (l.val / 16 - 0) = _
    omega
  have hx : x.val / 1024 < cfg0.N := lt_of_lt_of_eq (by omega) N_0.symm
  unfold G13
  rw [dif_pos (by rw [hp]; exact hx), fold0_congr m c _ _ _ (by omega) hp]
  have hl : loc13Of (ix2 x l) = ix2 (⟨x.val % 1024, by omega⟩ : Fin 1024) l := by
    funext a; apply Fin.ext
    match a with
    | ⟨0, _⟩ => rfl
    | ⟨1, _⟩ => show l.val % 16 = l.val; omega
  rw [hl]
  refine (congrFun (sweep_e m c (x.val / 1024) (by omega) hx) _).trans ?_
  rw [ptE_apply m c src dst hs hd]
  have : edge ⟨x.val / 1024, pt_lt ⟨_, hx⟩⟩ ⟨x.val % 1024, by omega⟩ = x := Fin.ext (by show 1024 * (x.val / 1024) + x.val % 1024 = x.val; omega)
  rw [this]

variable (hb : ∀ n, m ((c : Thread nD τ).loc main_arg9) (ix1 n) = BitVec.ofNat 32 (bt n).val)

include hb

/-- The second result: the next table. -/
theorem res_t (n : Fin 512) (l : Fin 128) : G14 m c (ix2 n l)
    = Spec.nextT bt (tblS (argT m c)) (tblV (argT m c)) (tblP (argT m c)) (fun k l => m ((c : Thread nD τ).loc main_arg6) (ix2 k l))
        (fun l => m ((c : Thread nD τ).loc main_arg7) (ix1 l)) (fun l => m ((c : Thread nD τ).loc main_arg8) (ix1 l))
        (kerA m c src dst) n l := by
  have h5 : 255 < cfg0.N := lt_of_lt_of_eq (by decide) N_0.symm
  have h4 : 0 + 254 < cfg0.N := lt_of_lt_of_eq (by decide) N_0.symm
  rw [G14_last]
  rw [(sweep_last m c 255 254 rfl (by omega) h4 h5 rfl).1]
  have hA : ∀ n l, ptA m c ⟨255, h5⟩ (sweep m c 254 h4).2.2.2 (ix2 n l) = kerA m c src dst n l :=
    full m c src dst hs hd h4 h5
  rw [stepT_apply _ _ _ _ _ bt (fun l => m ((c : Thread nD τ).loc main_arg7) (ix1 l)) (fun l => m ((c : Thread nD τ).loc main_arg8) (ix1 l))
    (fun n => (congrFun (blk12 m c _) _).trans ((e12 m c n).trans (hb n)))
    (fun n => by rw [hA]; exact count_real m c src dst n)
    (fun l => (congrFun (blk11 m c _) _).trans (e11g m c l)) (fun l => (congrFun (blk11 m c _) _).trans (e11b m c l))]
  rw [blk5, blk10]
  simp only [hA]

/-- The third result: the next state. -/
theorem res_r (n : Fin 512) (l : Fin 128) : G15 m c (ix2 n l)
    = Spec.nextR bt (tblS (argT m c)) (tblV (argT m c)) (tblP (argT m c)) (fun k l => m ((c : Thread nD τ).loc main_arg6) (ix2 k l))
        (kerA m c src dst) n l := by
  have h5 : 255 < cfg0.N := lt_of_lt_of_eq (by decide) N_0.symm
  have h4 : 0 + 254 < cfg0.N := lt_of_lt_of_eq (by decide) N_0.symm
  rw [G15_last]
  rw [(sweep_last m c 255 254 rfl (by omega) h4 h5 rfl).2]
  have hA : ∀ n l, ptA m c ⟨255, h5⟩ (sweep m c 254 h4).2.2.2 (ix2 n l) = kerA m c src dst n l :=
    full m c src dst hs hd h4 h5
  rw [stepR_apply _ _ _ _ bt
    (fun n => (congrFun (blk12 m c _) _).trans ((e12 m c n).trans (hb n)))
    (fun n => by rw [hA]; exact count_real m c src dst n)]
  rw [blk5, blk10]
  simp only [hA]

end Points

end Cert.KernelIdeal.Gen
-- ==== Proof.HostOps.lean ====
module
public import Idealize.ShloMosaic.Lib.Pointwise
public import Idealize.ShloMosaic.Lib.Routing.OpsPair
public import Idealize.ShloMosaic.Lib.Routing.Ops
@[expose] public section
noncomputable section
set_option maxRecDepth 16384
open Idealize.ShloMosaic Idealize.ShloMosaic.TcCoe Idealize.SL.Sem

/-! Segment sums and gathers by a column of index words, read at an index. -/
namespace HostOps
open Idealize.ShloMosaic.Routing

section Lands
variable {N C D E : ℕ}

/-- A segment sum's dimension numbers over vectors. -/
abbrev seg1 (N E : ℕ) (wf : ScatterDims.WF ⟨1, ![N]⟩ ⟨2, ![E, 1]⟩ ⟨1, ![E]⟩ [] [0] [0] 1) : ScatterDims ⟨1, ![N]⟩ ⟨2, ![E, 1]⟩ ⟨1, ![E]⟩ where
  updateWindowDims := []
  insertedWindowDims := [0]
  scatterDimsToOperandDims := [0]
  indexVectorDim := 1
  wf := wf

/-- A segment sum's dimension numbers over matrices. -/
abbrev seg2 (N C E : ℕ) (wf : ScatterDims.WF ⟨2, ![N, C]⟩ ⟨2, ![E, 1]⟩ ⟨2, ![E, C]⟩ [1] [0] [0] 1) : ScatterDims ⟨2, ![N, C]⟩ ⟨2, ![E, 1]⟩ ⟨2, ![E, C]⟩ where
  updateWindowDims := [1]
  insertedWindowDims := [0]
  scatterDimsToOperandDims := [0]
  indexVectorDim := 1
  wf := wf

/-- A segment sum's dimension numbers over boxes. -/
abbrev seg3 (N C D E : ℕ) (wf : ScatterDims.WF ⟨3, ![N, C, D]⟩ ⟨2, ![E, 1]⟩ ⟨3, ![E, C, D]⟩ [1, 2] [0] [0] 1) : ScatterDims ⟨3, ![N, C, D]⟩ ⟨2, ![E, 1]⟩ ⟨3, ![E, C, D]⟩ where
  updateWindowDims := [1, 2]
  insertedWindowDims := [0]
  scatterDimsToOperandDims := [0]
  indexVectorDim := 1
  wf := wf

/-- Where a vector's update lands. -/
theorem lands1 (wf : ScatterDims.WF ⟨1, ![N]⟩ ⟨2, ![E, 1]⟩ ⟨1, ![E]⟩ [] [0] [0] 1) (idx : IVec ⟨2, ![E, 1]⟩ 32) (e : Fin E) (n : Fin N) :
    (seg1 N E wf).resultIdx? (ix1 e) idx = some (ix1 n) ↔ (idx (ix2 e 0)).toInt = (n.val : Int) := by
  have h0 : (seg1 N E wf).start (ix1 e) idx 0 = (idx (ix2 e 0)).toInt := by
    unfold ScatterDims.start
    rw [dif_pos (List.mem_singleton.mpr rfl)]
    refine congrArg (fun i => (idx i).toInt) (funext fun b => Fin.ext ?_)
    match b with
    | ⟨0, _⟩ => rfl
    | ⟨1, _⟩ => rfl
  have w0 : (seg1 N E wf).window (ix1 e) 0 = 0 := by
    unfold ScatterDims.window
    rw [dif_neg (fun h => (of_decide_eq_true (List.mem_filter.1 h).2) (List.mem_singleton.2 rfl))]
  rw [resultIdx?_eq_some]
  constructor
  · intro h
    have := h 0
    rw [h0, w0] at this
    simpa using this
  · intro h a
    match a with
    | ⟨0, _⟩ =>
      show (seg1 N E wf).start (ix1 e) idx 0 + ((seg1 N E wf).window (ix1 e) 0 : Int) = _
      rw [h0, w0, h]; simp

/-- Where a matrix row's update lands. -/
theorem lands2 (wf : ScatterDims.WF ⟨2, ![N, C]⟩ ⟨2, ![E, 1]⟩ ⟨2, ![E, C]⟩ [1] [0] [0] 1) (idx : IVec ⟨2, ![E, 1]⟩ 32) (e : Fin E) (c : Fin C) (n : Fin N) (l : Fin C) :
    (seg2 N C E wf).resultIdx? (ix2 e c) idx = some (ix2 n l) ↔ (idx (ix2 e 0)).toInt = (n.val : Int) ∧ c = l := by
  have h0 : (seg2 N C E wf).start (ix2 e c) idx 0 = (idx (ix2 e 0)).toInt := by
    unfold ScatterDims.start
    rw [dif_pos (List.mem_singleton.mpr rfl)]
    refine congrArg (fun i => (idx i).toInt) (funext fun b => Fin.ext ?_)
    match b with
    | ⟨0, _⟩ => rfl
    | ⟨1, _⟩ => rfl
  have w0 : (seg2 N C E wf).window (ix2 e c) 0 = 0 := by
    unfold ScatterDims.window
    rw [dif_neg (fun h => (of_decide_eq_true (List.mem_filter.1 h).2) (List.mem_singleton.2 rfl))]
  have h1 : (seg2 N C E wf).start (ix2 e c) idx 1 = 0 := by
    unfold ScatterDims.start
    rw [dif_neg (by simp)]
  have w1 : (seg2 N C E wf).window (ix2 e c) 1 = c.val := rfl
  rw [resultIdx?_eq_some]
  constructor
  · intro h
    have a0 := h 0
    have a1 := h 1
    rw [h0, w0] at a0
    rw [h1, w1] at a1
    refine ⟨by simpa using a0, Fin.ext ?_⟩
    simpa using a1
  · rintro ⟨h, rfl⟩ a
    match a with
    | ⟨0, _⟩ =>
      show (seg2 N C E wf).start (ix2 e c) idx 0 + ((seg2 N C E wf).window (ix2 e c) 0 : Int) = _
      rw [h0, w0, h]; simp
    | ⟨1, _⟩ =>
      show (seg2 N C E wf).start (ix2 e c) idx 1 + ((seg2 N C E wf).window (ix2 e c) 1 : Int) = _
      rw [h1, w1]; simp

/-- Where a box slab's update lands. -/
theorem lands3 (wf : ScatterDims.WF ⟨3, ![N, C, D]⟩ ⟨2, ![E, 1]⟩ ⟨3, ![E, C, D]⟩ [1, 2] [0] [0] 1) (idx : IVec ⟨2, ![E, 1]⟩ 32) (e : Fin E) (c : Fin C) (k : Fin D) (n : Fin N) (l : Fin C) (j : Fin D) :
    (seg3 N C D E wf).resultIdx? (ix3 e c k) idx = some (ix3 n l j)
      ↔ (idx (ix2 e 0)).toInt = (n.val : Int) ∧ c = l ∧ k = j := by
  have h0 : (seg3 N C D E wf).start (ix3 e c k) idx 0 = (idx (ix2 e 0)).toInt := by
    unfold ScatterDims.start
    rw [dif_pos (List.mem_singleton.mpr rfl)]
    refine congrArg (fun i => (idx i).toInt) (funext fun b => Fin.ext ?_)
    match b with
    | ⟨0, _⟩ => rfl
    | ⟨1, _⟩ => rfl
  have w0 : (seg3 N C D E wf).window (ix3 e c k) 0 = 0 := by
    unfold ScatterDims.window
    rw [dif_neg (fun h => (of_decide_eq_true (List.mem_filter.1 h).2) (List.mem_singleton.2 rfl))]
  have h1 : (seg3 N C D E wf).start (ix3 e c k) idx 1 = 0 := by
    unfold ScatterDims.start
    rw [dif_neg (by simp)]
  have h2 : (seg3 N C D E wf).start (ix3 e c k) idx 2 = 0 := by
    unfold ScatterDims.start
    rw [dif_neg (by simp)]
  have w1 : (seg3 N C D E wf).window (ix3 e c k) 1 = c.val := rfl
  have w2 : (seg3 N C D E wf).window (ix3 e c k) 2 = k.val := rfl
  rw [resultIdx?_eq_some]
  constructor
  · intro h
    have a0 := h 0
    have a1 := h 1
    have a2 := h 2
    rw [h0, w0] at a0
    rw [h1, w1] at a1
    rw [h2, w2] at a2
    refine ⟨by simpa using a0, Fin.ext ?_, Fin.ext ?_⟩
    · simpa using a1
    · simpa using a2
  · rintro ⟨h, rfl, rfl⟩ a
    match a with
    | ⟨0, _⟩ =>
      show (seg3 N C D E wf).start (ix3 e c k) idx 0 + ((seg3 N C D E wf).window (ix3 e c k) 0 : Int) = _
      rw [h0, w0, h]; simp
    | ⟨1, _⟩ =>
      show (seg3 N C D E wf).start (ix3 e c k) idx 1 + ((seg3 N C D E wf).window (ix3 e c k) 1 : Int) = _
      rw [h1, w1]; simp
    | ⟨2, _⟩ =>
      show (seg3 N C D E wf).start (ix3 e c k) idx 2 + ((seg3 N C D E wf).window (ix3 e c k) 2 : Int) = _
      rw [h2, w2]; simp

/-- A word of a small number, read signed, is that number. -/
theorem word_int {N : ℕ} (hN : N ≤ 2 ^ 31) (a n : Fin N) : (BitVec.ofNat 32 a.val).toInt = (n.val : Int) ↔ a = n := by
  rw [StableHlo.Predicate.toInt_ofNat_small _ (by have := a.isLt; omega)]
  rw [Fin.ext_iff]; omega

/-- The segment sum of a vector. -/
theorem segsum1 (wf : ScatterDims.WF ⟨1, ![N]⟩ ⟨2, ![E, 1]⟩ ⟨1, ![E]⟩ [] [0] [0] 1) (hN : N ≤ 2 ^ 31) (x : FVec Ideal ⟨1, ![N]⟩ .f32) (idx : IVec ⟨2, ![E, 1]⟩ 32) (upd : FVec Ideal ⟨1, ![E]⟩ .f32)
    (dst : Fin E → Fin N) (hi : ∀ e, idx (ix2 e 0) = BitVec.ofNat 32 (dst e).val) (n : Fin N) :
    Host.scatterAdd (seg1 N E wf) x idx upd (ix1 n) = x (ix1 n) + ∑ e, if dst e = n then upd (ix1 e) else 0 := by
  show x (ix1 n) + ∑ j ∈ Finset.univ.filter (fun j => (seg1 N E wf).resultIdx? j idx = some (ix1 n)), upd j = _
  rw [Finset.sum_filter, sum_idx1]
  simp only [lands1, hi, word_int hN]

/-- The segment sum of a matrix's rows. -/
theorem segsum2 (wf : ScatterDims.WF ⟨2, ![N, C]⟩ ⟨2, ![E, 1]⟩ ⟨2, ![E, C]⟩ [1] [0] [0] 1) (hN : N ≤ 2 ^ 31) (x : FVec Ideal ⟨2, ![N, C]⟩ .f32) (idx : IVec ⟨2, ![E, 1]⟩ 32) (upd : FVec Ideal ⟨2, ![E, C]⟩ .f32)
    (dst : Fin E → Fin N) (hi : ∀ e, idx (ix2 e 0) = BitVec.ofNat 32 (dst e).val) (n : Fin N) (l : Fin C) :
    Host.scatterAdd (seg2 N C E wf) x idx upd (ix2 n l) = x (ix2 n l) + ∑ e, if dst e = n then upd (ix2 e l) else 0 := by
  show x (ix2 n l) + ∑ j ∈ Finset.univ.filter (fun j => (seg2 N C E wf).resultIdx? j idx = some (ix2 n l)), upd j = _
  rw [Finset.sum_filter, sum_idx2]
  simp only [lands2, hi, word_int hN]
  refine congrArg (x (ix2 n l) + ·) (Finset.sum_congr rfl fun e _ => ?_)
  by_cases h : dst e = n <;> simp [h]

/-- The segment sum of a box's slabs. -/
theorem segsum3 (wf : ScatterDims.WF ⟨3, ![N, C, D]⟩ ⟨2, ![E, 1]⟩ ⟨3, ![E, C, D]⟩ [1, 2] [0] [0] 1) (hN : N ≤ 2 ^ 31) (x : FVec Ideal ⟨3, ![N, C, D]⟩ .f32) (idx : IVec ⟨2, ![E, 1]⟩ 32) (upd : FVec Ideal ⟨3, ![E, C, D]⟩ .f32)
    (dst : Fin E → Fin N) (hi : ∀ e, idx (ix2 e 0) = BitVec.ofNat 32 (dst e).val) (n : Fin N) (l : Fin C) (j : Fin D) :
    Host.scatterAdd (seg3 N C D E wf) x idx upd (ix3 n l j) = x (ix3 n l j) + ∑ e, if dst e = n then upd (ix3 e l j) else 0 := by
  show x (ix3 n l j) + ∑ i ∈ Finset.univ.filter (fun i => (seg3 N C D E wf).resultIdx? i idx = some (ix3 n l j)), upd i = _
  rw [Finset.sum_filter, sum_idx3]
  simp only [lands3, hi, word_int hN]
  refine congrArg (x (ix3 n l j) + ·) (Finset.sum_congr rfl fun e _ => ?_)
  by_cases h : dst e = n
  · simp only [h, true_and, if_true]
    rw [Finset.sum_eq_single l (fun b _ hb => by simp [hb]) (fun h => absurd (Finset.mem_univ _) h)]
    simp
  · simp [h]

/-- The dimension numbers of a gather of slabs of a box by a column of index words. -/
abbrev take3 (N C D E : ℕ)
    (wf : GatherDims.WF ⟨3, ![N, C, D]⟩ ⟨2, ![E, 1]⟩ ⟨3, ![E, C, D]⟩ [1, 2] [0] [] [0] [] 1 ![1, C, D]) : GatherDims ⟨3, ![N, C, D]⟩ ⟨2, ![E, 1]⟩ ⟨3, ![E, C, D]⟩ where
  offsetDims := [1, 2]
  collapsedSliceDims := [0]
  operandBatchingDims := []
  startIndicesBatchingDims := []
  startIndexMap := [0]
  indexVectorDim := 1
  sliceSizes := ![1, C, D]
  wf := wf

/-- A gather of slabs of a box: the slab its index word names. -/
theorem gather3 {α : Type}
    (wf : GatherDims.WF ⟨3, ![N, C, D]⟩ ⟨2, ![E, 1]⟩ ⟨3, ![E, C, D]⟩ [1, 2] [0] [] [0] [] 1 ![1, C, D]) (hN : N ≤ 2 ^ 31) (x : (⟨3, ![N, C, D]⟩ : Shape).Idx → α) (idx : IVec ⟨2, ![E, 1]⟩ 32)
    (b : Fin N) (e : Fin E) (hb : idx (ix2 e 0) = BitVec.ofNat 32 b.val) (l : Fin C) (j : Fin D) :
    Host.gather (take3 N C D E wf) x idx (ix3 e l j) = x (ix3 b l j) := by
  unfold Host.gather
  refine congrArg x (funext fun a => Fin.ext ?_)
  match a with
  | ⟨0, _⟩ =>
    show (take3 N C D E wf).start (ix3 e l j) idx 0 + (take3 N C D E wf).batchCoord (ix3 e l j) 0
      + (take3 N C D E wf).offCoord (ix3 e l j) 0 = b.val
    rw [GatherDims.batchCoord_eq_zero _ _ _ (by simp),
      GatherDims.offCoord_eq_zero _ _ _ (fun h => ((GatherDims.mem_sKept _ _).mp h).1 (List.mem_singleton.mpr rfl))]
    simp only [Nat.add_zero]
    unfold GatherDims.start
    rw [dif_pos (show (0 : Fin 3) ∈ (take3 N C D E wf).startIndexMap from List.mem_singleton.mpr rfl)]
    have hsi : (take3 N C D E wf).siIdx (ix3 e l j) ⟨List.idxOf (0 : Fin 3) (take3 N C D E wf).startIndexMap,
        List.idxOf_lt_length_iff.2 (List.mem_singleton.mpr rfl)⟩ = ix2 e 0 := by
      funext b'; refine Fin.ext ?_
      match b' with
      | ⟨0, _⟩ => rfl
      | ⟨1, _⟩ => rfl
    have := b.isLt
    rw [hsi, hb, StableHlo.Predicate.toInt_ofNat_small _ (by omega)]
    show min ((b.val : Int)).toNat (N - 1) = b.val
    omega
  | ⟨1, _⟩ =>
    show (take3 N C D E wf).start (ix3 e l j) idx 1 + (take3 N C D E wf).batchCoord (ix3 e l j) 1
      + (take3 N C D E wf).offCoord (ix3 e l j) 1 = l.val
    rw [GatherDims.batchCoord_eq_zero _ _ _ (by simp)]
    have : (take3 N C D E wf).start (ix3 e l j) idx 1 = 0 := by
      unfold GatherDims.start
      rw [dif_neg (by simp)]
    rw [this]
    simp only [Nat.add_zero, Nat.zero_add]
    rfl
  | ⟨2, _⟩ =>
    show (take3 N C D E wf).start (ix3 e l j) idx 2 + (take3 N C D E wf).batchCoord (ix3 e l j) 2
      + (take3 N C D E wf).offCoord (ix3 e l j) 2 = j.val
    rw [GatherDims.batchCoord_eq_zero _ _ _ (by simp)]
    have : (take3 N C D E wf).start (ix3 e l j) idx 2 = 0 := by
      unfold GatherDims.start
      rw [dif_neg (by simp)]
    rw [this]
    simp only [Nat.add_zero, Nat.zero_add]
    rfl
end Lands
end HostOps
-- ==== Proof.RefOps.lean ====
module
public import proofs.«01_k».proof.Proof.Gen.ReferenceIdeal.Run
public import proofs.«01_k».proof.Proof.Spec
public import proofs.«01_k».proof.Proof.HostOps
@[expose] public section
noncomputable section
set_option maxRecDepth 16384
open Idealize.ShloMosaic Idealize.ShloMosaic.TcCoe Idealize.SL.Sem

/-! The reference's host operations for one layer, as functions of their operands, read at an index. -/
namespace Cert.ReferenceIdeal.Value
open Cert.ReferenceIdeal Cert.ReferenceIdeal.Gen

/-- The row numbers a gather uses: the words, wrapped once if negative, as a column. -/
def wrapE (w : IVec S262144 32) : IVec S262144x1 32 :=
  broadcastInDim S262144x1 ![0] bcast_S262144_S262144x1_0 (select (cmpi .slt w (broadcastInDim S262144 ![] bcast_S_S262144 (constantI S_ 32 0#32))) (addi w (broadcastInDim S262144 ![] bcast_S_S262144 (constantI S_ 32 512#32))) w)

/-- The words of a segment sum over edges, as a column. -/
def colE (w : IVec S262144 32) : IVec S262144x1 32 := broadcastInDim S262144x1 ![0] bcast_S262144_S262144x1_0 w

/-- The row numbers of the gather by molecule, as a column. -/
def wrapB (w : IVec S512 32) : IVec S512x1 32 :=
  broadcastInDim S512x1 ![0] bcast_S512_S512x1_0 (select (cmpi .slt w (broadcastInDim S512 ![] bcast_S_S512 (constantI S_ 32 0#32))) (addi w (broadcastInDim S512 ![] bcast_S_S512 (constantI S_ 32 16#32))) w)

/-- The words of a segment sum over nodes, as a column. -/
def colB (w : IVec S512 32) : IVec S512x1 32 := broadcastInDim S512x1 ![0] bcast_S512_S512x1_0 w

section Words
variable {w : IVec S262144 32} {s : Fin 262144 → Fin 512} (h : ∀ e, w (ix1 e) = BitVec.ofNat 32 (s e).val)
variable {u : IVec S512 32} {b : Fin 512 → Fin 16} (hb : ∀ n, u (ix1 n) = BitVec.ofNat 32 (b n).val)
include h in
theorem wrapE_apply (e : Fin 262144) : wrapE w (ix2 e 0) = BitVec.ofNat 32 (s e).val := by
  pointwise [wrapE]
  rw [h]
  exact Routing.wrap_of_lt _ _ (by simp; omega)
include h in
theorem colE_apply (e : Fin 262144) : colE w (ix2 e 0) = BitVec.ofNat 32 (s e).val := by
  pointwise [colE]
  rw [h]
include hb in
theorem wrapB_apply (n : Fin 512) : wrapB u (ix2 n 0) = BitVec.ofNat 32 (b n).val := by
  pointwise [wrapB]
  rw [hb]
  exact Routing.wrap_of_lt _ _ (by simp; omega)
include hb in
theorem colB_apply (n : Fin 512) : colB u (ix2 n 0) = BitVec.ofNat 32 (b n).val := by
  pointwise [colB]
  rw [hb]
end Words

/-- Node positions at the edges' ends. -/
def takeP (P : FVec Ideal S512x3 .f32) (w : IVec S262144 32) : FVec Ideal S262144x3 .f32 :=
  Host.gather gather_S512x3_S262144x1_S262144x3_1_0_n_n_0_1_13 P (wrapE w)

/-- Node scalars at the edges' ends. -/
def takeS (S : FVec Ideal S512x64 .f32) (w : IVec S262144 32) : FVec Ideal S262144x64 .f32 :=
  Host.gather gather_S512x64_S262144x1_S262144x64_1_0_n_n_0_1_164 S (wrapE w)

/-- Node vectors at the edges' ends. -/
def takeV (V : FVec Ideal S512x3x16 .f32) (w : IVec S262144 32) : FVec Ideal S262144x3x16 .f32 :=
  Host.gather gather_S512x3x16_S262144x1_S262144x3x16_12_0_n_n_0_1_1316 V (wrapE w)

/-- The displacement along each edge. -/
def dispE (P : FVec Ideal S512x3 .f32) (ws wd : IVec S262144 32) : FVec Ideal S262144x3 .f32 := subf (takeP P wd) (takeP P ws)

/-- The length of a displacement, kept away from zero. -/
def distE (r : FVec Ideal S262144x3 .f32) : FVec Ideal S262144 .f32 :=
  Host.sqrt (maximumf (broadcastInDim S262144 ![] bcast_S_S262144 (id (constant S_ .f32 0x358637BD#32))) (Host.reduceAdd (mulf r r) (constant S_ .f32 0x00000000#32) reducesTo_S262144x3_S262144_d1 h_S_))

/-- A displacement divided by a length. -/
def unitE (r : FVec Ideal S262144x3 .f32) (d : FVec Ideal S262144 .f32) : FVec Ideal S262144x3 .f32 :=
  Host.divf r (broadcastInDim S262144x3 ![0, 1] bcast_S262144x1_S262144x3_0_1 (broadcastInDim S262144x1 ![0] bcast_S262144_S262144x1_0 d))

/-- The inner product of two rows of positions. -/
def innerE (x y : FVec Ideal S262144x3 .f32) : FVec Ideal S262144 .f32 :=
  Host.reduceAdd (mulf x y) (constant S_ .f32 0x00000000#32) reducesTo_S262144x3_S262144_d1 h_S_

/-- The dense layer over an edge's five pieces. -/
def msgE (sa sb : FVec Ideal S262144x64 .f32) (e : FVec Ideal S262144x16 .f32) (d a : FVec Ideal S262144 .f32)
    (W : FVec Ideal S146x113 .f32) (b : FVec Ideal S113 .f32) : FVec Ideal S262144x113 .f32 :=
  addf (Host.dotGeneral (φ₁ := .f32) (φ₂ := .f32) dot_S262144x146_S146x113_S262144x113_1_0_0_1_n_n none ((concatenate S262144x146 1 [⟨S262144x64, (sa : (⟨S262144x64, .f32⟩ : BufTy).Contents (Elt Ideal))⟩, ⟨S262144x64, (sb : (⟨S262144x64, .f32⟩ : BufTy).Contents (Elt Ideal))⟩, ⟨S262144x16, (e : (⟨S262144x16, .f32⟩ : BufTy).Contents (Elt Ideal))⟩, ⟨S262144x1, ((broadcastInDim S262144x1 ![0] bcast_S262144_S262144x1_0 d) : (⟨S262144x1, .f32⟩ : BufTy).Contents (Elt Ideal))⟩, ⟨S262144x1, ((broadcastInDim S262144x1 ![0] bcast_S262144_S262144x1_0 a) : (⟨S262144x1, .f32⟩ : BufTy).Contents (Elt Ideal))⟩] concatenates_S262144x64_S262144x64_S262144x16_S262144x1_S262144x1_S262144x146_d1 : (⟨S262144x146, .f32⟩ : BufTy).Contents (Elt Ideal))) W) (broadcastInDim S262144x113 ![0, 1] bcast_S1x113_S262144x113_0_1 (broadcastInDim S1x113 ![1] bcast_S113_S1x113_1 b))

/-- The sigmoid-weighted unit of 64 columns. -/
def siluE (x : FVec Ideal S262144x64 .f32) : FVec Ideal S262144x64 .f32 :=
  mulf x (Host.divf (broadcastInDim S262144x64 ![] bcast_S_S262144x64 (constant S_ .f32 0x3F800000#32)) (addf (broadcastInDim S262144x64 ![] bcast_S_S262144x64 (constant S_ .f32 0x3F800000#32)) (Host.exp (Host.negf x))))

/-- The sigmoid-weighted unit of 16 columns. -/
def siluF (x : FVec Ideal S262144x16 .f32) : FVec Ideal S262144x16 .f32 :=
  mulf x (Host.divf (broadcastInDim S262144x16 ![] bcast_S_S262144x16 (constant S_ .f32 0x3F800000#32)) (addf (broadcastInDim S262144x16 ![] bcast_S_S262144x16 (constant S_ .f32 0x3F800000#32)) (Host.exp (Host.negf x))))

/-- The number of edges into each node. -/
def rawE (wd : IVec S262144 32) : FVec Ideal S512 .f32 :=
  (Host.scatterAdd scatter_S512_S262144x1_S262144_n_0_0_1 (broadcastInDim S512 ![] bcast_S_S512 (constant S_ .f32 0x00000000#32)) (colE wd) (broadcastInDim S262144 ![] bcast_S_S262144 (constant S_ .f32 0x3F800000#32)))

/-- The number of edges into each node, at least one. -/
def cntE (wd : IVec S262144 32) : FVec Ideal S512 .f32 :=
  maximumf (rawE wd) (broadcastInDim S512 ![] bcast_S_S512 (constant S_ .f32 0x3F800000#32))

/-- The number of nodes of each molecule. -/
def rawB (u : IVec S512 32) : FVec Ideal S16 .f32 :=
  (Host.scatterAdd scatter_S16_S512x1_S512_n_0_0_1 (broadcastInDim S16 ![] bcast_S_S16 (constant S_ .f32 0x00000000#32)) (colB u) (broadcastInDim S512 ![] bcast_S_S512 (constant S_ .f32 0x3F800000#32)))

/-- The number of nodes of each molecule, at least one. -/
def cntB (u : IVec S512 32) : FVec Ideal S16 .f32 :=
  maximumf (rawB u) (broadcastInDim S16 ![] bcast_S_S16 (constant S_ .f32 0x3F800000#32))

/-- The segment sums over edges, of scalars, vectors and displacements. -/
def sumS (wd : IVec S262144 32) (x : FVec Ideal S262144x64 .f32) : FVec Ideal S512x64 .f32 :=
  Host.scatterAdd scatter_S512x64_S262144x1_S262144x64_1_0_0_1 (broadcastInDim S512x64 ![] bcast_S_S512x64 (constant S_ .f32 0x00000000#32)) (colE wd) x
@[inherit_doc sumS]
def sumV (wd : IVec S262144 32) (x : FVec Ideal S262144x3x16 .f32) : FVec Ideal S512x3x16 .f32 :=
  Host.scatterAdd scatter_S512x3x16_S262144x1_S262144x3x16_12_0_0_1 (broadcastInDim S512x3x16 ![] bcast_S_S512x3x16 (constant S_ .f32 0x00000000#32)) (colE wd) x
@[inherit_doc sumS]
def sumP (wd : IVec S262144 32) (x : FVec Ideal S262144x3 .f32) : FVec Ideal S512x3 .f32 :=
  Host.scatterAdd scatter_S512x3_S262144x1_S262144x3_1_0_0_1 (broadcastInDim S512x3 ![] bcast_S_S512x3 (constant S_ .f32 0x00000000#32)) (colE wd) x
/-- The segment sum over nodes, of positions. -/
def sumB (u : IVec S512 32) (x : FVec Ideal S512x3 .f32) : FVec Ideal S16x3 .f32 :=
  Host.scatterAdd scatter_S16x3_S512x1_S512x3_1_0_0_1 (broadcastInDim S16x3 ![] bcast_S_S16x3 (constant S_ .f32 0x00000000#32)) (colB u) x
/-- The molecule's row at each node. -/
def takeB (x : FVec Ideal S16x3 .f32) (u : IVec S512 32) : FVec Ideal S512x3 .f32 :=
  Host.gather gather_S16x3_S512x1_S512x3_1_0_n_n_0_1_13 x (wrapB u)

/-- The next scalars. -/
def nextSN (S : FVec Ideal S512x64 .f32) (wd : IVec S262144 32) (x : FVec Ideal S262144x64 .f32) (Wu : FVec Ideal S64x64 .f32) : FVec Ideal S512x64 .f32 :=
  addf S (Host.dotGeneral dot_S512x64_S64x64_S512x64_1_0_0_1_n_n none (Host.divf (sumS wd x) (broadcastInDim S512x64 ![0, 1] bcast_S512x1_S512x64_0_1 (shapeCast _ (cntE wd) shapeCasts_S512_S512x1))) Wu)

/-- An edge's vector message. -/
def vecE (vs : FVec Ideal S262144x3x16 .f32) (m : FVec Ideal S262144x113 .f32) (rn : FVec Ideal S262144x3 .f32) : FVec Ideal S262144x3x16 .f32 :=
  addf (mulf vs (broadcastInDim S262144x3x16 ![0, 1, 2] bcast_S262144x1x16_S262144x3x16_0_1_2 (broadcastInDim S262144x1x16 ![0, 2] bcast_S262144x16_S262144x1x16_0_2 (extractStridedSlice S262144x16 ![0, 64] m slices_S262144x113_S262144x16_0_64)))) (mulf (broadcastInDim S262144x3x16 ![0, 1, 2] bcast_S262144x3x1_S262144x3x16_0_1_2 (broadcastInDim S262144x3x1 ![0, 1] bcast_S262144x3_S262144x3x1_0_1 rn)) (broadcastInDim S262144x3x16 ![0, 1, 2] bcast_S262144x1x16_S262144x3x16_0_1_2 (broadcastInDim S262144x1x16 ![0, 2] bcast_S262144x16_S262144x1x16_0_2 (extractStridedSlice S262144x16 ![0, 80] m slices_S262144x113_S262144x16_0_80))))

/-- The next vectors. -/
def nextVN (V : FVec Ideal S512x3x16 .f32) (wd : IVec S262144 32) (x : FVec Ideal S262144x3x16 .f32) : FVec Ideal S512x3x16 .f32 :=
  addf V (Host.divf (sumV wd x) (broadcastInDim S512x3x16 ![0, 1, 2] bcast_S512x1x1_S512x3x16_0_1_2 (shapeCast _ (cntE wd) shapeCasts_S512_S512x1x1)))

/-- An edge's push on its target's position. -/
def pushE (m : FVec Ideal S262144x113 .f32) (rn : FVec Ideal S262144x3 .f32) : FVec Ideal S262144x3 .f32 :=
  mulf rn (broadcastInDim S262144x3 ![0, 1] bcast_S262144x1_S262144x3_0_1 (Host.tanh (extractStridedSlice S262144x1 ![0, 112] m slices_S262144x113_S262144x1_0_112)))

/-- The moved positions. -/
def midPN (P : FVec Ideal S512x3 .f32) (wd : IVec S262144 32) (x : FVec Ideal S262144x3 .f32) : FVec Ideal S512x3 .f32 :=
  addf P (Host.divf (sumP wd x) (broadcastInDim S512x3 ![0, 1] bcast_S512x1_S512x3_0_1 (shapeCast _ (cntE wd) shapeCasts_S512_S512x1)))

/-- Positions less the mean of their molecule. -/
def centerN (P : FVec Ideal S512x3 .f32) (u : IVec S512 32) : FVec Ideal S512x3 .f32 :=
  subf P (takeB (Host.divf (sumB u P) (broadcastInDim S16x3 ![0, 1] bcast_S16x1_S16x3_0_1 (shapeCast _ (cntB u) shapeCasts_S16_S16x1))) u)

/-- Scalars less their row's mean. -/
def devN (S : FVec Ideal S512x64 .f32) : FVec Ideal S512x64 .f32 :=
  subf S (broadcastInDim S512x64 ![0, 1] bcast_S512x1_S512x64_0_1 (Host.divf (broadcastInDim S512x1 ![0] bcast_S512_S512x1_0 (Host.reduceAdd S (constant S_ .f32 0x00000000#32) reducesTo_S512x64_S512_d1 h_S_)) (broadcastInDim S512x1 ![] bcast_S_S512x1 (constant S_ .f32 0x42800000#32))))

/-- The divisor of the variance. -/
def varDen : FVec Ideal S_ .f32 := subf (constant S_ .f32 0x42800000#32) (sitofp .f32 (constantI S_ 32 0#32))

/-- The layer norm of the scalars. -/
def normSN (S : FVec Ideal S512x64 .f32) (g b : FVec Ideal S64 .f32) : FVec Ideal S512x64 .f32 :=
  addf (mulf (Host.divf (devN S) (broadcastInDim S512x64 ![0, 1] bcast_S512x1_S512x64_0_1 (Host.sqrt (addf (select (broadcastInDim S512x1 ![] bcast_S_S512x1 (cmpf .ogt varDen (constant S_ .f32 0x00000000#32))) (Host.divf (broadcastInDim S512x1 ![0] bcast_S512_S512x1_0 (Host.reduceAdd (mulf (devN S) (devN S)) (constant S_ .f32 0x00000000#32) reducesTo_S512x64_S512_d1 h_S_)) (broadcastInDim S512x1 ![] bcast_S_S512x1 varDen)) (broadcastInDim S512x1 ![] bcast_S_S512x1 (id (constant S_ .f32 0x7FC00000#32)))) (broadcastInDim S512x1 ![] bcast_S_S512x1 (constant S_ .f32 0x3727C5AC#32)))))) (broadcastInDim S512x64 ![0, 1] bcast_S1x64_S512x64_0_1 (broadcastInDim S1x64 ![1] bcast_S64_S1x64_1 g))) (broadcastInDim S512x64 ![0, 1] bcast_S1x64_S512x64_0_1 (broadcastInDim S1x64 ![1] bcast_S64_S1x64_1 b))

/-- The root-mean-square norm of the vectors. -/
def normVN (V : FVec Ideal S512x3x16 .f32) : FVec Ideal S512x3x16 .f32 :=
  Host.divf V (broadcastInDim S512x3x16 ![0, 1, 2] bcast_S512x1x1_S512x3x16_0_1_2 (Host.sqrt (addf (Host.divf (broadcastInDim S512x1x1 ![0, 1] bcast_S512x1_S512x1x1_0_1 (Host.reduceAdd (broadcastInDim S512x1x16 ![0, 2] bcast_S512x16_S512x1x16_0_2 (Host.reduceAdd (mulf V V) (constant S_ .f32 0x00000000#32) reducesTo_S512x3x16_S512x16_d1 h_S_)) (constant S_ .f32 0x00000000#32) reducesTo_S512x1x16_S512x1_d2 h_S_)) (broadcastInDim S512x1x1 ![] bcast_S_S512x1x1 (constant S_ .f32 0x41800000#32))) (broadcastInDim S512x1x1 ![] bcast_S_S512x1x1 (constant S_ .f32 0x358637BD#32)))))

section Takes
variable {w : IVec S262144 32} {s : Fin 262144 → Fin 512} (h : ∀ e, w (ix1 e) = BitVec.ofNat 32 (s e).val)
variable {u : IVec S512 32} {b : Fin 512 → Fin 16} (hb : ∀ n, u (ix1 n) = BitVec.ofNat 32 (b n).val)
include h in
/-- A gathered position is the position of the node the word names. -/
theorem takeP_apply (P : FVec Ideal S512x3 .f32) (e : Fin 262144) (c : Fin 3) : takeP P w (ix2 e c) = P (ix2 (s e) c) :=
  Routing.gather_row _ rfl rfl rfl rfl rfl P (wrapE w) e c (s e) (wrapE_apply h e) (by norm_num)
include h in
/-- Gathered scalars. -/
theorem takeS_apply (S : FVec Ideal S512x64 .f32) (e : Fin 262144) (l : Fin 64) : takeS S w (ix2 e l) = S (ix2 (s e) l) :=
  Routing.gather_row _ rfl rfl rfl rfl rfl S (wrapE w) e l (s e) (wrapE_apply h e) (by norm_num)
include h in
/-- Gathered vectors. -/
theorem takeV_apply (V : FVec Ideal S512x3x16 .f32) (e : Fin 262144) (c : Fin 3) (k : Fin 16) : takeV V w (ix3 e c k) = V (ix3 (s e) c k) :=
  HostOps.gather3 _ (by norm_num) V (wrapE w) (s e) e (wrapE_apply h e) c k
include hb in
/-- A gathered molecule row. -/
theorem takeB_apply (x : FVec Ideal S16x3 .f32) (n : Fin 512) (c : Fin 3) : takeB x u (ix2 n c) = x (ix2 (b n) c) :=
  Routing.gather_row _ rfl rfl rfl rfl rfl x (wrapB u) n c (b n) (wrapB_apply hb n) (by norm_num)
include h in
/-- The segment sum of scalars over edges. -/
theorem sumS_apply (x : FVec Ideal S262144x64 .f32) (n : Fin 512) (l : Fin 64) :
    sumS w x (ix2 n l) = ∑ e, if s e = n then x (ix2 e l) else 0 := by
  refine (HostOps.segsum2 _ (by norm_num) _ (colE w) x s (colE_apply h) n l).trans ?_
  pointwise []
include h in
/-- The segment sum of vectors over edges. -/
theorem sumV_apply (x : FVec Ideal S262144x3x16 .f32) (n : Fin 512) (c : Fin 3) (k : Fin 16) :
    sumV w x (ix3 n c k) = ∑ e, if s e = n then x (ix3 e c k) else 0 := by
  refine (HostOps.segsum3 _ (by norm_num) _ (colE w) x s (colE_apply h) n c k).trans ?_
  pointwise []
include h in
/-- The segment sum of displacements over edges. -/
theorem sumP_apply (x : FVec Ideal S262144x3 .f32) (n : Fin 512) (c : Fin 3) :
    sumP w x (ix2 n c) = ∑ e, if s e = n then x (ix2 e c) else 0 := by
  refine (HostOps.segsum2 _ (by norm_num) _ (colE w) x s (colE_apply h) n c).trans ?_
  pointwise []
include hb in
/-- The segment sum of positions over nodes. -/
theorem sumB_apply (x : FVec Ideal S512x3 .f32) (n : Fin 16) (c : Fin 3) :
    sumB u x (ix2 n c) = ∑ k, if b k = n then x (ix2 k c) else 0 := by
  refine (HostOps.segsum2 _ (by norm_num) _ (colB u) x b (colB_apply hb) n c).trans ?_
  pointwise []
include h in
/-- The count of edges into a node. -/
theorem rawE_apply (n : Fin 512) : rawE w (ix1 n) = ∑ e, if s e = n then 1 else 0 := by
  refine (HostOps.segsum1 _ (by norm_num) _ (colE w) _ s (colE_apply h) n).trans ?_
  pointwise []
include hb in
/-- The count of nodes of a molecule. -/
theorem rawB_apply (n : Fin 16) : rawB u (ix1 n) = ∑ e, if b e = n then 1 else 0 := by
  refine (HostOps.segsum1 _ (by norm_num) _ (colB u) _ b (colB_apply hb) n).trans ?_
  pointwise []
include h in
/-- The count of edges into a node, at least one. -/
theorem cntE_apply (n : Fin 512) : cntE w (ix1 n) = max (∑ e, if s e = n then 1 else 0) 1 := by
  pointwise [cntE]
  rw [rawE_apply h]
include hb in
/-- The count of nodes of a molecule, at least one. -/
theorem cntB_apply (n : Fin 16) : cntB u (ix1 n) = max (∑ e, if b e = n then 1 else 0) 1 := by
  pointwise [cntB]
  rw [rawB_apply hb]
end Takes

/-- The length of a displacement. -/
theorem distE_apply (r : FVec Ideal S262144x3 .f32) (e : Fin 262144) :
    distE r (ix1 e) = Ideal.sqrt (max (Ideal.ofBits FTy.f32 0x358637BD#32) (∑ c, r (ix2 e c) * r (ix2 e c))) := by
  pointwise [distE]
  rfl
/-- The unit vector. -/
theorem unitE_apply (r : FVec Ideal S262144x3 .f32) (d : FVec Ideal S262144 .f32) (e : Fin 262144) (c : Fin 3) :
    unitE r d (ix2 e c) = Ideal.div (r (ix2 e c)) (d (ix1 e)) := by
  pointwise [unitE]
/-- The inner product. -/
theorem innerE_apply (x y : FVec Ideal S262144x3 .f32) (e : Fin 262144) :
    innerE x y (ix1 e) = ∑ c, x (ix2 e c) * y (ix2 e c) := by
  pointwise [innerE]
/-- The sigmoid-weighted unit, element by element. -/
theorem siluE_apply (x : FVec Ideal S262144x64 .f32) (e : Fin 262144) (l : Fin 64) : siluE x (ix2 e l) = Spec.silu (x (ix2 e l)) := by
  pointwise [siluE]
  rfl
@[inherit_doc siluE_apply]
theorem siluF_apply (x : FVec Ideal S262144x16 .f32) (e : Fin 262144) (l : Fin 16) : siluF x (ix2 e l) = Spec.silu (x (ix2 e l)) := by
  pointwise [siluF]
  rfl

/-- The message of an edge. -/
theorem msgE_apply (sa sb : FVec Ideal S262144x64 .f32) (e : FVec Ideal S262144x16 .f32) (d a : FVec Ideal S262144 .f32)
    (W : FVec Ideal S146x113 .f32) (b : FVec Ideal S113 .f32) (t : Fin 262144) (l : Fin 113) :
    msgE sa sb e d a W b (ix2 t l) = Spec.msg (fun k => sa (ix2 t k)) (fun k => sb (ix2 t k)) (fun k => e (ix2 t k))
      (d (ix1 t)) (a (ix1 t)) (fun k l => W (ix2 k l)) (fun l => b (ix1 l)) l := by
  pointwise [msgE]
  unfold Spec.msg
  refine Ideal.add_congr ?_ rfl
  rw [Spec.sum146]
  refine Ideal.add_congr (Ideal.add_congr (Ideal.add_congr (Ideal.add_congr ?_ ?_) ?_) ?_) ?_
  · refine Finset.sum_congr rfl fun k _ => ?_
    simp
  · refine Finset.sum_congr rfl fun k _ => ?_
    simp
  · refine Finset.sum_congr rfl fun k _ => ?_
    have hk : (⟨128 + k.val - 64 - 64, by omega⟩ : Fin 16) = k := Fin.ext (by show 128 + k.val - 64 - 64 = k.val; omega)
    simp only []
    rw [dif_neg (by omega), dif_neg (by omega), dif_pos (by omega), hk]
  · simp
  · simp

section Layer
variable {w : IVec S262144 32} {s : Fin 262144 → Fin 512} (h : ∀ e, w (ix1 e) = BitVec.ofNat 32 (s e).val)
variable {u : IVec S512 32} {b : Fin 512 → Fin 16} (hb : ∀ n, u (ix1 n) = BitVec.ofNat 32 (b n).val)
include h in
/-- The next scalars. -/
theorem nextSN_apply (S : FVec Ideal S512x64 .f32) (x : FVec Ideal S262144x64 .f32) (Wu : FVec Ideal S64x64 .f32) (n : Fin 512) (l : Fin 64) :
    nextSN S w x Wu (ix2 n l) = S (ix2 n l) + ∑ k, Ideal.div (∑ e, if s e = n then x (ix2 e k) else 0)
      (max (∑ e, if s e = n then 1 else 0) 1) * Wu (ix2 k l) := by
  pointwise [nextSN]
  simp only [sumS_apply h, cntE_apply h]
/-- An edge's vector message. -/
theorem vecE_apply (vs : FVec Ideal S262144x3x16 .f32) (m : FVec Ideal S262144x113 .f32) (rn : FVec Ideal S262144x3 .f32)
    (e : Fin 262144) (c : Fin 3) (k : Fin 16) :
    vecE vs m rn (ix3 e c k) = vs (ix3 e c k) * m (ix2 e ⟨64 + k.val, by omega⟩) + rn (ix2 e c) * m (ix2 e ⟨80 + k.val, by omega⟩) := by
  pointwise [vecE]
include h in
/-- The next vectors. -/
theorem nextVN_apply (V : FVec Ideal S512x3x16 .f32) (x : FVec Ideal S262144x3x16 .f32) (n : Fin 512) (c : Fin 3) (k : Fin 16) :
    nextVN V w x (ix3 n c k) = V (ix3 n c k) + Ideal.div (∑ e, if s e = n then x (ix3 e c k) else 0)
      (max (∑ e, if s e = n then 1 else 0) 1) := by
  pointwise [nextVN]
  simp only [sumV_apply h, cntE_apply h]
/-- An edge's push. -/
theorem pushE_apply (m : FVec Ideal S262144x113 .f32) (rn : FVec Ideal S262144x3 .f32) (e : Fin 262144) (c : Fin 3) :
    pushE m rn (ix2 e c) = rn (ix2 e c) * Ideal.tanh (m (ix2 e 112)) := by
  pointwise [pushE]
include h in
/-- The moved positions. -/
theorem midPN_apply (P : FVec Ideal S512x3 .f32) (x : FVec Ideal S262144x3 .f32) (n : Fin 512) (c : Fin 3) :
    midPN P w x (ix2 n c) = P (ix2 n c) + Ideal.div (∑ e, if s e = n then x (ix2 e c) else 0)
      (max (∑ e, if s e = n then 1 else 0) 1) := by
  pointwise [midPN]
  simp only [sumP_apply h, cntE_apply h]
include hb in
/-- The centred positions. -/
theorem centerN_apply (P : FVec Ideal S512x3 .f32) (n : Fin 512) (c : Fin 3) :
    centerN P u (ix2 n c) = Spec.center b (fun n c => P (ix2 n c)) n c := by
  pointwise [centerN]
  rw [takeB_apply hb]
  pointwise []
  rw [sumB_apply hb, cntB_apply hb]
  rfl
end Layer

/-- The deviation from the mean. -/
theorem devN_apply (S : FVec Ideal S512x64 .f32) (n : Fin 512) (l : Fin 64) :
    devN S (ix2 n l) = S (ix2 n l) - Ideal.div (∑ k, S (ix2 n k)) (Ideal.ofBits FTy.f32 0x42800000#32) := by
  pointwise [devN]
/-- The variance's divisor is the number of scalars. -/
theorem varDen_eq (i : S_.Idx) : varDen i = Ideal.ofBits FTy.f32 0x42800000#32 := by
  show Ideal.ofBits FTy.f32 0x42800000#32 - (((0#32 : BitVec 32).toInt : ℝ) : EReal) = _
  simp
/-- The layer norm of a row. -/
theorem normSN_apply (S : FVec Ideal S512x64 .f32) (g b : FVec Ideal S64 .f32) (n : Fin 512) (l : Fin 64) :
    normSN S g b (ix2 n l) = Spec.normS (fun l => g (ix1 l)) (fun l => b (ix1 l)) (fun l => S (ix2 n l)) l := by
  pointwise [normSN]
  simp only [devN_apply, varDen_eq]
  rw [if_pos Spec.pos64]
  rfl
/-- The norm of a node's vectors. -/
theorem normVN_apply (V : FVec Ideal S512x3x16 .f32) (n : Fin 512) (c : Fin 3) (k : Fin 16) :
    normVN V (ix3 n c k) = Spec.normV (fun j => V (ix3 n ⟨j.val / 16, by omega⟩ ⟨j.val % 16, by omega⟩)) ⟨16 * c.val + k.val, by omega⟩ := by
  pointwise [normVN]
  unfold Spec.normV
  rw [Spec.sum48]
  have e1 : ∀ (c : Fin 3) (k : Fin 16), (⟨(16 * c.val + k.val) / 16, by omega⟩ : Fin 3) = c := fun c k => Fin.ext (by show (16 * c.val + k.val) / 16 = c.val; omega)
  have e2 : ∀ (c : Fin 3) (k : Fin 16), (⟨(16 * c.val + k.val) % 16, by omega⟩ : Fin 16) = k := fun c k => Fin.ext (by show (16 * c.val + k.val) % 16 = k.val; omega)
  simp only [e1, e2]

section Sums
variable {wd : IVec S262144 32} {dst : Fin 262144 → Fin 512} (h : ∀ e, wd (ix1 e) = BitVec.ofNat 32 (dst e).val)
variable (M : FVec Ideal S262144x113 .f32) (VS : FVec Ideal S262144x3x16 .f32) (RN : FVec Ideal S262144x3 .f32)

/-- What an edge contributes, from the reference's arrays. -/
def payE (x : Fin 262144) : Fin 128 → EReal :=
  Spec.pay (fun l => M (ix2 x l)) (fun j => VS (ix3 x ⟨j.val / 16, by omega⟩ ⟨j.val % 16, by omega⟩)) (fun c => RN (ix2 x c))

include h in
/-- The reference's next scalars, from the sums over edges. -/
theorem refS (S : FVec Ideal S512x64 .f32) (Wu : FVec Ideal S64x64 .f32) (n : Fin 512) (l : Fin 64) :
    nextSN S wd (siluE (extractStridedSlice S262144x64 ![0, 0] M slices_S262144x113_S262144x64_0_0)) Wu (ix2 n l)
      = Spec.nextS (fun l => S (ix2 n l)) (Spec.agg dst (payE M VS RN) n) (fun k l => Wu (ix2 k l)) l := by
  rw [nextSN_apply h]
  simp only [siluE_apply]
  unfold Spec.nextS Spec.mean payE
  refine Ideal.add_congr rfl (Finset.sum_congr rfl fun k _ => ?_)
  rw [Spec.agg_count, Spec.agg_s]
  refine Ideal.mul_congr ?_ rfl
  pointwise []

include h in
/-- The reference's next vectors, from the sums over edges. -/
theorem refV (V : FVec Ideal S512x3x16 .f32) (n : Fin 512) (c : Fin 3) (k : Fin 16) :
    nextVN V wd (vecE VS M RN) (ix3 n c k)
      = Spec.nextV (fun j => V (ix3 n ⟨j.val / 16, by omega⟩ ⟨j.val % 16, by omega⟩)) (Spec.agg dst (payE M VS RN) n)
          ⟨16 * c.val + k.val, by omega⟩ := by
  rw [nextVN_apply h]
  simp only [vecE_apply]
  unfold Spec.nextV Spec.mean payE
  rw [Spec.agg_count, Spec.agg_v]
  have e1 : (⟨(16 * c.val + k.val) / 16, by omega⟩ : Fin 3) = c := Fin.ext (by show (16 * c.val + k.val) / 16 = c.val; omega)
  have e2 : (⟨(16 * c.val + k.val) % 16, by omega⟩ : Fin 16) = k := Fin.ext (by show (16 * c.val + k.val) % 16 = k.val; omega)
  have e3 : (⟨64 + (16 * c.val + k.val) % 16, by omega⟩ : Fin 113) = ⟨64 + k.val, by omega⟩ := Fin.ext (by show 64 + (16 * c.val + k.val) % 16 = 64 + k.val; omega)
  have e4 : (⟨80 + (16 * c.val + k.val) % 16, by omega⟩ : Fin 113) = ⟨80 + k.val, by omega⟩ := Fin.ext (by show 80 + (16 * c.val + k.val) % 16 = 80 + k.val; omega)
  simp only [e1, e2, e3, e4]

include h in
/-- The reference's moved positions, from the sums over edges. -/
theorem refP (P : FVec Ideal S512x3 .f32) (n : Fin 512) (c : Fin 3) :
    midPN P wd (pushE M RN) (ix2 n c)
      = Spec.midP (fun c => P (ix2 n c)) (Spec.agg dst (payE M VS RN) n) c := by
  rw [midPN_apply h]
  simp only [pushE_apply]
  unfold Spec.midP Spec.mean payE
  rw [Spec.agg_count, Spec.agg_p]
end Sums
end Cert.ReferenceIdeal.Value
-- ==== Proof.RefLayer.lean ====
module
public import proofs.«01_k».proof.Proof.RefOps
public import proofs.«01_k».proof.Proof.Layer
@[expose] public section
noncomputable section
set_option maxRecDepth 16384
open Idealize.ShloMosaic Idealize.ShloMosaic.TcCoe Idealize.SL.Sem

/-! One layer of the reference: its messages, unit vectors and sums over any node state. -/
namespace Cert.ReferenceIdeal.Value
open Cert.ReferenceIdeal Cert.ReferenceIdeal.Gen

variable {ws wd : IVec S262144 32} {src dst : Fin 262144 → Fin 512} (hs : ∀ e, ws (ix1 e) = BitVec.ofNat 32 (src e).val)
    (hd : ∀ e, wd (ix1 e) = BitVec.ofNat 32 (dst e).val)

/-- The scalars of node `n`. -/
abbrev rowsS (S : FVec Ideal S512x64 .f32) (n : Fin 512) (l : Fin 64) : EReal := S (ix2 n l)

/-- The vectors of node `n`, as 48 numbers. -/
abbrev rowsV (V : FVec Ideal S512x3x16 .f32) (n : Fin 512) (j : Fin 48) : EReal :=
  V (ix3 n ⟨j.val / 16, by omega⟩ ⟨j.val % 16, by omega⟩)

/-- The position of node `n`. -/
abbrev rowsP (P : FVec Ideal S512x3 .f32) (n : Fin 512) (c : Fin 3) : EReal := P (ix2 n c)

/-- A table: scalars, vectors and a position in two parts, side by side. -/
def tableN (S : FVec Ideal S512x64 .f32) (V : FVec Ideal S512x3x16 .f32) (hi lo : FVec Ideal S512x3 .f32) : FVec Ideal S512x128 .f32 :=
  concatenate S512x128 1 [⟨S512x64, S⟩, ⟨S512x48, shapeCast S512x48 V shapeCasts_S512x3x16_S512x48⟩, ⟨S512x3, hi⟩, ⟨S512x3, lo⟩,
    ⟨S512x10, broadcastInDim S512x10 ![] bcast_S_S512x10 (constant S_ .f32 0x00000000#32)⟩]
    concatenates_S512x64_S512x48_S512x3_S512x3_S512x10_S512x128_d1

/-- A state: scalars, vectors and a position, side by side. -/
def stateN (S : FVec Ideal S512x64 .f32) (V : FVec Ideal S512x3x16 .f32) (P : FVec Ideal S512x3 .f32) : FVec Ideal S512x128 .f32 :=
  concatenate S512x128 1 [⟨S512x64, S⟩, ⟨S512x48, shapeCast S512x48 V shapeCasts_S512x3x16_S512x48⟩, ⟨S512x3, P⟩,
    ⟨S512x13, broadcastInDim S512x13 ![] bcast_S_S512x13 (constant S_ .f32 0x00000000#32)⟩]
    concatenates_S512x64_S512x48_S512x3_S512x13_S512x128_d1

theorem tableN_apply (S : FVec Ideal S512x64 .f32) (V : FVec Ideal S512x3x16 .f32) (hi lo : FVec Ideal S512x3 .f32)
    (n : Fin 512) (l : Fin 128) :
    tableN S V hi lo (ix2 n l) = Spec.rowT (rowsS S n) (rowsV V n) (rowsP hi n) (rowsP lo n) l := by
  rw [← Spec.rowT_chain]
  pointwise [tableN]

theorem stateN_apply (S : FVec Ideal S512x64 .f32) (V : FVec Ideal S512x3x16 .f32) (P : FVec Ideal S512x3 .f32)
    (n : Fin 512) (l : Fin 128) : stateN S V P (ix2 n l) = Spec.rowS (rowsS S n) (rowsV V n) (rowsP P n) l := by
  rw [← Spec.rowS_chain]
  pointwise [stateN]

include hs hd

theorem dispE_apply (P : FVec Ideal S512x3 .f32) (x : Fin 262144) (c : Fin 3) :
    dispE P ws wd (ix2 x c) = Spec.disp (rowsP P (src x)) (rowsP P (dst x)) c := by
  pointwise [dispE]
  rw [takeP_apply hs, takeP_apply hd]
  rfl

theorem distE_disp (P : FVec Ideal S512x3 .f32) (x : Fin 262144) :
    distE (dispE P ws wd) (ix1 x) = Spec.dist (rowsP P (src x)) (rowsP P (dst x)) := by
  rw [distE_apply]
  simp only [dispE_apply hs hd]
  rfl

theorem unitE_disp (P : FVec Ideal S512x3 .f32) (x : Fin 262144) (c : Fin 3) :
    unitE (dispE P ws wd) (distE (dispE P ws wd)) (ix2 x c) = Spec.unit (rowsP P (src x)) (rowsP P (dst x)) c := by
  rw [unitE_apply, distE_disp hs hd, dispE_apply hs hd]
  rfl

theorem innerE_take (P : FVec Ideal S512x3 .f32) (x : Fin 262144) :
    innerE (takeP P wd) (takeP P ws) (ix1 x) = Spec.inner (rowsP P (src x)) (rowsP P (dst x)) := by
  rw [innerE_apply]
  simp only [takeP_apply hs, takeP_apply hd]
  exact Finset.sum_congr rfl fun c _ => mul_comm _ _

/-- The messages over a node state, with the lengths and inner products of its positions. -/
theorem msgE_layer (S : FVec Ideal S512x64 .f32) (P : FVec Ideal S512x3 .f32) (e : FVec Ideal S262144x16 .f32)
    (W : FVec Ideal S146x113 .f32) (b : FVec Ideal S113 .f32) (x : Fin 262144) (l : Fin 113) :
    msgE (takeS S ws) (takeS S wd) e (distE (dispE P ws wd)) (innerE (takeP P wd) (takeP P ws)) W b (ix2 x l)
      = Spec.msgs src dst (rowsS S) (fun x k => e (ix2 x k)) (fun x => Spec.dist (rowsP P (src x)) (rowsP P (dst x)))
          (fun x => Spec.inner (rowsP P (src x)) (rowsP P (dst x))) (fun k l => W (ix2 k l)) (fun l => b (ix1 l)) x l := by
  rw [msgE_apply, distE_disp hs hd, innerE_take hs hd]
  simp only [takeS_apply hs, takeS_apply hd]
  rfl

omit hd in
/-- The sums over edges, from the messages and the unit vectors. -/
theorem agg_layer (V : FVec Ideal S512x3x16 .f32) (M : FVec Ideal S262144x113 .f32) (RN : FVec Ideal S262144x3 .f32)
    (msgs : Fin 262144 → Fin 113 → EReal) (un : Fin 262144 → Fin 3 → EReal) (hM : ∀ x l, M (ix2 x l) = msgs x l)
    (hR : ∀ x c, RN (ix2 x c) = un x c) :
    Spec.agg dst (payE M (takeV V ws) RN) = Spec.sums src dst (rowsV V) msgs un := by
  unfold Spec.sums
  congr 1
  funext x
  unfold payE
  simp only [takeV_apply hs, hM, hR]

end Cert.ReferenceIdeal.Value
-- ==== Proof.RefVal.lean ====
module
public import proofs.«01_k».proof.Proof.RefLayer
@[expose] public section
noncomputable section
set_option maxRecDepth 16384
open Idealize.ShloMosaic Idealize.ShloMosaic.TcCoe Idealize.SL.Sem

/-! The reference's three results, entry by entry, over the arguments. -/
namespace Cert.ReferenceIdeal.Value
open Cert.ReferenceIdeal Cert.ReferenceIdeal.Gen

variable (V0 : Valuation τ sig (Elt Ideal)) (src dst : Fin 262144 → Fin 512) (bt : Fin 512 → Fin 16)

/-- The first result. -/
abbrev out138 : FVec Ideal S262144x16 .f32 := siluF (res_main_v77 V0)

/-- The second result. -/
abbrev out194 : FVec Ideal S512x128 .f32 :=
  tableN (normSN (res_main_v108 V0) (V0 (Proc.devRef .tc main_arg7)) (V0 (Proc.devRef .tc main_arg8))) (normVN (res_main_v121 V0))
    (res_main_v190 V0) (subf (res_main_v158 V0) (res_main_v190 V0))

/-- The third result. -/
abbrev out197 : FVec Ideal S512x128 .f32 := stateN (res_main_v108 V0) (res_main_v121 V0) (res_main_v158 V0)

/-- The table argument. -/
abbrev rT : FVec Ideal S512x128 .f32 := V0 (Proc.devRef .tc main_arg3)

/-- The scalars a table row holds. -/
abbrev rS (n : Fin 512) (l : Fin 64) : EReal := rT V0 (ix2 n ⟨l.val, by omega⟩)

/-- The vectors a table row holds. -/
abbrev rV (n : Fin 512) (l : Fin 48) : EReal := rT V0 (ix2 n ⟨64 + l.val, by omega⟩)

/-- The position a table row holds. -/
abbrev rP (n : Fin 512) (c : Fin 3) : EReal := rT V0 (ix2 n ⟨112 + c.val, by omega⟩) + rT V0 (ix2 n ⟨115 + c.val, by omega⟩)

/-- The messages of all edges. -/
abbrev refM : Fin 262144 → Fin 113 → EReal :=
  Spec.msgs src dst (rS V0) (fun x k => V0 (Proc.devRef .tc main_arg1) (ix2 x k))
    (fun x => Spec.dist (rP V0 (src x)) (rP V0 (dst x))) (fun x => Spec.inner (rP V0 (src x)) (rP V0 (dst x)))
    (fun k l => V0 (Proc.devRef .tc main_arg4) (ix2 k l)) (fun l => V0 (Proc.devRef .tc main_arg5) (ix1 l))

/-- The sums at every node. -/
abbrev refA : Fin 512 → Fin 128 → EReal :=
  Spec.sums src dst (rV V0) (refM V0 src dst) fun x => Spec.unit (rP V0 (src x)) (rP V0 (dst x))

theorem rowsS_v4 : rowsS (res_main_v4 V0) = rS V0 := by
  funext n l
  unfold rowsS res_main_v4
  pointwise []

theorem rowsV_v6 : rowsV (res_main_v6 V0) = rV V0 := by
  funext n j
  unfold rowsV res_main_v6
  pointwise []
  blk_ext

theorem rowsP_v9 : rowsP (res_main_v9 V0) = rP V0 := by
  funext n c
  unfold rowsP res_main_v9
  pointwise []

theorem v28_eq : res_main_v28 V0 = dispE (res_main_v9 V0) (res_main_v11 V0) (res_main_v13 V0) := rfl
theorem v48_eq : res_main_v48 V0 = distE (res_main_v28 V0) := rfl
theorem v51_eq : res_main_v51 V0 = unitE (res_main_v28 V0) (res_main_v48 V0) := rfl
theorem v72_eq : res_main_v72 V0 = msgE (takeS (res_main_v4 V0) (res_main_v1 V0)) (takeS (res_main_v4 V0) (res_main_v3 V0))
    (V0 (Proc.devRef .tc main_arg1)) (res_main_v48 V0)
    (innerE (takeP (res_main_v9 V0) (res_main_v13 V0)) (takeP (res_main_v9 V0) (res_main_v11 V0)))
    (V0 (Proc.devRef .tc main_arg4)) (V0 (Proc.devRef .tc main_arg5)) := rfl
theorem v108_eq : res_main_v108 V0 = nextSN (res_main_v4 V0) (res_main_v3 V0)
    (siluE (extractStridedSlice S262144x64 ![0, 0] (res_main_v72 V0) slices_S262144x113_S262144x64_0_0))
    (V0 (Proc.devRef .tc main_arg6)) := rfl
theorem v121_eq : res_main_v121 V0 = nextVN (res_main_v6 V0) (res_main_v3 V0)
    (vecE (takeV (res_main_v6 V0) (res_main_v1 V0)) (res_main_v72 V0) (res_main_v51 V0)) := rfl
theorem v137_eq : res_main_v137 V0 = midPN (res_main_v9 V0) (res_main_v3 V0) (pushE (res_main_v72 V0) (res_main_v51 V0)) := rfl
theorem v158_eq : res_main_v158 V0 = centerN (res_main_v137 V0) (V0 (Proc.devRef .tc main_arg9)) := rfl

variable (hs : ∀ x, V0 (Proc.devRef .tc main_arg0) (ix2 0 x) = BitVec.ofNat 32 (src x).val)
    (hd : ∀ x, V0 (Proc.devRef .tc main_arg0) (ix2 1 x) = BitVec.ofNat 32 (dst x).val)
    (hb : ∀ n, V0 (Proc.devRef .tc main_arg9) (ix1 n) = BitVec.ofNat 32 (bt n).val)

include hs in
theorem word1 (x : Fin 262144) : res_main_v1 V0 (ix1 x) = BitVec.ofNat 32 (src x).val := by
  rw [← hs x]
  unfold res_main_v1
  pointwise []
  blk_ext

include hd in
theorem word3 (x : Fin 262144) : res_main_v3 V0 (ix1 x) = BitVec.ofNat 32 (dst x).val := by
  rw [← hd x]
  unfold res_main_v3
  pointwise []
  blk_ext

include hs hd

theorem m_at (x : Fin 262144) (l : Fin 113) : res_main_v72 V0 (ix2 x l) = refM V0 src dst x l := by
  rw [v72_eq, v48_eq, v28_eq]
  have k := msgE_layer (word1 V0 src hs) (word3 V0 dst hd) (res_main_v4 V0) (res_main_v9 V0) (V0 (Proc.devRef .tc main_arg1))
    (V0 (Proc.devRef .tc main_arg4)) (V0 (Proc.devRef .tc main_arg5)) x l
  rw [rowsS_v4, rowsP_v9] at k
  exact k

theorem u_at (x : Fin 262144) (c : Fin 3) : res_main_v51 V0 (ix2 x c) = Spec.unit (rP V0 (src x)) (rP V0 (dst x)) c := by
  rw [v51_eq, v48_eq, v28_eq]
  have k := unitE_disp (word1 V0 src hs) (word3 V0 dst hd) (res_main_v9 V0) x c
  rw [rowsP_v9] at k
  exact k

theorem agg_at : Spec.agg dst (payE (res_main_v72 V0) (takeV (res_main_v6 V0) (res_main_v1 V0)) (res_main_v51 V0)) = refA V0 src dst := by
  rw [agg_layer (word1 V0 src hs) (res_main_v6 V0) _ _ _ _ (m_at V0 src dst hs hd) (u_at V0 src dst hs hd), rowsV_v6]

theorem s_at (n : Fin 512) (l : Fin 64) : res_main_v108 V0 (ix2 n l)
    = Spec.nextS (rS V0 n) (refA V0 src dst n) (fun k l => V0 (Proc.devRef .tc main_arg6) (ix2 k l)) l := by
  rw [v108_eq, refS (word3 V0 dst hd) _ (takeV (res_main_v6 V0) (res_main_v1 V0)) (res_main_v51 V0), agg_at V0 src dst hs hd]
  exact congrArg (fun f => Spec.nextS (f n) _ _ l) (rowsS_v4 V0)

theorem v_at (n : Fin 512) (j : Fin 48) : rowsV (res_main_v121 V0) n j = Spec.nextV (rV V0 n) (refA V0 src dst n) j := by
  unfold rowsV
  rw [v121_eq, refV (word3 V0 dst hd), agg_at V0 src dst hs hd]
  have e : (⟨16 * (j.val / 16) + j.val % 16, by omega⟩ : Fin 48) = j := Fin.ext (by show 16 * (j.val / 16) + j.val % 16 = j.val; omega)
  simp only [e]
  exact congrArg (fun f => Spec.nextV (f n) _ j) (rowsV_v6 V0)

theorem p_at (n : Fin 512) (c : Fin 3) : res_main_v137 V0 (ix2 n c) = Spec.midP (rP V0 n) (refA V0 src dst n) c := by
  rw [v137_eq, refP (word3 V0 dst hd) _ (takeV (res_main_v6 V0) (res_main_v1 V0)), agg_at V0 src dst hs hd]
  exact congrArg (fun f => Spec.midP (f n) _ c) (rowsP_v9 V0)

/-- The first result: the edge features. -/
theorem res_e (x : Fin 262144) (l : Fin 16) :
    out138 V0 (ix2 x l) = Spec.silu (refM V0 src dst x ⟨96 + l.val, by omega⟩) := by
  unfold out138
  rw [siluF_apply, ← m_at V0 src dst hs hd]
  refine congrArg Spec.silu ?_
  unfold res_main_v77
  pointwise []

include hb

theorem c_at (n : Fin 512) (c : Fin 3) : res_main_v158 V0 (ix2 n c)
    = Spec.center bt (fun n => Spec.midP (rP V0 n) (refA V0 src dst n)) n c := by
  rw [v158_eq, centerN_apply hb]
  simp only [p_at V0 src dst hs hd]

/-- The second result: the next table. -/
theorem res_t (n : Fin 512) (l : Fin 128) : out194 V0 (ix2 n l)
    = Spec.nextT bt (rS V0) (rV V0) (rP V0) (fun k l => V0 (Proc.devRef .tc main_arg6) (ix2 k l))
        (fun l => V0 (Proc.devRef .tc main_arg7) (ix1 l)) (fun l => V0 (Proc.devRef .tc main_arg8) (ix1 l)) (refA V0 src dst) n l := by
  have hS : rowsS (normSN (res_main_v108 V0) (V0 (Proc.devRef .tc main_arg7)) (V0 (Proc.devRef .tc main_arg8))) n
      = Spec.normS (fun l => V0 (Proc.devRef .tc main_arg7) (ix1 l)) (fun l => V0 (Proc.devRef .tc main_arg8) (ix1 l))
          (Spec.nextS (rS V0 n) (refA V0 src dst n) fun k l => V0 (Proc.devRef .tc main_arg6) (ix2 k l)) := by
    funext l
    unfold rowsS
    rw [normSN_apply]
    simp only [s_at V0 src dst hs hd]
  have hV : rowsV (normVN (res_main_v121 V0)) n = Spec.normV (Spec.nextV (rV V0 n) (refA V0 src dst n)) := by
    funext j
    unfold rowsV
    rw [normVN_apply]
    have e : (⟨16 * (j.val / 16) + j.val % 16, by omega⟩ : Fin 48) = j := Fin.ext (by show 16 * (j.val / 16) + j.val % 16 = j.val; omega)
    simp only [e]
    exact congrArg (fun f => Spec.normV f j) (funext fun j => v_at V0 src dst hs hd n j)
  have hP : rowsP (res_main_v190 V0) n = Spec.center bt (fun n => Spec.midP (rP V0 n) (refA V0 src dst n)) n := by
    funext c
    rw [← c_at V0 src dst bt hs hd hb]
    unfold rowsP res_main_v190
    pointwise []
  have hL : rowsP (subf (res_main_v158 V0) (res_main_v190 V0)) n
      = fun c => Spec.center bt (fun n => Spec.midP (rP V0 n) (refA V0 src dst n)) n c
          - Spec.center bt (fun n => Spec.midP (rP V0 n) (refA V0 src dst n)) n c := by
    funext c
    rw [← c_at V0 src dst bt hs hd hb]
    unfold rowsP res_main_v190
    pointwise []
  unfold out194
  rw [tableN_apply, hS, hV, hP, hL]
  rfl

/-- The third result: the next state. -/
theorem res_r (n : Fin 512) (l : Fin 128) : out197 V0 (ix2 n l)
    = Spec.nextR bt (rS V0) (rV V0) (rP V0) (fun k l => V0 (Proc.devRef .tc main_arg6) (ix2 k l)) (refA V0 src dst) n l := by
  have hS : rowsS (res_main_v108 V0) n
      = Spec.nextS (rS V0 n) (refA V0 src dst n) fun k l => V0 (Proc.devRef .tc main_arg6) (ix2 k l) :=
    funext fun l => s_at V0 src dst hs hd n l
  have hV : rowsV (res_main_v121 V0) n = Spec.nextV (rV V0 n) (refA V0 src dst n) := funext fun j => v_at V0 src dst hs hd n j
  have hP : rowsP (res_main_v158 V0) n = Spec.center bt (fun n => Spec.midP (rP V0 n) (refA V0 src dst n)) n :=
    funext fun c => c_at V0 src dst bt hs hd hb n c
  unfold out197
  rw [stateN_apply, hS, hV, hP]
  rfl

end Cert.ReferenceIdeal.Value
-- ==== Proof.Meet.lean ====
/- The kernel's three results and the reference's, from arguments that agree: both sides are the same functions of them. -/
module

public import proofs.«01_k».proof.Proof.KerVal
public import proofs.«01_k».proof.Proof.RefVal

@[expose] public section

set_option maxRecDepth 16384

noncomputable section

namespace Cert.Meet

open Idealize.ShloMosaic Idealize.ShloMosaic.TcCoe Idealize.SL.Sem

/-- Two matrices with the same entries are the same. -/
theorem ext2 {n0 n1 : ℕ} {α : Type} (f g : (⟨2, ![n0, n1]⟩ : Shape).Idx → α) (h : ∀ a b, f (ix2 a b) = g (ix2 a b)) : f = g := by
  funext j
  have e : j = ix2 (n0 := n0) (n1 := n1) (j 0) (j 1) := by
    funext a
    match a with
    | ⟨0, _⟩ => rfl
    | ⟨1, _⟩ => rfl
  rw [e]
  exact h (j 0) (j 1)

variable (m : (ℓ : Loc Cert.KernelIdeal.nD Cert.KernelIdeal.τ Cert.KernelIdeal.sig) → Buf (Elt Ideal) ℓ) (c : Dev Cert.KernelIdeal.nD)
  (V0 : Valuation Cert.ReferenceIdeal.τ Cert.ReferenceIdeal.sig (Elt Ideal))
  (src dst : Fin 262144 → Fin 512) (bt : Fin 512 → Fin 16)

variable (ks : ∀ x, m ((c : Thread Cert.KernelIdeal.nD Cert.KernelIdeal.τ).loc Cert.KernelIdeal.main_arg0) (ix2 0 x) = BitVec.ofNat 32 (src x).val)
  (kd : ∀ x, m ((c : Thread Cert.KernelIdeal.nD Cert.KernelIdeal.τ).loc Cert.KernelIdeal.main_arg0) (ix2 1 x) = BitVec.ofNat 32 (dst x).val)
  (kb : ∀ n, m ((c : Thread Cert.KernelIdeal.nD Cert.KernelIdeal.τ).loc Cert.KernelIdeal.main_arg9) (ix1 n) = BitVec.ofNat 32 (bt n).val)
  (a0 : V0 (Proc.devRef .tc Cert.ReferenceIdeal.main_arg0) = m ((c : Thread Cert.KernelIdeal.nD Cert.KernelIdeal.τ).loc Cert.KernelIdeal.main_arg0))
  (a1 : V0 (Proc.devRef .tc Cert.ReferenceIdeal.main_arg1) = m ((c : Thread Cert.KernelIdeal.nD Cert.KernelIdeal.τ).loc Cert.KernelIdeal.main_arg1))
  (a3 : V0 (Proc.devRef .tc Cert.ReferenceIdeal.main_arg3) = m ((c : Thread Cert.KernelIdeal.nD Cert.KernelIdeal.τ).loc Cert.KernelIdeal.main_arg3))
  (a4 : V0 (Proc.devRef .tc Cert.ReferenceIdeal.main_arg4) = m ((c : Thread Cert.KernelIdeal.nD Cert.KernelIdeal.τ).loc Cert.KernelIdeal.main_arg4))
  (a5 : V0 (Proc.devRef .tc Cert.ReferenceIdeal.main_arg5) = m ((c : Thread Cert.KernelIdeal.nD Cert.KernelIdeal.τ).loc Cert.KernelIdeal.main_arg5))
  (a6 : V0 (Proc.devRef .tc Cert.ReferenceIdeal.main_arg6) = m ((c : Thread Cert.KernelIdeal.nD Cert.KernelIdeal.τ).loc Cert.KernelIdeal.main_arg6))
  (a7 : V0 (Proc.devRef .tc Cert.ReferenceIdeal.main_arg7) = m ((c : Thread Cert.KernelIdeal.nD Cert.KernelIdeal.τ).loc Cert.KernelIdeal.main_arg7))
  (a8 : V0 (Proc.devRef .tc Cert.ReferenceIdeal.main_arg8) = m ((c : Thread Cert.KernelIdeal.nD Cert.KernelIdeal.τ).loc Cert.KernelIdeal.main_arg8))
  (a9 : V0 (Proc.devRef .tc Cert.ReferenceIdeal.main_arg9) = m ((c : Thread Cert.KernelIdeal.nD Cert.KernelIdeal.τ).loc Cert.KernelIdeal.main_arg9))

include a3

theorem rS_eq : Cert.ReferenceIdeal.Value.rS V0 = Cert.KernelIdeal.Gen.tblS (Cert.KernelIdeal.Gen.argT m c) :=
  funext fun n => funext fun l => congrFun a3 _

theorem rV_eq : Cert.ReferenceIdeal.Value.rV V0 = Cert.KernelIdeal.Gen.tblV (Cert.KernelIdeal.Gen.argT m c) :=
  funext fun n => funext fun l => congrFun a3 _

theorem rP_eq : Cert.ReferenceIdeal.Value.rP V0 = Cert.KernelIdeal.Gen.tblP (Cert.KernelIdeal.Gen.argT m c) :=
  funext fun n => funext fun k => congrArg₂ (fun a b : EReal => a + b) (congrFun a3 _) (congrFun a3 _)

include ks kd a0 a1 a4 a5

/-- The edge features. -/
theorem meet_e : Cert.ReferenceIdeal.Value.out138 V0 = Cert.KernelIdeal.Value.G13 m c := by
  have rs := fun x => (congrFun a0 (ix2 0 x)).trans (ks x)
  have rd := fun x => (congrFun a0 (ix2 1 x)).trans (kd x)
  refine ext2 (n0 := 262144) (n1 := 16) _ _ fun x l => (Cert.ReferenceIdeal.Value.res_e V0 src dst rs rd x l).trans
    (Eq.trans ?_ (Cert.KernelIdeal.Gen.res_e m c src dst ks kd x l).symm)
  simp only [Cert.ReferenceIdeal.Value.refA, Cert.ReferenceIdeal.Value.refM, rS_eq m c V0 a3, rV_eq m c V0 a3, rP_eq m c V0 a3, a1, a4, a5]

include kb a6 a7 a8 a9

/-- The next table. -/
theorem meet_t : Cert.ReferenceIdeal.Value.out194 V0 = Cert.KernelIdeal.Value.G14 m c := by
  have rs := fun x => (congrFun a0 (ix2 0 x)).trans (ks x)
  have rd := fun x => (congrFun a0 (ix2 1 x)).trans (kd x)
  have rb := fun n => (congrFun a9 (ix1 n)).trans (kb n)
  refine ext2 (n0 := 512) (n1 := 128) _ _ fun x l => (Cert.ReferenceIdeal.Value.res_t V0 src dst bt rs rd rb x l).trans
    (Eq.trans ?_ (Cert.KernelIdeal.Gen.res_t m c src dst bt ks kd kb x l).symm)
  simp only [Cert.ReferenceIdeal.Value.refA, Cert.ReferenceIdeal.Value.refM, rS_eq m c V0 a3, rV_eq m c V0 a3, rP_eq m c V0 a3, a1, a4, a5, a6, a7, a8]

omit a7 a8 in
/-- The next state. -/
theorem meet_r : Cert.ReferenceIdeal.Value.out197 V0 = Cert.KernelIdeal.Value.G15 m c := by
  have rs := fun x => (congrFun a0 (ix2 0 x)).trans (ks x)
  have rd := fun x => (congrFun a0 (ix2 1 x)).trans (kd x)
  have rb := fun n => (congrFun a9 (ix1 n)).trans (kb n)
  refine ext2 (n0 := 512) (n1 := 128) _ _ fun x l => (Cert.ReferenceIdeal.Value.res_r V0 src dst bt rs rd rb x l).trans
    (Eq.trans ?_ (Cert.KernelIdeal.Gen.res_r m c src dst bt ks kd kb x l).symm)
  simp only [Cert.ReferenceIdeal.Value.refA, Cert.ReferenceIdeal.Value.refM, rS_eq m c V0 a3, rV_eq m c V0 a3, rP_eq m c V0 a3, a1, a4, a5, a6]

end Cert.Meet

end
-- ==== Proof.FirstStep.lean ====
module
public import proofs.«01_k».proof.Proof.Gen.FirstKernelIdeal.Skeleton
public import proofs.«01_k».proof.Proof.Step
@[expose] public section
noncomputable section
set_option maxRecDepth 16384
open Idealize.ShloMosaic Idealize.ShloMosaic.TcCoe Idealize.SL.Sem

/-! What one grid point of the first layer's call computes from its blocks. It differs from a later layer's in where an edge's
    unit vector, length and inner product come from: here they are an argument of eight columns. -/
namespace Cert.FirstKernelIdeal.Gen
open Cert.KernelIdeal.Gen (tblS tblV tblP gs_apply gd_apply ohd_apply contrib_apply)

/-- The messages of a block of edges. -/
def stepM (x0 x1 : Vec Ideal S1x1024x1 .i32) (x3 : Vec Ideal S1024x16 .f32) (x4 : Vec Ideal S1024x8 .f32)
    (x5 : Vec Ideal S512x128 .f32) (x6 x7 : Vec Ideal S64x128 .f32) (x8 : Vec Ideal S16x128 .f32)
    (x9 : Vec Ideal S8x128 .f32) : Vec Ideal S1024x128 .f32 :=
  k0_pay23 (F := Ideal) (k0_pay16 x5 x1) (k0_pay19 x4) (k0_pay20 x4) x3 (k0_pay21 x5 x0) (k0_pay22 x6)
    (constant S1024x128 .f32 0x00000000#32) x7 x8
    (View.ld x9 (Rect.unit ![0, 0] S1x128.size inb_S8x128_S1x128_0_0))
    (View.ld x9 (Rect.unit ![1, 0] S1x128.size inb_S8x128_S1x128_1_0))
    (View.ld x9 (Rect.unit ![2, 0] S1x128.size inb_S8x128_S1x128_2_0))

/-- The accumulator after a block of edges, over what it was before. -/
def stepA (x0 x1 : Vec Ideal S1x1024x1 .i32) (x2 : Vec Ideal S1x1x1024 .i32) (x3 : Vec Ideal S1024x16 .f32)
    (x4 : Vec Ideal S1024x8 .f32) (x5 : Vec Ideal S512x128 .f32) (x6 x7 : Vec Ideal S64x128 .f32) (x8 : Vec Ideal S16x128 .f32)
    (x9 : Vec Ideal S8x128 .f32) (acc : Vec Ideal S512x128 .f32) : Vec Ideal S512x128 .f32 :=
  Cert.KernelIdeal.Gen.k0_pay3 (F := Ideal) (Cert.KernelIdeal.Gen.k0_pay14 x2) (Cert.KernelIdeal.Gen.k0_pay16 x5 x0) (k0_pay18 x4)
    (mulf (extractStridedSlice S1024x64 ![0, 0] (stepM x0 x1 x3 x4 x5 x6 x7 x8 x9) slices_S1024x128_o0_0_S1024x64)
      (logistic (extractStridedSlice S1024x64 ![0, 0] (stepM x0 x1 x3 x4 x5 x6 x7 x8 x9) slices_S1024x128_o0_0_S1024x64)))
    (extractStridedSlice S1024x16 ![0, 64] (stepM x0 x1 x3 x4 x5 x6 x7 x8 x9) slices_S1024x128_o0_64_S1024x16)
    (extractStridedSlice S1024x16 ![0, 80] (stepM x0 x1 x3 x4 x5 x6 x7 x8 x9) slices_S1024x128_o0_80_S1024x16)
    (extractStridedSlice S1024x1 ![0, 112] (stepM x0 x1 x3 x4 x5 x6 x7 x8 x9) slices_S1024x128_o0_112_S1024x1) acc

/-- The edge features of a block of edges. -/
def stepE (x0 x1 : Vec Ideal S1x1024x1 .i32) (x3 : Vec Ideal S1024x16 .f32) (x4 : Vec Ideal S1024x8 .f32)
    (x5 : Vec Ideal S512x128 .f32) (x6 x7 : Vec Ideal S64x128 .f32) (x8 : Vec Ideal S16x128 .f32)
    (x9 : Vec Ideal S8x128 .f32) : Vec Ideal S1024x16 .f32 :=
  mulf (F := Ideal) (φ := .f32) (extractStridedSlice S1024x16 ![0, 96] (stepM x0 x1 x3 x4 x5 x6 x7 x8 x9) slices_S1024x128_o0_96_S1024x16)
    (logistic (extractStridedSlice S1024x16 ![0, 96] (stepM x0 x1 x3 x4 x5 x6 x7 x8 x9) slices_S1024x128_o0_96_S1024x16))

section Entries

variable (x0 x1 : Vec Ideal S1x1024x1 .i32) (x2 : Vec Ideal S1x1x1024 .i32) (x3 : Vec Ideal S1024x16 .f32)
    (x4 : Vec Ideal S1024x8 .f32) (x5 : Vec Ideal S512x128 .f32) (x6 x7 : Vec Ideal S64x128 .f32) (x8 : Vec Ideal S16x128 .f32)
    (x9 : Vec Ideal S8x128 .f32)
    (src dst : Fin 1024 → Fin 512) (W : Fin 146 → Fin 113 → EReal) (b : Fin 113 → EReal)
    (hy : ∀ t, x0 (ix3 0 t 0) = BitVec.ofNat 32 (src t).val) (hz : ∀ t, x1 (ix3 0 t 0) = BitVec.ofNat 32 (dst t).val)
    (h2 : ∀ t, x2 (ix3 0 0 t) = BitVec.ofNat 32 (dst t).val)
    (hw1 : ∀ (k : Fin 64) (l : Fin 113), x6 (ix2 k ⟨l.val, Nat.lt_of_lt_of_le l.isLt (Nat.le_of_ble_eq_true rfl)⟩) = W ⟨k.val, Nat.lt_of_lt_of_le k.isLt (Nat.le_of_ble_eq_true rfl)⟩ l)
    (hw2 : ∀ (k : Fin 64) (l : Fin 113), x7 (ix2 k ⟨l.val, Nat.lt_of_lt_of_le l.isLt (Nat.le_of_ble_eq_true rfl)⟩) = W ⟨64 + k.val, Nat.lt_of_lt_of_le (Nat.add_lt_add_left k.isLt 64) (Nat.le_of_ble_eq_true rfl)⟩ l)
    (hw3 : ∀ (k : Fin 16) (l : Fin 113), x8 (ix2 k ⟨l.val, Nat.lt_of_lt_of_le l.isLt (Nat.le_of_ble_eq_true rfl)⟩) = W ⟨128 + k.val, Nat.lt_of_lt_of_le (Nat.add_lt_add_left k.isLt 128) (Nat.le_of_ble_eq_true rfl)⟩ l)
    (hd : ∀ (l : Fin 113), x9 (ix2 0 ⟨l.val, Nat.lt_of_lt_of_le l.isLt (Nat.le_of_ble_eq_true rfl)⟩) = W 144 l)
    (ha : ∀ (l : Fin 113), x9 (ix2 1 ⟨l.val, Nat.lt_of_lt_of_le l.isLt (Nat.le_of_ble_eq_true rfl)⟩) = W 145 l)
    (hb : ∀ (l : Fin 113), x9 (ix2 2 ⟨l.val, Nat.lt_of_lt_of_le l.isLt (Nat.le_of_ble_eq_true rfl)⟩) = b l)

/-- The gathered rows are those of a later layer. -/
theorem gs_eq (T : Vec Ideal S512x128 .f32) (y : Vec Ideal S1x1024x1 .i32) :
    k0_pay15 (F := Ideal) T y = Cert.KernelIdeal.Gen.k0_pay16 T y := rfl

theorem gd_eq (T : Vec Ideal S512x128 .f32) (y : Vec Ideal S1x1024x1 .i32) :
    k0_pay16 (F := Ideal) T y = Cert.KernelIdeal.Gen.k0_pay17 T y := rfl

/-- The messages the block's edges carry. -/
abbrev stepMsg (x3 : Vec Ideal S1024x16 .f32) (x4 : Vec Ideal S1024x8 .f32) (x5 : Vec Ideal S512x128 .f32) (src dst : Fin 1024 → Fin 512)
    (W : Fin 146 → Fin 113 → EReal) (b : Fin 113 → EReal) : Fin 1024 → Fin 113 → EReal :=
  Spec.msgs src dst (tblS x5) (fun t k => x3 (ix2 t k)) (fun t => x4 (ix2 t 3)) (fun t => x4 (ix2 t 4)) W b

include hy hz hw1 hw2 hw3 hd ha hb

/-- A block's messages at a used column. -/
theorem stepM_apply (t : Fin 1024) (l : Fin 113) :
    stepM x0 x1 x3 x4 x5 x6 x7 x8 x9 (ix2 t ⟨l.val, by omega⟩) = stepMsg x3 x4 x5 src dst W b t l := by
  have e0 : ∀ l : Fin 113, View.ld x9 (Rect.unit ![0, 0] S1x128.size inb_S8x128_S1x128_0_0) (ix2 0 ⟨l.val, by omega⟩) = W 144 l := fun l =>
    (View.ld_unit_apply_of x9 _ _ _ _ _ (fun a => by match a with | ⟨0, _⟩ => rfl | ⟨1, _⟩ => exact (Nat.zero_add _).symm)).trans (hd l)
  have e1 : ∀ l : Fin 113, View.ld x9 (Rect.unit ![1, 0] S1x128.size inb_S8x128_S1x128_1_0) (ix2 0 ⟨l.val, by omega⟩) = W 145 l := fun l =>
    (View.ld_unit_apply_of x9 _ _ _ _ _ (fun a => by match a with | ⟨0, _⟩ => rfl | ⟨1, _⟩ => exact (Nat.zero_add _).symm)).trans (ha l)
  have e2 : ∀ l : Fin 113, View.ld x9 (Rect.unit ![2, 0] S1x128.size inb_S8x128_S1x128_2_0) (ix2 0 ⟨l.val, by omega⟩) = b l := fun l =>
    (View.ld_unit_apply_of x9 _ _ _ _ _ (fun a => by match a with | ⟨0, _⟩ => rfl | ⟨1, _⟩ => exact (Nat.zero_add _).symm)).trans (hb l)
  unfold stepM
  generalize View.ld x9 (Rect.unit ![0, 0] S1x128.size inb_S8x128_S1x128_0_0) = wd at e0 ⊢
  generalize View.ld x9 (Rect.unit ![1, 0] S1x128.size inb_S8x128_S1x128_1_0) = wa at e1 ⊢
  generalize View.ld x9 (Rect.unit ![2, 0] S1x128.size inb_S8x128_S1x128_2_0) = wb at e2 ⊢
  pointwise [k0_pay23, k0_pay21, k0_pay22, k0_pay19, k0_pay20, k0_pay17]
  simp only [gs_eq, gd_eq, gs_apply x5 x0 src hy, gd_apply x5 x1 dst hz, hw1, hw2, hw3, e0, e1, e2]
  rfl

/-- A block's edge features. -/
theorem stepE_apply (t : Fin 1024) (l : Fin 16) :
    stepE x0 x1 x3 x4 x5 x6 x7 x8 x9 (ix2 t l) = Spec.silu (stepMsg x3 x4 x5 src dst W b t ⟨96 + l.val, by omega⟩) := by
  pointwise [stepE]
  rw [stepM_apply x0 x1 x3 x4 x5 x6 x7 x8 x9 src dst W b hy hz hw1 hw2 hw3 hd ha hb t ⟨96 + l.val, by omega⟩]
  rfl

include h2

/-- The accumulator's entries after a block: what was there plus what the block's edges bring. -/
theorem stepA_apply (acc : Vec Ideal S512x128 .f32) (n : Fin 512) (l : Fin 128) :
    stepA x0 x1 x2 x3 x4 x5 x6 x7 x8 x9 acc (ix2 n l) = acc (ix2 n l)
      + Spec.sums src dst (tblV x5) (stepMsg x3 x4 x5 src dst W b)
          (fun t c => x4 (ix2 t ⟨c.val, by omega⟩)) n l := by
  unfold stepA
  have key := stepM_apply x0 x1 x3 x4 x5 x6 x7 x8 x9 src dst W b hy hz hw1 hw2 hw3 hd ha hb
  have hr : ∀ t (c : Fin 3), k0_pay18 (F := Ideal) x4 (ix2 t c) = x4 (ix2 t ⟨c.val, by omega⟩) := fun t c => by
    pointwise [k0_pay18, k0_pay17]
  rw [contrib_apply _ _ _ _ _ _ _ acc dst (stepMsg x3 x4 x5 src dst W b) (ohd_apply x2 dst h2)]
  · simp only [gs_apply x5 x0 src hy, hr]
    rfl
  · intro t l
    pointwise []
    rw [key t ⟨l.val, by omega⟩]
    rfl
  · intro t l
    pointwise []
    exact key t ⟨64 + l.val, by omega⟩
  · intro t l
    pointwise []
    exact key t ⟨80 + l.val, by omega⟩
  · intro t
    pointwise []
    exact key t 112

end Entries

end Cert.FirstKernelIdeal.Gen
-- ==== Proof.FirstKer.lean ====
module
public import proofs.«01_k».proof.Proof.Gen.FirstKernelIdeal.Value
public import proofs.«01_k».proof.Proof.FirstStep
public import Idealize.ShloMosaic.Lib.Pipeline.ReadBack
@[expose] public section
noncomputable section
set_option maxRecDepth 16384
open Idealize.ShloMosaic Idealize.ShloMosaic.TcCoe Idealize.SL.Sem

/-! The grid points' contents of the first layer's call as steps over their blocks. -/
namespace Cert.FirstKernelIdeal.Gen
open Cert.FirstKernelIdeal Cert.FirstKernelIdeal.Value
open Cert.KernelIdeal.Gen (stepT stepR)

variable (m : (ℓ : Loc nD τ sig) → Buf (Elt Ideal) ℓ) (c : Dev nD)

/-- The contents of the outputs and the accumulator after a point. -/
abbrev Acc : Type := Vec Ideal S1024x16 .f32 × Vec Ideal S512x128 .f32 × Vec Ideal S512x128 .f32 × Vec Ideal S512x128 .f32

/-- The accumulator after point `t`, over what it was before. -/
def ptA (t : Fin cfg0.N) (a : Vec Ideal S512x128 .f32) : Vec Ideal S512x128 .f32 :=
  stepA (iblk m c 0 t) (iblk m c 1 t) (iblk m c 2 t) (iblk m c 3 t) (iblk m c 4 t) (iblk m c 5 t) (iblk m c 6 t) (iblk m c 7 t) (iblk m c 8 t)
    (iblk m c 9 t) a

/-- The edge features point `t` writes. -/
def ptE (t : Fin cfg0.N) : Vec Ideal S1024x16 .f32 :=
  stepE (iblk m c 0 t) (iblk m c 1 t) (iblk m c 3 t) (iblk m c 4 t) (iblk m c 5 t) (iblk m c 6 t) (iblk m c 7 t) (iblk m c 8 t) (iblk m c 9 t)

/-- At the first point the accumulator starts from zeros. -/
theorem stA_acc (t : Fin cfg0.N) (acc : Acc) (h0 : t.val % 256 = 0) (h1 : ¬ t.val % 256 = 255) :
    (stAt0 m c t.val t.isLt acc).2.2.2 = ptA m c t (k0_pay1 (F := Ideal)) := by
  rw [stAt0_A m c t acc h0 h1]
  dsimp only
  frame_out
  rfl

theorem stA_e (t : Fin cfg0.N) (acc : Acc) (h0 : t.val % 256 = 0) (h1 : ¬ t.val % 256 = 255) :
    (stAt0 m c t.val t.isLt acc).1 = ptE m c t := by
  rw [stAt0_A m c t acc h0 h1]
  dsimp only
  frame_out
  rfl

/-- At a later point the accumulator grows from what it was. -/
theorem stB_acc (t : Fin cfg0.N) (acc : Acc) (h0 : ¬ t.val % 256 = 0) (h1 : ¬ t.val % 256 = 255) :
    (stAt0 m c t.val t.isLt acc).2.2.2 = ptA m c t acc.2.2.2 := by
  rw [stAt0_B m c t acc h0 h1]
  dsimp only
  frame_out
  simp only [read_unread_whole]
  rfl

theorem stB_e (t : Fin cfg0.N) (acc : Acc) (h0 : ¬ t.val % 256 = 0) (h1 : ¬ t.val % 256 = 255) :
    (stAt0 m c t.val t.isLt acc).1 = ptE m c t := by
  rw [stAt0_B m c t acc h0 h1]
  dsimp only
  frame_out
  rfl

theorem stC_e (t : Fin cfg0.N) (acc : Acc) (h0 : ¬ t.val % 256 = 0) (h1 : t.val % 256 = 255) :
    (stAt0 m c t.val t.isLt acc).1 = ptE m c t := by
  rw [stAt0_C m c t acc h0 h1]
  dsimp only
  frame_out
  rfl

/-- At the last point the next table is written from the full accumulator. -/
theorem stC_t (t : Fin cfg0.N) (acc : Acc) (h0 : ¬ t.val % 256 = 0) (h1 : t.val % 256 = 255) :
    (stAt0 m c t.val t.isLt acc).2.1
      = stepT (iblk m c 5 t) (iblk m c 10 t) (iblk m c 11 t) (iblk m c 12 t) (ptA m c t acc.2.2.2) := by
  rw [stAt0_C m c t acc h0 h1]
  dsimp only
  frame_out
  simp only [read_unread_whole]
  rfl

/-- At the last point the next state is written from the full accumulator. -/
theorem stC_r (t : Fin cfg0.N) (acc : Acc) (h0 : ¬ t.val % 256 = 0) (h1 : t.val % 256 = 255) :
    (stAt0 m c t.val t.isLt acc).2.2.1
      = stepR (iblk m c 5 t) (iblk m c 10 t) (iblk m c 12 t) (ptA m c t acc.2.2.2) := by
  rw [stAt0_C m c t acc h0 h1]
  dsimp only
  frame_out
  simp only [read_unread_whole]
  rfl

end Cert.FirstKernelIdeal.Gen
-- ==== Proof.FirstBlocks.lean ====
module
public import proofs.«01_k».proof.Proof.Gen.FirstKernelIdeal.Value
public import proofs.«01_k».proof.Proof.FirstStep
@[expose] public section
noncomputable section
set_option maxRecDepth 16384
open Idealize.ShloMosaic Idealize.ShloMosaic.TcCoe Idealize.SL.Sem

/-! What the blocks of a grid point of the first layer's call hold, as entries of the arguments. -/
namespace Cert.FirstKernelIdeal.Gen

variable (m : (ℓ : Loc nD τ sig) → Buf (Elt Ideal) ℓ) (c : Dev nD)

/-- Which block each input window shows at each point. -/
theorem idx : ∀ t : Fin cfg0.N, win0_0.index t = ![t.val, 0, 0] ∧ win0_1.index t = ![t.val, 0, 0]
    ∧ win0_2.index t = ![t.val, 0, 0] ∧ win0_3.index t = ![t.val, 0] ∧ win0_4.index t = ![t.val, 0] ∧ win0_5.index t = ![0, 0]
    ∧ win0_6.index t = ![0, 0] ∧ win0_7.index t = ![0, 0] ∧ win0_8.index t = ![0, 0] ∧ win0_9.index t = ![0, 0]
    ∧ win0_10.index t = ![0, 0] ∧ win0_11.index t = ![0, 0] ∧ win0_12.index t = ![0, 0] :=
  (by decide +kernel : ∀ t : Fin grid0.N, _)

/-- A point's number is below 256. -/
theorem pt_lt (t : Fin cfg0.N) : t.val < 256 := lt_of_lt_of_eq t.isLt N_0

/-- What the host hands over: the source words, block by block. -/
theorem V_v8 : V m c main_v8 = shapeCast S256x1024x1 (shapeCast S262144 (extractStridedSlice S1x262144 ![0, 0] (m ((c : Thread nD τ).loc main_arg0)) slices_S2x262144_S1x262144_0_0) shapeCasts_S1x262144_S262144) shapeCasts_S262144_S256x1024x1 := by
  unfold V
  simp only [hostOps0, hostOps0_1, hostOps0_2, hostOps0_3, hostOps0_4, hostOps0_5, hostOps0_6, hostOps0_7, hostOps0_8, hostOps0_9, List.flatten_cons,
    List.flatten_nil, List.append_nil, List.cons_append, List.nil_append]
  after_results
  try rfl

/-- What the host hands over: the target words, block by block. -/
theorem V_v9 : V m c main_v9 = shapeCast S256x1024x1 (shapeCast S262144 (extractStridedSlice S1x262144 ![1, 0] (m ((c : Thread nD τ).loc main_arg0)) slices_S2x262144_S1x262144_1_0) shapeCasts_S1x262144_S262144) shapeCasts_S262144_S256x1024x1 := by
  unfold V
  simp only [hostOps0, hostOps0_1, hostOps0_2, hostOps0_3, hostOps0_4, hostOps0_5, hostOps0_6, hostOps0_7, hostOps0_8, hostOps0_9, List.flatten_cons,
    List.flatten_nil, List.append_nil, List.cons_append, List.nil_append]
  after_results
  try rfl

/-- What the host hands over: the target words as rows, block by block. -/
theorem V_v10 : V m c main_v10 = shapeCast S256x1x1024 (shapeCast S262144 (extractStridedSlice S1x262144 ![1, 0] (m ((c : Thread nD τ).loc main_arg0)) slices_S2x262144_S1x262144_1_0) shapeCasts_S1x262144_S262144) shapeCasts_S262144_S256x1x1024 := by
  unfold V
  simp only [hostOps0, hostOps0_1, hostOps0_2, hostOps0_3, hostOps0_4, hostOps0_5, hostOps0_6, hostOps0_7, hostOps0_8, hostOps0_9, List.flatten_cons,
    List.flatten_nil, List.append_nil, List.cons_append, List.nil_append]
  after_results
  try rfl

/-- What the host hands over: the molecule words as a column. -/
theorem V_v11 : V m c main_v11 = shapeCast S512x1 (m ((c : Thread nD τ).loc main_arg11)) shapeCasts_S512_S512x1 := by
  unfold V
  simp only [hostOps0, hostOps0_1, hostOps0_2, hostOps0_3, hostOps0_4, hostOps0_5, hostOps0_6, hostOps0_7, hostOps0_8, hostOps0_9, List.flatten_cons,
    List.flatten_nil, List.append_nil, List.cons_append, List.nil_append]
  after_results
  try rfl

/-- What the host hands over: the weights of the source scalars, padded. -/
theorem V_v13 : V m c main_v13 = pad S64x128 ![0, 0] ![0, 15] ![0, 0] (extractStridedSlice S64x113 ![0, 0] (m ((c : Thread nD τ).loc main_arg6)) slices_S146x113_S64x113_0_0) (sitofp (F := Ideal) .f32 (constantI S_ 32 0#32)) pads_S64x113_S64x128_000_0150 h_S_ := by
  unfold V
  simp only [hostOps0, hostOps0_1, hostOps0_2, hostOps0_3, hostOps0_4, hostOps0_5, hostOps0_6, hostOps0_7, hostOps0_8, hostOps0_9, List.flatten_cons,
    List.flatten_nil, List.append_nil, List.cons_append, List.nil_append]
  after_results
  try rfl

/-- What the host hands over: the weights of the target scalars, padded. -/
theorem V_v15 : V m c main_v15 = pad S64x128 ![0, 0] ![0, 15] ![0, 0] (extractStridedSlice S64x113 ![64, 0] (m ((c : Thread nD τ).loc main_arg6)) slices_S146x113_S64x113_64_0) (sitofp (F := Ideal) .f32 (constantI S_ 32 0#32)) pads_S64x113_S64x128_000_0150 h_S_ := by
  unfold V
  simp only [hostOps0, hostOps0_1, hostOps0_2, hostOps0_3, hostOps0_4, hostOps0_5, hostOps0_6, hostOps0_7, hostOps0_8, hostOps0_9, List.flatten_cons,
    List.flatten_nil, List.append_nil, List.cons_append, List.nil_append]
  after_results
  try rfl

/-- What the host hands over: the weights of the edge features, padded. -/
theorem V_v17 : V m c main_v17 = pad S16x128 ![0, 0] ![0, 15] ![0, 0] (extractStridedSlice S16x113 ![128, 0] (m ((c : Thread nD τ).loc main_arg6)) slices_S146x113_S16x113_128_0) (sitofp (F := Ideal) .f32 (constantI S_ 32 0#32)) pads_S16x113_S16x128_000_0150 h_S_ := by
  unfold V
  simp only [hostOps0, hostOps0_1, hostOps0_2, hostOps0_3, hostOps0_4, hostOps0_5, hostOps0_6, hostOps0_7, hostOps0_8, hostOps0_9, List.flatten_cons,
    List.flatten_nil, List.append_nil, List.cons_append, List.nil_append]
  after_results
  try rfl

/-- What the host hands over: the weights of length and inner product and the bias, padded. -/
theorem V_v26 : V m c main_v26 = pad S8x128 ![0, 0] ![5, 15] ![0, 0] (concatenate S3x113 0 [⟨S1x113, (broadcastInDim S1x113 ![1] bcast_S113_S1x113_1 (shapeCast S113 (extractStridedSlice S1x113 ![144, 0] (m ((c : Thread nD τ).loc main_arg6)) slices_S146x113_S1x113_144_0) shapeCasts_S1x113_S113))⟩, ⟨S1x113, (broadcastInDim S1x113 ![1] bcast_S113_S1x113_1 (shapeCast S113 (extractStridedSlice S1x113 ![145, 0] (m ((c : Thread nD τ).loc main_arg6)) slices_S146x113_S1x113_145_0) shapeCasts_S1x113_S113))⟩, ⟨S1x113, broadcastInDim S1x113 ![1] bcast_S113_S1x113_1 (m ((c : Thread nD τ).loc main_arg7))⟩] concatenates_S1x113_S1x113_S1x113_S3x113_d0) (sitofp (F := Ideal) .f32 (constantI S_ 32 0#32)) pads_S3x113_S8x128_050_0150 h_S_ := by
  unfold V
  simp only [hostOps0, hostOps0_1, hostOps0_2, hostOps0_3, hostOps0_4, hostOps0_5, hostOps0_6, hostOps0_7, hostOps0_8, hostOps0_9, List.flatten_cons,
    List.flatten_nil, List.append_nil, List.cons_append, List.nil_append]
  after_results
  try rfl

/-- What the host hands over: scale and shift, padded. -/
theorem V_v30 : V m c main_v30 = pad S8x128 ![0, 0] ![6, 64] ![0, 0] (concatenate S2x64 0 [⟨S1x64, broadcastInDim S1x64 ![1] bcast_S64_S1x64_1 (m ((c : Thread nD τ).loc main_arg9))⟩, ⟨S1x64, broadcastInDim S1x64 ![1] bcast_S64_S1x64_1 (m ((c : Thread nD τ).loc main_arg10))⟩] concatenates_S1x64_S1x64_S2x64_d0) (sitofp (F := Ideal) .f32 (constantI S_ 32 0#32)) pads_S2x64_S8x128_060_0640 h_S_ := by
  unfold V
  simp only [hostOps0, hostOps0_1, hostOps0_2, hostOps0_3, hostOps0_4, hostOps0_5, hostOps0_6, hostOps0_7, hostOps0_8, hostOps0_9, List.flatten_cons,
    List.flatten_nil, List.append_nil, List.cons_append, List.nil_append]
  after_results
  try rfl

/-- What the host hands over: unit vector, length, inner product and three zeros of every edge, side by side. -/
theorem V_v3 : V m c main_v3 = concatenate S262144x8 1 [⟨S262144x3, (m ((c : Thread nD τ).loc main_arg3))⟩, ⟨S262144x1, broadcastInDim S262144x1 ![0] bcast_S262144_S262144x1_0 (m ((c : Thread nD τ).loc main_arg1))⟩, ⟨S262144x1, broadcastInDim S262144x1 ![0] bcast_S262144_S262144x1_0 (m ((c : Thread nD τ).loc main_arg2))⟩, ⟨S262144x3, broadcastInDim S262144x3 ![] bcast_S_S262144x3 (constant (F := Ideal) S_ .f32 0x00000000#32)⟩] concatenates_S262144x3_S262144x1_S262144x1_S262144x3_S262144x8_d1 := by
  unfold V
  simp only [hostOps0, hostOps0_1, hostOps0_2, hostOps0_3, hostOps0_4, hostOps0_5, hostOps0_6, hostOps0_7, hostOps0_8, hostOps0_9, List.flatten_cons,
    List.flatten_nil, List.append_nil, List.cons_append, List.nil_append]
  after_results
  try rfl

theorem e4r (x : Fin 262144) (k : Fin 3) : V m c main_v3 (ix2 x (⟨k.val, by omega⟩ : Fin 8))
    = m ((c : Thread nD τ).loc main_arg3) (ix2 x k) := by
  rw [V_v3]
  pointwise []

theorem e4d (x : Fin 262144) : V m c main_v3 (ix2 x (3 : Fin 8)) = m ((c : Thread nD τ).loc main_arg1) (ix1 x) := by
  rw [V_v3]
  pointwise []

theorem e4a (x : Fin 262144) : V m c main_v3 (ix2 x (4 : Fin 8)) = m ((c : Thread nD τ).loc main_arg2) (ix1 x) := by
  rw [V_v3]
  pointwise []

theorem e0 (t : Fin 256) (j : Fin 1024) : V m c main_v8 (ix3 t j 0)
    = m ((c : Thread nD τ).loc main_arg0) (ix2 0 ⟨1024 * t.val + j.val, by omega⟩) := by
  rw [V_v8]
  pointwise []
  blk_ext

theorem e1 (t : Fin 256) (j : Fin 1024) : V m c main_v9 (ix3 t j 0)
    = m ((c : Thread nD τ).loc main_arg0) (ix2 1 ⟨1024 * t.val + j.val, by omega⟩) := by
  rw [V_v9]
  pointwise []
  blk_ext

theorem e2 (t : Fin 256) (j : Fin 1024) : V m c main_v10 (ix3 t 0 j)
    = m ((c : Thread nD τ).loc main_arg0) (ix2 1 ⟨1024 * t.val + j.val, by omega⟩) := by
  rw [V_v10]
  pointwise []
  blk_ext

theorem e12 (n : Fin 512) : V m c main_v11 (ix2 n 0)
    = m ((c : Thread nD τ).loc main_arg11) (ix1 n) := by
  rw [V_v11]
  pointwise []
  blk_ext

theorem e6 (k : Fin 64) (l : Fin 113) : V m c main_v13 (ix2 k (⟨l.val, by omega⟩ : Fin 128))
    = m ((c : Thread nD τ).loc main_arg6) (ix2 (⟨k.val, by omega⟩ : Fin 146) l) := by
  rw [V_v13]
  pointwise []
  blk_ext

theorem e7 (k : Fin 64) (l : Fin 113) : V m c main_v15 (ix2 k (⟨l.val, by omega⟩ : Fin 128))
    = m ((c : Thread nD τ).loc main_arg6) (ix2 (⟨64 + k.val, by omega⟩ : Fin 146) l) := by
  rw [V_v15]
  pointwise []
  blk_ext

theorem e8 (k : Fin 16) (l : Fin 113) : V m c main_v17 (ix2 k (⟨l.val, by omega⟩ : Fin 128))
    = m ((c : Thread nD τ).loc main_arg6) (ix2 (⟨128 + k.val, by omega⟩ : Fin 146) l) := by
  rw [V_v17]
  pointwise []
  blk_ext

theorem e9d (l : Fin 113) : V m c main_v26 (ix2 (0 : Fin 8) (⟨l.val, by omega⟩ : Fin 128))
    = m ((c : Thread nD τ).loc main_arg6) (ix2 (144 : Fin 146) l) := by
  rw [V_v26]
  pointwise []
  blk_ext

theorem e9a (l : Fin 113) : V m c main_v26 (ix2 (1 : Fin 8) (⟨l.val, by omega⟩ : Fin 128))
    = m ((c : Thread nD τ).loc main_arg6) (ix2 (145 : Fin 146) l) := by
  rw [V_v26]
  pointwise []
  blk_ext

theorem e9b (l : Fin 113) : V m c main_v26 (ix2 (2 : Fin 8) (⟨l.val, by omega⟩ : Fin 128))
    = m ((c : Thread nD τ).loc main_arg7) (ix1 l) := by
  rw [V_v26]
  pointwise []
  blk_ext

theorem e11g (l : Fin 64) : V m c main_v30 (ix2 (0 : Fin 8) (⟨l.val, by omega⟩ : Fin 128))
    = m ((c : Thread nD τ).loc main_arg9) (ix1 l) := by
  rw [V_v30]
  pointwise []
  blk_ext

theorem e11b (l : Fin 64) : V m c main_v30 (ix2 (1 : Fin 8) (⟨l.val, by omega⟩ : Fin 128))
    = m ((c : Thread nD τ).loc main_arg10) (ix1 l) := by
  rw [V_v30]
  pointwise []
  blk_ext

theorem blk6 (t : Fin cfg0.N) : iblk m c 6 t = V m c main_v13 := by blk_ext! [iblk, idx t]

theorem blk7 (t : Fin cfg0.N) : iblk m c 7 t = V m c main_v15 := by blk_ext! [iblk, idx t]

theorem blk8 (t : Fin cfg0.N) : iblk m c 8 t = V m c main_v17 := by blk_ext! [iblk, idx t]

theorem blk9 (t : Fin cfg0.N) : iblk m c 9 t = V m c main_v26 := by blk_ext! [iblk, idx t]

theorem blk11 (t : Fin cfg0.N) : iblk m c 11 t = V m c main_v30 := by blk_ext! [iblk, idx t]

theorem blk12 (t : Fin cfg0.N) : iblk m c 12 t = V m c main_v11 := by blk_ext! [iblk, idx t]

theorem blk5 (t : Fin cfg0.N) : iblk m c 5 t = m ((c : Thread nD τ).loc main_arg5) := by
  rw [← V_main_arg5 m c]
  blk_ext! [iblk, idx t]

theorem blk10 (t : Fin cfg0.N) : iblk m c 10 t = m ((c : Thread nD τ).loc main_arg8) := by
  rw [← V_main_arg8 m c]
  blk_ext! [iblk, idx t]

theorem blk3 (t : Fin cfg0.N) (j : Fin 1024) (k : Fin 16) : iblk m c 3 t (ix2 j k)
    = m ((c : Thread nD τ).loc main_arg4) (ix2 ⟨1024 * t.val + j.val, by have := pt_lt t; omega⟩ k) := by
  have := pt_lt t
  rw [← V_main_arg4 m c]
  blk_ext [iblk, idx t]

theorem blk4 (t : Fin cfg0.N) (j : Fin 1024) (k : Fin 8) : iblk m c 4 t (ix2 j k)
    = V m c main_v3 (ix2 ⟨1024 * t.val + j.val, by have := pt_lt t; omega⟩ k) := by
  have := pt_lt t
  blk_ext [iblk, idx t]

theorem blk0 (t : Fin cfg0.N) (j : Fin 1024) : iblk m c 0 t (ix3 0 j 0) = V m c main_v8 (ix3 ⟨t.val, pt_lt t⟩ j 0) := by
  blk_ext [iblk, idx t]

theorem blk1 (t : Fin cfg0.N) (j : Fin 1024) : iblk m c 1 t (ix3 0 j 0) = V m c main_v9 (ix3 ⟨t.val, pt_lt t⟩ j 0) := by
  blk_ext [iblk, idx t]

theorem blk2 (t : Fin cfg0.N) (j : Fin 1024) : iblk m c 2 t (ix3 0 0 j) = V m c main_v10 (ix3 ⟨t.val, pt_lt t⟩ 0 j) := by
  blk_ext [iblk, idx t]

end Cert.FirstKernelIdeal.Gen
-- ==== Proof.FirstKerVal.lean ====
module
public import proofs.«01_k».proof.Proof.FirstKer
public import proofs.«01_k».proof.Proof.FirstBlocks
@[expose] public section
noncomputable section
set_option maxRecDepth 16384
open Idealize.ShloMosaic Idealize.ShloMosaic.TcCoe Idealize.SL.Sem

/-! The three results of the first layer's call, entry by entry, over the arguments. -/
namespace Cert.FirstKernelIdeal.Gen
open Cert.FirstKernelIdeal Cert.FirstKernelIdeal.Value
open Cert.KernelIdeal.Gen (tblS tblV tblP stepT stepR stepT_apply stepR_apply)

variable (m : (ℓ : Loc nD τ sig) → Buf (Elt Ideal) ℓ) (c : Dev nD) (src dst : Fin 262144 → Fin 512) (bt : Fin 512 → Fin 16)

/-- The table argument. -/
abbrev argT : Vec Ideal S512x128 .f32 := m ((c : Thread nD τ).loc main_arg5)

/-- The dense layer's weights. -/
abbrev argW (k : Fin 146) (l : Fin 113) : EReal := m ((c : Thread nD τ).loc main_arg6) (ix2 k l)

/-- The dense layer's bias. -/
abbrev argB (l : Fin 113) : EReal := m ((c : Thread nD τ).loc main_arg7) (ix1 l)

/-- The messages of all edges. -/
abbrev kerM : Fin 262144 → Fin 113 → EReal :=
  Spec.msgs src dst (tblS (argT m c)) (fun x k => m ((c : Thread nD τ).loc main_arg4) (ix2 x k))
    (fun x => m ((c : Thread nD τ).loc main_arg1) (ix1 x)) (fun x => m ((c : Thread nD τ).loc main_arg2) (ix1 x)) (argW m c) (argB m c)

/-- The unit vectors of all edges. -/
abbrev kerU (x : Fin 262144) (k : Fin 3) : EReal := m ((c : Thread nD τ).loc main_arg3) (ix2 x k)

/-- What one edge brings to column `l` of node `n`. -/
abbrev kerF (n : Fin 512) (l : Fin 128) (x : Fin 262144) : EReal :=
  if dst x = n then Spec.pay (kerM m c src dst x) (tblV (argT m c) (src x)) (kerU m c x) l else 0

/-- The sums at every node. -/
abbrev kerA : Fin 512 → Fin 128 → EReal := Spec.sums src dst (tblV (argT m c)) (kerM m c src dst) (kerU m c)

/-- Edge `j` of block `t`. -/
abbrev edge (t : Fin 256) (j : Fin 1024) : Fin 262144 := ⟨1024 * t.val + j.val, by omega⟩

/-- Messages over blocks whose entries are known. -/
theorem stepMsg_of (x3 : Vec Ideal S1024x16 .f32) (x4 : Vec Ideal S1024x8 .f32) (x5 T : Vec Ideal S512x128 .f32) (s d : Fin 1024 → Fin 512)
    (W : Fin 146 → Fin 113 → EReal) (b : Fin 113 → EReal) (E : Fin 1024 → Fin 16 → EReal) (D A : Fin 1024 → EReal) (hT : x5 = T)
    (h3 : ∀ j k, x3 (ix2 j k) = E j k) (hD : ∀ j, x4 (ix2 j 3) = D j) (hA : ∀ j, x4 (ix2 j 4) = A j) :
    stepMsg x3 x4 x5 s d W b = Spec.msgs s d (tblS T) E D A W b := by
  subst hT
  obtain rfl : (fun j k => x3 (ix2 j k)) = E := funext fun j => funext fun k => h3 j k
  obtain rfl : (fun j => x4 (ix2 j 3)) = D := funext hD
  obtain rfl : (fun j => x4 (ix2 j 4)) = A := funext hA
  rfl

section Points

variable (hs : ∀ x, m ((c : Thread nD τ).loc main_arg0) (ix2 0 x) = BitVec.ofNat 32 (src x).val)
    (hd : ∀ x, m ((c : Thread nD τ).loc main_arg0) (ix2 1 x) = BitVec.ofNat 32 (dst x).val)

omit hs hd in
/-- The messages of a block's edges are the messages of the edges it holds. -/
theorem msg_eq (t : Fin cfg0.N) : stepMsg (iblk m c 3 t) (iblk m c 4 t) (iblk m c 5 t) (fun j => src (edge ⟨t.val, pt_lt t⟩ j))
    (fun j => dst (edge ⟨t.val, pt_lt t⟩ j)) (argW m c) (argB m c) = fun j => kerM m c src dst (edge ⟨t.val, pt_lt t⟩ j) :=
  stepMsg_of _ _ _ _ _ _ _ _ _ _ _ (blk5 m c t) (fun j k => blk3 m c t j k) (fun j => (blk4 m c t j 3).trans (e4d m c _))
    (fun j => (blk4 m c t j 4).trans (e4a m c _))

omit hs hd in
/-- The unit vectors of a block's edges are those of the edges it holds. -/
theorem unit_eq (t : Fin cfg0.N) (x4 : Vec Ideal S1024x8 .f32) (h : x4 = iblk m c 4 t) :
    (fun (j : Fin 1024) (k : Fin 3) => x4 (ix2 j ⟨k.val, by omega⟩)) = fun j => kerU m c (edge ⟨t.val, pt_lt t⟩ j) := by
  subst h
  exact funext fun j => funext fun k => (blk4 m c t j ⟨k.val, by omega⟩).trans (e4r m c _ k)

include hs hd

/-- The edge features a point writes. -/
theorem ptE_apply (t : Fin cfg0.N) (j : Fin 1024) (l : Fin 16) : ptE m c t (ix2 j l)
    = Spec.silu (kerM m c src dst (edge ⟨t.val, pt_lt t⟩ j) ⟨96 + l.val, by omega⟩) := by
  unfold ptE
  rw [stepE_apply _ _ _ _ _ _ _ _ _ (fun j => src (edge ⟨t.val, pt_lt t⟩ j)) (fun j => dst (edge ⟨t.val, pt_lt t⟩ j))
    (argW m c) (argB m c)
    (fun j => (blk0 m c t j).trans ((e0 m c _ j).trans (hs _))) (fun j => (blk1 m c t j).trans ((e1 m c _ j).trans (hd _)))
    (fun k l => (congrFun (blk6 m c t) _).trans (e6 m c k l)) (fun k l => (congrFun (blk7 m c t) _).trans (e7 m c k l))
    (fun k l => (congrFun (blk8 m c t) _).trans (e8 m c k l)) (fun l => (congrFun (blk9 m c t) _).trans (e9d m c l))
    (fun l => (congrFun (blk9 m c t) _).trans (e9a m c l)) (fun l => (congrFun (blk9 m c t) _).trans (e9b m c l))]
  rw [msg_eq m c src dst]

/-- What a point adds to the accumulator. -/
theorem ptA_apply (t : Fin cfg0.N) (a : Vec Ideal S512x128 .f32) (n : Fin 512) (l : Fin 128) : ptA m c t a (ix2 n l)
    = a (ix2 n l) + ∑ j : Fin 1024, kerF m c src dst n l (edge ⟨t.val, pt_lt t⟩ j) := by
  unfold ptA
  rw [stepA_apply _ _ _ _ _ _ _ _ _ _ (fun j => src (edge ⟨t.val, pt_lt t⟩ j)) (fun j => dst (edge ⟨t.val, pt_lt t⟩ j))
    (argW m c) (argB m c)
    (fun j => (blk0 m c t j).trans ((e0 m c _ j).trans (hs _))) (fun j => (blk1 m c t j).trans ((e1 m c _ j).trans (hd _)))
    (fun j => (blk2 m c t j).trans ((e2 m c _ j).trans (hd _)))
    (fun k l => (congrFun (blk6 m c t) _).trans (e6 m c k l)) (fun k l => (congrFun (blk7 m c t) _).trans (e7 m c k l))
    (fun k l => (congrFun (blk8 m c t) _).trans (e8 m c k l)) (fun l => (congrFun (blk9 m c t) _).trans (e9d m c l))
    (fun l => (congrFun (blk9 m c t) _).trans (e9a m c l)) (fun l => (congrFun (blk9 m c t) _).trans (e9b m c l))]
  rw [msg_eq m c src dst, unit_eq m c t _ rfl, blk5]
  rfl

/-- The fold over the points up to `k`. -/
abbrev sweep (k : ℕ) (h : 0 + k < cfg0.N) : Acc := Pipeline.accAt (fun n h => stAt0 m c n h junk0) (stAt0 m c) 0 k h

/-- The accumulator after the first `k + 1` blocks, short of the last. -/
theorem sweep_acc (n : Fin 512) (l : Fin 128) : ∀ (k : ℕ) (h : 0 + k < cfg0.N), k < 255 →
    (sweep m c k h).2.2.2 (ix2 n l) = ∑ t ∈ Finset.range (k + 1),
      (if ht : t < 256 then ∑ j : Fin 1024, kerF m c src dst n l (edge ⟨t, ht⟩ j) else 0)
  | 0, h, _ => by
    have e := congrFun (stA_acc m c ⟨0, lt_of_lt_of_eq (by decide) N_0.symm⟩ junk0 rfl (by decide)) (ix2 n l)
    rw [ptA_apply m c src dst hs hd] at e
    rw [Finset.sum_range_one, dif_pos (by omega)]
    refine Eq.trans e ?_
    have z : k0_pay1 (F := Ideal) (ix2 n l) = 0 := by pointwise [k0_pay1]
    rw [z, zero_add]
  | k + 1, h, hk => by
    have hN : k + 1 < cfg0.N := by omega
    have e := congrFun (stB_acc m c ⟨k + 1, hN⟩ (sweep m c k (Nat.lt_of_succ_lt h)) (by show ¬ (k + 1) % 256 = 0; omega)
      (by show ¬ (k + 1) % 256 = 255; omega)) (ix2 n l)
    rw [ptA_apply m c src dst hs hd, sweep_acc n l k (Nat.lt_of_succ_lt h) (by omega)] at e
    rw [Finset.sum_range_succ, dif_pos (by omega : k + 1 < 256)]
    refine Eq.trans ?_ e
    unfold sweep
    rw [Pipeline.accAt_succ]
    have ek : 0 + (k + 1) = k + 1 := by omega
    simp only [ek]

/-- The full accumulator holds the sums over all edges. -/
theorem full (h : 0 + 254 < cfg0.N) (h' : 255 < cfg0.N) (n : Fin 512) (l : Fin 128) :
    ptA m c ⟨255, h'⟩ (sweep m c 254 h).2.2.2 (ix2 n l) = kerA m c src dst n l := by
  rw [ptA_apply m c src dst hs hd, sweep_acc m c src dst hs hd n l 254 h (by omega)]
  show _ = ∑ x, kerF m c src dst n l x
  rw [Spec.sums_blocks, Finset.sum_fin_eq_sum_range (n := 256), Finset.sum_range_succ _ 255, dif_pos (by omega : 255 < 256)]

omit hs hd in
/-- The edge features after a point. -/
theorem sweep_e (k : ℕ) (h : 0 + k < cfg0.N) (h' : k < cfg0.N) : (sweep m c k h).1 = ptE m c ⟨k, h'⟩ := by
  cases k with
  | zero => exact stA_e m c ⟨0, h'⟩ junk0 rfl (by show ¬ 0 % 256 = 255; omega)
  | succ k =>
    have ek : 0 + (k + 1) = k + 1 := by omega
    have hk : k + 1 < 256 := pt_lt ⟨k + 1, h'⟩
    unfold sweep
    rw [Pipeline.accAt_succ]
    simp only [ek]
    by_cases h1 : (k + 1) % 256 = 255
    · exact stC_e m c ⟨k + 1, h'⟩ _ (by show ¬ (k + 1) % 256 = 0; omega) h1
    · exact stB_e m c ⟨k + 1, h'⟩ _ (by show ¬ (k + 1) % 256 = 0; omega) h1

omit hs hd in
/-- The last point's table and state, over the fold up to the point before. -/
theorem sweep_last (K k : ℕ) (hK : K = k + 1) (h : 0 + K < cfg0.N) (hk : 0 + k < cfg0.N) (h' : K < cfg0.N) (h1 : K % 256 = 255) :
    (sweep m c K h).2.1 = stepT (iblk m c 5 ⟨K, h'⟩) (iblk m c 10 ⟨K, h'⟩) (iblk m c 11 ⟨K, h'⟩) (iblk m c 12 ⟨K, h'⟩)
        (ptA m c ⟨K, h'⟩ (sweep m c k hk).2.2.2)
    ∧ (sweep m c K h).2.2.1 = stepR (iblk m c 5 ⟨K, h'⟩) (iblk m c 10 ⟨K, h'⟩) (iblk m c 12 ⟨K, h'⟩)
        (ptA m c ⟨K, h'⟩ (sweep m c k hk).2.2.2) := by
  subst hK
  have ek : 0 + (k + 1) = k + 1 := by omega
  have h0 : ¬ (k + 1) % 256 = 0 := by omega
  have e : sweep m c (k + 1) h = stAt0 m c (k + 1) h' (sweep m c k hk) := by
    unfold sweep
    rw [Pipeline.accAt_succ]
    simp only [ek]
  rw [e]
  exact ⟨stC_t m c ⟨k + 1, h'⟩ _ h0 h1, stC_r m c ⟨k + 1, h'⟩ _ h0 h1⟩

omit hs hd in
/-- The number of edges into a node, kept above one, is a nonzero real. -/
theorem count_real (n : Fin 512) : ∃ r : ℝ, r ≠ 0 ∧ max (kerA m c src dst n 115) 1 = (r : EReal) := by
  unfold kerA Spec.sums
  rw [Spec.agg_count]
  exact Spec.max_count _

/-- The first result: the edge features. -/
theorem res_e (x : Fin 262144) (l : Fin 16) :
    G13 m c (ix2 x l) = Spec.silu (kerM m c src dst x ⟨96 + l.val, by omega⟩) := by
  have hp : pt13Of (ix2 x l) = x.val / 1024 := by
    show 1 * (x.val / 1024 - 0) + 1 * (l.val / 16 - 0) = _
    omega
  have hx : x.val / 1024 < cfg0.N := lt_of_lt_of_eq (by omega) N_0.symm
  unfold G13
  rw [dif_pos (by rw [hp]; exact hx), fold0_congr m c _ _ _ (by omega) hp]
  have hl : loc13Of (ix2 x l) = ix2 (⟨x.val % 1024, by omega⟩ : Fin 1024) l := by
    funext a; apply Fin.ext
    match a with
    | ⟨0, _⟩ => rfl
    | ⟨1, _⟩ => show l.val % 16 = l.val; omega
  rw [hl]
  refine (congrFun (sweep_e m c (x.val / 1024) (by omega) hx) _).trans ?_
  rw [ptE_apply m c src dst hs hd]
  have : edge ⟨x.val / 1024, pt_lt ⟨_, hx⟩⟩ ⟨x.val % 1024, by omega⟩ = x := Fin.ext (by show 1024 * (x.val / 1024) + x.val % 1024 = x.val; omega)
  rw [this]

variable (hb : ∀ n, m ((c : Thread nD τ).loc main_arg11) (ix1 n) = BitVec.ofNat 32 (bt n).val)

include hb

/-- The second result: the next table. -/
theorem res_t (n : Fin 512) (l : Fin 128) : G14 m c (ix2 n l)
    = Spec.nextT bt (tblS (argT m c)) (tblV (argT m c)) (tblP (argT m c)) (fun k l => m ((c : Thread nD τ).loc main_arg8) (ix2 k l))
        (fun l => m ((c : Thread nD τ).loc main_arg9) (ix1 l)) (fun l => m ((c : Thread nD τ).loc main_arg10) (ix1 l))
        (kerA m c src dst) n l := by
  have h5 : 255 < cfg0.N := lt_of_lt_of_eq (by decide) N_0.symm
  have h4 : 0 + 254 < cfg0.N := lt_of_lt_of_eq (by decide) N_0.symm
  rw [G14_last]
  rw [(sweep_last m c 255 254 rfl (by omega) h4 h5 rfl).1]
  have hA : ∀ n l, ptA m c ⟨255, h5⟩ (sweep m c 254 h4).2.2.2 (ix2 n l) = kerA m c src dst n l :=
    full m c src dst hs hd h4 h5
  rw [stepT_apply _ _ _ _ _ bt (fun l => m ((c : Thread nD τ).loc main_arg9) (ix1 l)) (fun l => m ((c : Thread nD τ).loc main_arg10) (ix1 l))
    (fun n => (congrFun (blk12 m c _) _).trans ((e12 m c n).trans (hb n)))
    (fun n => by rw [hA]; exact count_real m c src dst n)
    (fun l => (congrFun (blk11 m c _) _).trans (e11g m c l)) (fun l => (congrFun (blk11 m c _) _).trans (e11b m c l))]
  rw [blk5, blk10]
  simp only [hA]

/-- The third result: the next state. -/
theorem res_r (n : Fin 512) (l : Fin 128) : G15 m c (ix2 n l)
    = Spec.nextR bt (tblS (argT m c)) (tblV (argT m c)) (tblP (argT m c)) (fun k l => m ((c : Thread nD τ).loc main_arg8) (ix2 k l))
        (kerA m c src dst) n l := by
  have h5 : 255 < cfg0.N := lt_of_lt_of_eq (by decide) N_0.symm
  have h4 : 0 + 254 < cfg0.N := lt_of_lt_of_eq (by decide) N_0.symm
  rw [G15_last]
  rw [(sweep_last m c 255 254 rfl (by omega) h4 h5 rfl).2]
  have hA : ∀ n l, ptA m c ⟨255, h5⟩ (sweep m c 254 h4).2.2.2 (ix2 n l) = kerA m c src dst n l :=
    full m c src dst hs hd h4 h5
  rw [stepR_apply _ _ _ _ bt
    (fun n => (congrFun (blk12 m c _) _).trans ((e12 m c n).trans (hb n)))
    (fun n => by rw [hA]; exact count_real m c src dst n)]
  rw [blk5, blk10]
  simp only [hA]

end Points

end Cert.FirstKernelIdeal.Gen
-- ==== Proof.FirstRefVal.lean ====
module
public import proofs.«01_k».proof.Proof.RefLayer
public import proofs.«01_k».proof.Proof.Gen.FirstReferenceIdeal.Run
@[expose] public section
noncomputable section
set_option maxRecDepth 16384
open Idealize.ShloMosaic Idealize.ShloMosaic.TcCoe Idealize.SL.Sem

/-! The three results of the first layer's reference, entry by entry, over the arguments. Its lengths, inner products and unit vectors
    are arguments; what follows the messages is the layer of `RefOps` and `RefLayer`. -/
namespace Cert.FirstReferenceIdeal.Value
open Cert.FirstReferenceIdeal Cert.FirstReferenceIdeal.Gen
open Cert.ReferenceIdeal.Value (rowsS rowsV rowsP tableN stateN tableN_apply stateN_apply takeS takeV takeS_apply takeV_apply msgE msgE_apply
  siluE siluF siluF_apply nextSN nextVN vecE midPN pushE centerN centerN_apply normSN normVN normSN_apply normVN_apply payE agg_layer
  refS refV refP)

/-- The messages over a node state, with lengths and inner products that are given. -/
theorem msgE_given {ws wd : IVec S262144 32} {src dst : Fin 262144 → Fin 512} (hs : ∀ e, ws (ix1 e) = BitVec.ofNat 32 (src e).val)
    (hd : ∀ e, wd (ix1 e) = BitVec.ofNat 32 (dst e).val) (S : FVec Ideal S512x64 .f32) (e : FVec Ideal S262144x16 .f32)
    (d a : FVec Ideal S262144 .f32) (W : FVec Ideal S146x113 .f32) (b : FVec Ideal S113 .f32) (x : Fin 262144) (l : Fin 113) :
    msgE (takeS S ws) (takeS S wd) e d a W b (ix2 x l)
      = Spec.msgs src dst (rowsS S) (fun x k => e (ix2 x k)) (fun x => d (ix1 x)) (fun x => a (ix1 x))
          (fun k l => W (ix2 k l)) (fun l => b (ix1 l)) x l := by
  rw [msgE_apply]
  simp only [takeS_apply hs, takeS_apply hd]
  rfl

variable (V0 : Valuation τ sig (Elt Ideal)) (src dst : Fin 262144 → Fin 512) (bt : Fin 512 → Fin 16)

/-- The first result. -/
abbrev out96 : FVec Ideal S262144x16 .f32 := siluF (res_main_v35 V0)

/-- The second result. -/
abbrev out152 : FVec Ideal S512x128 .f32 :=
  tableN (normSN (res_main_v66 V0) (V0 (Proc.devRef .tc main_arg9)) (V0 (Proc.devRef .tc main_arg10))) (normVN (res_main_v79 V0))
    (res_main_v148 V0) (subf (res_main_v116 V0) (res_main_v148 V0))

/-- The third result. -/
abbrev out155 : FVec Ideal S512x128 .f32 := stateN (res_main_v66 V0) (res_main_v79 V0) (res_main_v116 V0)

/-- The table argument. -/
abbrev rT : FVec Ideal S512x128 .f32 := V0 (Proc.devRef .tc main_arg5)

/-- The scalars a table row holds. -/
abbrev rS (n : Fin 512) (l : Fin 64) : EReal := rT V0 (ix2 n ⟨l.val, by omega⟩)

/-- The vectors a table row holds. -/
abbrev rV (n : Fin 512) (l : Fin 48) : EReal := rT V0 (ix2 n ⟨64 + l.val, by omega⟩)

/-- The position a table row holds. -/
abbrev rP (n : Fin 512) (c : Fin 3) : EReal := rT V0 (ix2 n ⟨112 + c.val, by omega⟩) + rT V0 (ix2 n ⟨115 + c.val, by omega⟩)

/-- The positions a table holds. -/
def posN : FVec Ideal S512x3 .f32 :=
  addf (extractStridedSlice S512x3 ![0, 112] (V0 (Proc.devRef .tc main_arg5)) slices_S512x128_S512x3_0_112)
    (extractStridedSlice S512x3 ![0, 115] (V0 (Proc.devRef .tc main_arg5)) slices_S512x128_S512x3_0_115)

/-- The messages of all edges. -/
abbrev refM : Fin 262144 → Fin 113 → EReal :=
  Spec.msgs src dst (rS V0) (fun x k => V0 (Proc.devRef .tc main_arg4) (ix2 x k))
    (fun x => V0 (Proc.devRef .tc main_arg1) (ix1 x)) (fun x => V0 (Proc.devRef .tc main_arg2) (ix1 x))
    (fun k l => V0 (Proc.devRef .tc main_arg6) (ix2 k l)) (fun l => V0 (Proc.devRef .tc main_arg7) (ix1 l))

/-- The sums at every node. -/
abbrev refA : Fin 512 → Fin 128 → EReal :=
  Spec.sums src dst (rV V0) (refM V0 src dst) fun x k => V0 (Proc.devRef .tc main_arg3) (ix2 x k)

theorem rowsS_v4 : rowsS (res_main_v4 V0) = rS V0 := by
  funext n l
  unfold rowsS res_main_v4
  pointwise []

theorem rowsV_v6 : rowsV (res_main_v6 V0) = rV V0 := by
  funext n j
  unfold rowsV res_main_v6
  pointwise []
  blk_ext

theorem rowsP_pos : rowsP (posN V0) = rP V0 := by
  funext n c
  unfold rowsP posN
  pointwise []

theorem v30_eq : res_main_v30 V0 = msgE (takeS (res_main_v4 V0) (res_main_v1 V0)) (takeS (res_main_v4 V0) (res_main_v3 V0))
    (V0 (Proc.devRef .tc main_arg4)) (V0 (Proc.devRef .tc main_arg1)) (V0 (Proc.devRef .tc main_arg2))
    (V0 (Proc.devRef .tc main_arg6)) (V0 (Proc.devRef .tc main_arg7)) := rfl
theorem v66_eq : res_main_v66 V0 = nextSN (res_main_v4 V0) (res_main_v3 V0)
    (siluE (extractStridedSlice S262144x64 ![0, 0] (res_main_v30 V0) slices_S262144x113_S262144x64_0_0))
    (V0 (Proc.devRef .tc main_arg8)) := rfl
theorem v79_eq : res_main_v79 V0 = nextVN (res_main_v6 V0) (res_main_v3 V0)
    (vecE (takeV (res_main_v6 V0) (res_main_v1 V0)) (res_main_v30 V0) (V0 (Proc.devRef .tc main_arg3))) := rfl
theorem v95_eq : res_main_v95 V0 = midPN (posN V0) (res_main_v3 V0) (pushE (res_main_v30 V0) (V0 (Proc.devRef .tc main_arg3))) := rfl
theorem v116_eq : res_main_v116 V0 = centerN (res_main_v95 V0) (V0 (Proc.devRef .tc main_arg11)) := rfl

variable (hs : ∀ x, V0 (Proc.devRef .tc main_arg0) (ix2 0 x) = BitVec.ofNat 32 (src x).val)
    (hd : ∀ x, V0 (Proc.devRef .tc main_arg0) (ix2 1 x) = BitVec.ofNat 32 (dst x).val)
    (hb : ∀ n, V0 (Proc.devRef .tc main_arg11) (ix1 n) = BitVec.ofNat 32 (bt n).val)

include hs in
theorem word1 (x : Fin 262144) : res_main_v1 V0 (ix1 x) = BitVec.ofNat 32 (src x).val := by
  rw [← hs x]
  unfold res_main_v1
  pointwise []
  blk_ext

include hd in
theorem word3 (x : Fin 262144) : res_main_v3 V0 (ix1 x) = BitVec.ofNat 32 (dst x).val := by
  rw [← hd x]
  unfold res_main_v3
  pointwise []
  blk_ext

include hs hd

theorem m_at (x : Fin 262144) (l : Fin 113) : res_main_v30 V0 (ix2 x l) = refM V0 src dst x l := by
  rw [v30_eq]
  have k := msgE_given (word1 V0 src hs) (word3 V0 dst hd) (res_main_v4 V0) (V0 (Proc.devRef .tc main_arg4))
    (V0 (Proc.devRef .tc main_arg1)) (V0 (Proc.devRef .tc main_arg2)) (V0 (Proc.devRef .tc main_arg6)) (V0 (Proc.devRef .tc main_arg7)) x l
  rw [rowsS_v4] at k
  exact k

theorem agg_at : Spec.agg dst (payE (res_main_v30 V0) (takeV (res_main_v6 V0) (res_main_v1 V0)) (V0 (Proc.devRef .tc main_arg3))) = refA V0 src dst := by
  rw [agg_layer (word1 V0 src hs) (res_main_v6 V0) _ _ _ _ (m_at V0 src dst hs hd) (fun _ _ => rfl), rowsV_v6]

theorem s_at (n : Fin 512) (l : Fin 64) : res_main_v66 V0 (ix2 n l)
    = Spec.nextS (rS V0 n) (refA V0 src dst n) (fun k l => V0 (Proc.devRef .tc main_arg8) (ix2 k l)) l := by
  rw [v66_eq, refS (word3 V0 dst hd) _ (takeV (res_main_v6 V0) (res_main_v1 V0)) (V0 (Proc.devRef .tc main_arg3)), agg_at V0 src dst hs hd]
  exact congrArg (fun f => Spec.nextS (f n) _ _ l) (rowsS_v4 V0)

theorem v_at (n : Fin 512) (j : Fin 48) : rowsV (res_main_v79 V0) n j = Spec.nextV (rV V0 n) (refA V0 src dst n) j := by
  unfold rowsV
  rw [v79_eq, refV (word3 V0 dst hd), agg_at V0 src dst hs hd]
  have e : (⟨16 * (j.val / 16) + j.val % 16, by omega⟩ : Fin 48) = j := Fin.ext (by show 16 * (j.val / 16) + j.val % 16 = j.val; omega)
  simp only [e]
  exact congrArg (fun f => Spec.nextV (f n) _ j) (rowsV_v6 V0)

theorem p_at (n : Fin 512) (c : Fin 3) : res_main_v95 V0 (ix2 n c) = Spec.midP (rP V0 n) (refA V0 src dst n) c := by
  rw [v95_eq, refP (word3 V0 dst hd) _ (takeV (res_main_v6 V0) (res_main_v1 V0)), agg_at V0 src dst hs hd]
  exact congrArg (fun f => Spec.midP (f n) _ c) (rowsP_pos V0)

/-- The first result: the edge features. -/
theorem res_e (x : Fin 262144) (l : Fin 16) :
    out96 V0 (ix2 x l) = Spec.silu (refM V0 src dst x ⟨96 + l.val, by omega⟩) := by
  unfold out96
  rw [siluF_apply, ← m_at V0 src dst hs hd]
  refine congrArg Spec.silu ?_
  unfold res_main_v35
  pointwise []

include hb

theorem c_at (n : Fin 512) (c : Fin 3) : res_main_v116 V0 (ix2 n c)
    = Spec.center bt (fun n => Spec.midP (rP V0 n) (refA V0 src dst n)) n c := by
  rw [v116_eq, centerN_apply hb]
  simp only [p_at V0 src dst hs hd]

/-- The second result: the next table. -/
theorem res_t (n : Fin 512) (l : Fin 128) : out152 V0 (ix2 n l)
    = Spec.nextT bt (rS V0) (rV V0) (rP V0) (fun k l => V0 (Proc.devRef .tc main_arg8) (ix2 k l))
        (fun l => V0 (Proc.devRef .tc main_arg9) (ix1 l)) (fun l => V0 (Proc.devRef .tc main_arg10) (ix1 l)) (refA V0 src dst) n l := by
  have hS : rowsS (normSN (res_main_v66 V0) (V0 (Proc.devRef .tc main_arg9)) (V0 (Proc.devRef .tc main_arg10))) n
      = Spec.normS (fun l => V0 (Proc.devRef .tc main_arg9) (ix1 l)) (fun l => V0 (Proc.devRef .tc main_arg10) (ix1 l))
          (Spec.nextS (rS V0 n) (refA V0 src dst n) fun k l => V0 (Proc.devRef .tc main_arg8) (ix2 k l)) := by
    funext l
    unfold rowsS
    rw [normSN_apply]
    simp only [s_at V0 src dst hs hd]
  have hV : rowsV (normVN (res_main_v79 V0)) n = Spec.normV (Spec.nextV (rV V0 n) (refA V0 src dst n)) := by
    funext j
    unfold rowsV
    rw [normVN_apply]
    have e : (⟨16 * (j.val / 16) + j.val % 16, by omega⟩ : Fin 48) = j := Fin.ext (by show 16 * (j.val / 16) + j.val % 16 = j.val; omega)
    simp only [e]
    exact congrArg (fun f => Spec.normV f j) (funext fun j => v_at V0 src dst hs hd n j)
  have hP : rowsP (res_main_v148 V0) n = Spec.center bt (fun n => Spec.midP (rP V0 n) (refA V0 src dst n)) n := by
    funext c
    rw [← c_at V0 src dst bt hs hd hb]
    unfold rowsP res_main_v148
    pointwise []
  have hL : rowsP (subf (res_main_v116 V0) (res_main_v148 V0)) n
      = fun c => Spec.center bt (fun n => Spec.midP (rP V0 n) (refA V0 src dst n)) n c
          - Spec.center bt (fun n => Spec.midP (rP V0 n) (refA V0 src dst n)) n c := by
    funext c
    rw [← c_at V0 src dst bt hs hd hb]
    unfold rowsP res_main_v148
    pointwise []
  unfold out152
  rw [tableN_apply, hS, hV, hP, hL]
  rfl

/-- The third result: the next state. -/
theorem res_r (n : Fin 512) (l : Fin 128) : out155 V0 (ix2 n l)
    = Spec.nextR bt (rS V0) (rV V0) (rP V0) (fun k l => V0 (Proc.devRef .tc main_arg8) (ix2 k l)) (refA V0 src dst) n l := by
  have hS : rowsS (res_main_v66 V0) n
      = Spec.nextS (rS V0 n) (refA V0 src dst n) fun k l => V0 (Proc.devRef .tc main_arg8) (ix2 k l) :=
    funext fun l => s_at V0 src dst hs hd n l
  have hV : rowsV (res_main_v79 V0) n = Spec.nextV (rV V0 n) (refA V0 src dst n) := funext fun j => v_at V0 src dst hs hd n j
  have hP : rowsP (res_main_v116 V0) n = Spec.center bt (fun n => Spec.midP (rP V0 n) (refA V0 src dst n)) n :=
    funext fun c => c_at V0 src dst bt hs hd hb n c
  unfold out155
  rw [stateN_apply, hS, hV, hP]
  rfl

end Cert.FirstReferenceIdeal.Value
-- ==== Proof.FirstMeet.lean ====
/- The first layer's three results, the kernel's and the reference's, from arguments that agree: both sides are the same functions of them. -/
module

public import proofs.«01_k».proof.Proof.FirstKerVal
public import proofs.«01_k».proof.Proof.FirstRefVal
public import proofs.«01_k».proof.Proof.Meet

@[expose] public section

set_option maxRecDepth 16384

noncomputable section

namespace Cert.FirstMeet

open Idealize.ShloMosaic Idealize.ShloMosaic.TcCoe Idealize.SL.Sem
open Cert.Meet (ext2)

variable (m : (ℓ : Loc Cert.FirstKernelIdeal.nD Cert.FirstKernelIdeal.τ Cert.FirstKernelIdeal.sig) → Buf (Elt Ideal) ℓ) (c : Dev Cert.FirstKernelIdeal.nD)
  (V0 : Valuation Cert.FirstReferenceIdeal.τ Cert.FirstReferenceIdeal.sig (Elt Ideal))
  (src dst : Fin 262144 → Fin 512) (bt : Fin 512 → Fin 16)

variable (ks : ∀ x, m ((c : Thread Cert.FirstKernelIdeal.nD Cert.FirstKernelIdeal.τ).loc Cert.FirstKernelIdeal.main_arg0) (ix2 0 x) = BitVec.ofNat 32 (src x).val)
  (kd : ∀ x, m ((c : Thread Cert.FirstKernelIdeal.nD Cert.FirstKernelIdeal.τ).loc Cert.FirstKernelIdeal.main_arg0) (ix2 1 x) = BitVec.ofNat 32 (dst x).val)
  (kb : ∀ n, m ((c : Thread Cert.FirstKernelIdeal.nD Cert.FirstKernelIdeal.τ).loc Cert.FirstKernelIdeal.main_arg11) (ix1 n) = BitVec.ofNat 32 (bt n).val)
  (a0 : V0 (Proc.devRef .tc Cert.FirstReferenceIdeal.main_arg0) = m ((c : Thread Cert.FirstKernelIdeal.nD Cert.FirstKernelIdeal.τ).loc Cert.FirstKernelIdeal.main_arg0))
  (a1 : V0 (Proc.devRef .tc Cert.FirstReferenceIdeal.main_arg1) = m ((c : Thread Cert.FirstKernelIdeal.nD Cert.FirstKernelIdeal.τ).loc Cert.FirstKernelIdeal.main_arg1))
  (a2 : V0 (Proc.devRef .tc Cert.FirstReferenceIdeal.main_arg2) = m ((c : Thread Cert.FirstKernelIdeal.nD Cert.FirstKernelIdeal.τ).loc Cert.FirstKernelIdeal.main_arg2))
  (a3 : V0 (Proc.devRef .tc Cert.FirstReferenceIdeal.main_arg3) = m ((c : Thread Cert.FirstKernelIdeal.nD Cert.FirstKernelIdeal.τ).loc Cert.FirstKernelIdeal.main_arg3))
  (a4 : V0 (Proc.devRef .tc Cert.FirstReferenceIdeal.main_arg4) = m ((c : Thread Cert.FirstKernelIdeal.nD Cert.FirstKernelIdeal.τ).loc Cert.FirstKernelIdeal.main_arg4))
  (a5 : V0 (Proc.devRef .tc Cert.FirstReferenceIdeal.main_arg5) = m ((c : Thread Cert.FirstKernelIdeal.nD Cert.FirstKernelIdeal.τ).loc Cert.FirstKernelIdeal.main_arg5))
  (a6 : V0 (Proc.devRef .tc Cert.FirstReferenceIdeal.main_arg6) = m ((c : Thread Cert.FirstKernelIdeal.nD Cert.FirstKernelIdeal.τ).loc Cert.FirstKernelIdeal.main_arg6))
  (a7 : V0 (Proc.devRef .tc Cert.FirstReferenceIdeal.main_arg7) = m ((c : Thread Cert.FirstKernelIdeal.nD Cert.FirstKernelIdeal.τ).loc Cert.FirstKernelIdeal.main_arg7))
  (a8 : V0 (Proc.devRef .tc Cert.FirstReferenceIdeal.main_arg8) = m ((c : Thread Cert.FirstKernelIdeal.nD Cert.FirstKernelIdeal.τ).loc Cert.FirstKernelIdeal.main_arg8))
  (a9 : V0 (Proc.devRef .tc Cert.FirstReferenceIdeal.main_arg9) = m ((c : Thread Cert.FirstKernelIdeal.nD Cert.FirstKernelIdeal.τ).loc Cert.FirstKernelIdeal.main_arg9))
  (a10 : V0 (Proc.devRef .tc Cert.FirstReferenceIdeal.main_arg10) = m ((c : Thread Cert.FirstKernelIdeal.nD Cert.FirstKernelIdeal.τ).loc Cert.FirstKernelIdeal.main_arg10))
  (a11 : V0 (Proc.devRef .tc Cert.FirstReferenceIdeal.main_arg11) = m ((c : Thread Cert.FirstKernelIdeal.nD Cert.FirstKernelIdeal.τ).loc Cert.FirstKernelIdeal.main_arg11))

include a5

theorem rS_eq : Cert.FirstReferenceIdeal.Value.rS V0 = Cert.KernelIdeal.Gen.tblS (Cert.FirstKernelIdeal.Gen.argT m c) :=
  funext fun n => funext fun l => congrFun a5 _

theorem rV_eq : Cert.FirstReferenceIdeal.Value.rV V0 = Cert.KernelIdeal.Gen.tblV (Cert.FirstKernelIdeal.Gen.argT m c) :=
  funext fun n => funext fun l => congrFun a5 _

theorem rP_eq : Cert.FirstReferenceIdeal.Value.rP V0 = Cert.KernelIdeal.Gen.tblP (Cert.FirstKernelIdeal.Gen.argT m c) :=
  funext fun n => funext fun k => congrArg₂ (fun a b : EReal => a + b) (congrFun a5 _) (congrFun a5 _)

include ks kd a0 a1 a2 a3 a4 a6 a7

/-- The edge features. -/
theorem meet_e : Cert.FirstReferenceIdeal.Value.out96 V0 = Cert.FirstKernelIdeal.Value.G13 m c := by
  have rs := fun x => (congrFun a0 (ix2 0 x)).trans (ks x)
  have rd := fun x => (congrFun a0 (ix2 1 x)).trans (kd x)
  refine ext2 (n0 := 262144) (n1 := 16) _ _ fun x l => (Cert.FirstReferenceIdeal.Value.res_e V0 src dst rs rd x l).trans
    (Eq.trans ?_ (Cert.FirstKernelIdeal.Gen.res_e m c src dst ks kd x l).symm)
  simp only [Cert.FirstReferenceIdeal.Value.refA, Cert.FirstReferenceIdeal.Value.refM, rS_eq m c V0 a5, rV_eq m c V0 a5, rP_eq m c V0 a5, a1, a2, a3, a4, a6, a7]

include kb a8 a9 a10 a11

/-- The next table. -/
theorem meet_t : Cert.FirstReferenceIdeal.Value.out152 V0 = Cert.FirstKernelIdeal.Value.G14 m c := by
  have rs := fun x => (congrFun a0 (ix2 0 x)).trans (ks x)
  have rd := fun x => (congrFun a0 (ix2 1 x)).trans (kd x)
  have rb := fun n => (congrFun a11 (ix1 n)).trans (kb n)
  refine ext2 (n0 := 512) (n1 := 128) _ _ fun x l => (Cert.FirstReferenceIdeal.Value.res_t V0 src dst bt rs rd rb x l).trans
    (Eq.trans ?_ (Cert.FirstKernelIdeal.Gen.res_t m c src dst bt ks kd kb x l).symm)
  simp only [Cert.FirstReferenceIdeal.Value.refA, Cert.FirstReferenceIdeal.Value.refM, rS_eq m c V0 a5, rV_eq m c V0 a5, rP_eq m c V0 a5, a1, a2, a3, a4, a6, a7, a8, a9, a10]

omit a9 a10 in
/-- The next state. -/
theorem meet_r : Cert.FirstReferenceIdeal.Value.out155 V0 = Cert.FirstKernelIdeal.Value.G15 m c := by
  have rs := fun x => (congrFun a0 (ix2 0 x)).trans (ks x)
  have rd := fun x => (congrFun a0 (ix2 1 x)).trans (kd x)
  have rb := fun n => (congrFun a11 (ix1 n)).trans (kb n)
  refine ext2 (n0 := 512) (n1 := 128) _ _ fun x l => (Cert.FirstReferenceIdeal.Value.res_r V0 src dst bt rs rd rb x l).trans
    (Eq.trans ?_ (Cert.FirstKernelIdeal.Gen.res_r m c src dst bt ks kd kb x l).symm)
  simp only [Cert.FirstReferenceIdeal.Value.refA, Cert.FirstReferenceIdeal.Value.refM, rS_eq m c V0 a5, rV_eq m c V0 a5, rP_eq m c V0 a5, a1, a2, a3, a4, a6, a7, a8]

end Cert.FirstMeet

end
-- ==== Proof.PreVal.lean ====
module
public import proofs.«01_k».proof.Proof.Body
public import proofs.«01_k».proof.Proof.RefLayer
public import proofs.«01_k».proof.Proof.Gen.PreKernelIdeal.Value
public import proofs.«01_k».proof.Proof.Gen.PreReferenceIdeal.Run
public import Idealize.ShloMosaic.Lib.KernelVsHost
@[expose] public section
noncomputable section
set_option maxRecDepth 16384
open Idealize.ShloMosaic Idealize.ShloMosaic.TcCoe Idealize.SL.Sem

/-! The table of the initial state: what the kernel call before the layers leaves, and what its reference computes. -/
namespace Cert.PreKernelIdeal.Value
open Cert.PreKernelIdeal Cert.PreKernelIdeal.Gen

variable (m : (ℓ : Loc nD τ sig) → Buf (Elt Ideal) ℓ) (c : Dev nD)

/-- The scalars of node `n`. -/
abbrev argS (n : Fin 512) (l : Fin 64) : EReal := m ((c : Thread nD τ).loc main_arg0) (ix2 n l)

/-- The vectors of node `n`, as 48 numbers. -/
abbrev argV (n : Fin 512) (j : Fin 48) : EReal := m ((c : Thread nD τ).loc main_arg1) (ix3 n ⟨j.val / 16, by omega⟩ ⟨j.val % 16, by omega⟩)

/-- The position of node `n`. -/
abbrev argP (n : Fin 512) (k : Fin 3) : EReal := m ((c : Thread nD τ).loc main_arg2) (ix2 n k)

/-- The table: normalised scalars and vectors, the position and what its first part leaves of it. -/
def tableK : Vec Ideal S512x128 .f32 := fun i =>
  Spec.rowT (Spec.normS (fun l => m ((c : Thread nD τ).loc main_arg3) (ix1 l)) (fun l => m ((c : Thread nD τ).loc main_arg4) (ix1 l))
    (argS m c (i 0))) (Spec.normV (argV m c (i 0))) (argP m c (i 0)) (fun k => argP m c (i 0) k - argP m c (i 0) k) (i 1)

/-- The only block of each window is the first. -/
theorem idx : ∀ t : Fin cfg0.N, win0_0.index t = ![0, 0] ∧ win0_1.index t = ![0, 0] ∧ win0_2.index t = ![0, 0]
    ∧ win0_3.index t = ![0, 0] ∧ win0_4.index t = ![0, 0] ∧ win0_5.index t = ![0, 0] :=
  (by decide +kernel : ∀ t : Fin grid0.N, _)

/-- What the host hands over: the vectors as rows of 48 numbers. -/
theorem V_v0 : V m c main_v0 = shapeCast S512x48 (m ((c : Thread nD τ).loc main_arg1)) shapeCasts_S512x3x16_S512x48 := by
  unfold V
  simp only [hostOps0, hostOps0_1, hostOps0_2, List.flatten_cons, List.flatten_nil, List.append_nil, List.cons_append, List.nil_append]
  after_results
  try rfl

/-- What the host hands over: the positions, padded to eight columns. -/
theorem V_v1 : V m c main_v1 = pad S512x8 ![0, 0] ![0, 5] ![0, 0] (m ((c : Thread nD τ).loc main_arg2)) (sitofp (F := Ideal) .f32 (constantI S_ 32 0#32)) pads_S512x3_S512x8_000_050 h_S_ := by
  unfold V
  simp only [hostOps0, hostOps0_1, hostOps0_2, List.flatten_cons, List.flatten_nil, List.append_nil, List.cons_append, List.nil_append]
  after_results
  try rfl

/-- What the host hands over: the norm's scale as a row. -/
theorem V_v2 : V m c main_v2 = broadcastInDim S1x64 ![1] bcast_S64_S1x64_1 (m ((c : Thread nD τ).loc main_arg3)) := by
  unfold V
  simp only [hostOps0, hostOps0_1, hostOps0_2, List.flatten_cons, List.flatten_nil, List.append_nil, List.cons_append, List.nil_append]
  after_results
  try rfl

/-- What the host hands over: the norm's shift as a row. -/
theorem V_v3 : V m c main_v3 = broadcastInDim S1x64 ![1] bcast_S64_S1x64_1 (m ((c : Thread nD τ).loc main_arg4)) := by
  unfold V
  simp only [hostOps0, hostOps0_1, hostOps0_2, List.flatten_cons, List.flatten_nil, List.append_nil, List.cons_append, List.nil_append]
  after_results
  try rfl

theorem blk0 (t : Fin cfg0.N) : iblk m c 0 t = m ((c : Thread nD τ).loc main_arg0) := by
  rw [← V_main_arg0 m c]
  blk_ext! [iblk, idx t]

theorem blk1 (t : Fin cfg0.N) : iblk m c 1 t = V m c main_v0 := by blk_ext! [iblk, idx t]

theorem blk2 (t : Fin cfg0.N) : iblk m c 2 t = V m c main_v1 := by blk_ext! [iblk, idx t]

theorem blk3 (t : Fin cfg0.N) : iblk m c 3 t = V m c main_v2 := by blk_ext! [iblk, idx t]

theorem blk4 (t : Fin cfg0.N) : iblk m c 4 t = V m c main_v3 := by blk_ext! [iblk, idx t]

theorem e1 (n : Fin 512) (j : Fin 48) : V m c main_v0 (ix2 n j) = argV m c n j := by
  rw [V_v0]
  pointwise []
  blk_ext

theorem e2 (n : Fin 512) (k : Fin 3) : V m c main_v1 (ix2 n (⟨k.val, by omega⟩ : Fin 8)) = argP m c n k := by
  rw [V_v1]
  exact pad_apply_of_inside _ _ _ _ _ _ _ _ (ix2 n k) (fun a => by
    match a with
    | ⟨0, _⟩ => show n.val = 0 + n.val * 1; omega
    | ⟨1, _⟩ => show k.val = 0 + k.val * 1; omega)

theorem e3 (l : Fin 64) : V m c main_v2 (ix2 0 l) = m ((c : Thread nD τ).loc main_arg3) (ix1 l) := by
  rw [V_v2]
  pointwise []

theorem e4 (l : Fin 64) : V m c main_v3 (ix2 0 l) = m ((c : Thread nD τ).loc main_arg4) (ix1 l) := by
  rw [V_v3]
  pointwise []

/-- The normalised scalars. -/
theorem sn_apply (s : Vec Ideal S512x64 .f32) (g b : Vec Ideal S1x64 .f32) (n : Fin 512) (l : Fin 64) :
    k0_pay2 (F := Ideal) s g b (ix2 n l) = Spec.normS (fun l => g (ix2 0 l)) (fun l => b (ix2 0 l)) (fun l => s (ix2 n l)) l := by
  pointwise [k0_pay2]
  rfl

/-- The normalised vectors. -/
theorem vn_apply (v : Vec Ideal S512x48 .f32) (n : Fin 512) (l : Fin 48) :
    k0_pay3 (F := Ideal) v (ix2 n l) = Spec.normV (fun l => v (ix2 n l)) l := by
  pointwise [k0_pay3]
  rfl

/-- The parts of a row side by side. -/
theorem row_apply (s : FVec Ideal S512x64 .f32) (v : FVec Ideal S512x48 .f32) (p : Vec Ideal S512x3 .f32) (n : Fin 512) (l : Fin 128) :
    k0_pay1 (F := Ideal) s v p (ix2 n l) = Spec.rowT (fun l => s (ix2 n l)) (fun l => v (ix2 n l)) (fun k => p (ix2 n k))
      (fun k => p (ix2 n k) - p (ix2 n k)) l := by
  rw [← Spec.rowT_chain]
  pointwise [k0_pay1]

/-- What the body leaves in the output's buffer. -/
theorem out_apply (x0 : Vec Ideal S512x64 .f32) (x1 : Vec Ideal S512x48 .f32) (x2 : Vec Ideal S512x8 .f32) (x3 x4 : Vec Ideal S1x64 .f32)
    (n : Fin 512) (l : Fin 128) : out0_5 x0 x1 x2 x3 x4 (ix2 n l)
      = Spec.rowT (Spec.normS (fun l => x3 (ix2 0 l)) (fun l => x4 (ix2 0 l)) fun l => x0 (ix2 n l)) (Spec.normV fun l => x1 (ix2 n l))
          (fun k => x2 (ix2 n ⟨k.val, by omega⟩)) (fun k => x2 (ix2 n ⟨k.val, by omega⟩) - x2 (ix2 n ⟨k.val, by omega⟩)) l := by
  have hp : ∀ k : Fin 3, View.ld x2 r0_3 (ix2 n k) = x2 (ix2 n ⟨k.val, by omega⟩) := fun k =>
    View.ld_unit_apply_of x2 _ _ _ _ _ (fun a => by match a with | ⟨0, _⟩ => exact (Nat.zero_add _).symm | ⟨1, _⟩ => exact (Nat.zero_add _).symm)
  have hz : ∀ a : Fin 2, (![0, 0] : Fin 2 → ℕ) a = 0 := fun a => by
    match a with
    | ⟨0, _⟩ => rfl
    | ⟨1, _⟩ => rfl
  unfold out0_5
  rw [View.canon_cons_unit_lit _ _ _ hz, row_apply, View.ld_unit_lit _ _ hz, View.ld_unit_lit _ _ hz, View.ld_unit_lit _ _ hz, View.ld_unit_lit _ _ hz]
  simp only [hp, sn_apply, vn_apply]

/-- What the body leaves, over blocks whose entries are known. -/
theorem out_of (x0 : Vec Ideal S512x64 .f32) (x1 : Vec Ideal S512x48 .f32) (x2 : Vec Ideal S512x8 .f32) (x3 x4 : Vec Ideal S1x64 .f32)
    (s : Fin 512 → Fin 64 → EReal) (v : Fin 512 → Fin 48 → EReal) (p : Fin 512 → Fin 3 → EReal) (g b : Fin 64 → EReal)
    (h0 : ∀ n l, x0 (ix2 n l) = s n l) (h1 : ∀ n l, x1 (ix2 n l) = v n l) (h2 : ∀ n (k : Fin 3), x2 (ix2 n ⟨k.val, by omega⟩) = p n k)
    (h3 : ∀ l, x3 (ix2 0 l) = g l) (h4 : ∀ l, x4 (ix2 0 l) = b l) (n : Fin 512) (l : Fin 128) :
    out0_5 x0 x1 x2 x3 x4 (ix2 n l)
      = Spec.rowT (Spec.normS g b (s n)) (Spec.normV (v n)) (p n) (fun k => p n k - p n k) l := by
  rw [out_apply]
  simp only [h0, h1, h2, h3, h4]

/-- What the only point writes back is the table. -/
theorem flushed5_eq (t : Fin cfg0.N) : (dats m 0 c).flushed 5 t = ((cfg0.win 5).blk t).view.read (Elt Ideal) (tableK m c) := by
  rw [flushed5]
  obtain ⟨-, -, -, -, -, e⟩ := idx t
  funext y
  have h0 : (((cfg0.win 5).blk t).view.emb y 0).val = win0_5.index t (0 : Fin 2) * 512 + 1 * (y 0).val := rfl
  have h1 : (((cfg0.win 5).blk t).view.emb y 1).val = win0_5.index t (1 : Fin 2) * 128 + 1 * (y 1).val := rfl
  have e0 : win0_5.index t (0 : Fin 2) = 0 := congrFun e 0
  have e1' : win0_5.index t (1 : Fin 2) = 0 := congrFun e 1
  rw [e0] at h0
  rw [e1'] at h1
  have hy : ((cfg0.win 5).blk t).view.emb y = (cfg0.win 5).xinj (grid0.coords t) y := by
    funext a
    apply Fin.ext
    match a with
    | ⟨0, _⟩ => exact h0.trans (by show 0 * 512 + 1 * (y 0).val = (y 0).val; omega)
    | ⟨1, _⟩ => exact h1.trans (by show 0 * 128 + 1 * (y 1).val = (y 1).val; omega)
  show out0_5 (iblk m c 0 t) (iblk m c 1 t) (iblk m c 2 t) (iblk m c 3 t) (iblk m c 4 t) ((cfg0.win 5).xinj (grid0.coords t) y)
    = tableK m c (((cfg0.win 5).blk t).view.emb y)
  rw [hy]
  generalize (cfg0.win 5).xinj (grid0.coords t) y = i
  obtain ⟨n, l, rfl⟩ : ∃ (n : Fin 512) (l : Fin 128), i = ix2 n l := ⟨i 0, i 1, by
    funext a
    match a with
    | ⟨0, _⟩ => rfl
    | ⟨1, _⟩ => rfl⟩
  exact out_of _ _ _ _ _ (argS m c) (argV m c) (argP m c) _ _ (fun n l => congrFun (blk0 m c t) _)
    (fun n l => (congrFun (blk1 m c t) _).trans (e1 m c n l)) (fun n k => (congrFun (blk2 m c t) _).trans (e2 m c n k))
    (fun l => (congrFun (blk3 m c t) _).trans (e3 m c l)) (fun l => (congrFun (blk4 m c t) _).trans (e4 m c l)) n l

/-- Which entries of the array the only block holds. -/
theorem mem_blk5 (t : Fin cfg0.N) (i : S512x128.Idx) : i ∈ ((cfg0.win 5).blk t).view.set
    ↔ ∀ a : Fin 2, win0_5.index t a * S512x128.size a ≤ (i a).val ∧ (i a).val < win0_5.index t a * S512x128.size a + S512x128.size a := by
  show i ∈ ((View.whole main_v4).slice (win0_5.rect t)).set ↔ _
  rw [View.set_slice_whole, Rect.mem_set_unit]
  exact Iff.rfl

/-- The output array after the run is the table. -/
theorem final5 : (dats m 0 c).arrAt 5 cfg0.N = tableK m c :=
  (dats m 0 c).arrAt_eq_of_cover 5 _ (fun t _ => flushed5_eq m c t) (fun i => by
    obtain ⟨-, -, -, -, -, e⟩ := idx ⟨0, by decide⟩
    have h0 : (i 0).val < 512 := (i 0).isLt
    have h1 : (i 1).val < 128 := (i 1).isLt
    have e0 : win0_5.index ⟨0, by decide⟩ (0 : Fin 2) = 0 := congrFun e 0
    have e1 : win0_5.index ⟨0, by decide⟩ (1 : Fin 2) = 0 := congrFun e 1
    refine ⟨⟨0, by decide⟩, by decide +kernel, (mem_blk5 ⟨0, by decide⟩ i).2 fun a => ?_⟩
    match a with
    | ⟨0, _⟩ =>
      show win0_5.index ⟨0, by decide⟩ (0 : Fin 2) * 512 ≤ (i 0).val ∧ (i 0).val < win0_5.index ⟨0, by decide⟩ (0 : Fin 2) * 512 + 512
      omega
    | ⟨1, _⟩ =>
      show win0_5.index ⟨0, by decide⟩ (1 : Fin 2) * 128 ≤ (i 1).val ∧ (i 1).val < win0_5.index ⟨0, by decide⟩ (1 : Fin 2) * 128 + 128
      omega)

end Cert.PreKernelIdeal.Value

namespace Cert.PreReferenceIdeal.Value
open Cert.PreReferenceIdeal Cert.PreReferenceIdeal.Gen
open Cert.ReferenceIdeal.Value (rowsS rowsV rowsP tableN tableN_apply normSN normVN normSN_apply normVN_apply)

/-- The reference's table, entry by entry. -/
theorem table_apply (S : FVec Ideal S512x64 .f32) (V : FVec Ideal S512x3x16 .f32) (P : FVec Ideal S512x3 .f32) (g b : FVec Ideal S64 .f32)
    (n : Fin 512) (l : Fin 128) :
    tableN (normSN S g b) (normVN V) (extf .f32 (truncf .bf16 P bitsLt_bf16_f32) bitsLt_bf16_f32)
        (subf P (extf .f32 (truncf .bf16 P bitsLt_bf16_f32) bitsLt_bf16_f32)) (ix2 n l)
      = Spec.rowT (Spec.normS (fun l => g (ix1 l)) (fun l => b (ix1 l)) (rowsS S n)) (Spec.normV (rowsV V n)) (rowsP P n)
          (fun k => rowsP P n k - rowsP P n k) l := by
  have hS : rowsS (normSN S g b) n = Spec.normS (fun l => g (ix1 l)) (fun l => b (ix1 l)) (rowsS S n) :=
    funext fun l => normSN_apply S g b n l
  have hV : rowsV (normVN V) n = Spec.normV (rowsV V n) := by
    funext j
    unfold rowsV
    rw [normVN_apply]
    have e : (⟨16 * (j.val / 16) + j.val % 16, by omega⟩ : Fin 48) = j := Fin.ext (by show 16 * (j.val / 16) + j.val % 16 = j.val; omega)
    simp only [e]
  have hP : rowsP (extf .f32 (truncf .bf16 P bitsLt_bf16_f32) bitsLt_bf16_f32) n = rowsP P n := by
    funext k
    unfold rowsP
    pointwise []
  have hL : rowsP (subf P (extf .f32 (truncf .bf16 P bitsLt_bf16_f32) bitsLt_bf16_f32)) n = fun k => rowsP P n k - rowsP P n k := by
    funext k
    unfold rowsP
    pointwise []
  rw [tableN_apply, hS, hV, hP, hL]

end Cert.PreReferenceIdeal.Value
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.FirstKernel
public import proofs.«01_k».proof.Proof.Gen.FirstKernel.Skeleton
public import proofs.«01_k».proof.Proof.Gen.FirstKernel.Launch
public import proofs.«01_k».proof.Proof.Gen.FirstKernel.Points
public import proofs.«01_k».proof.Proof.Gen.FirstKernel.Frame
public import proofs.«01_k».proof.Proof.Gen.FirstKernelIdeal
public import proofs.«01_k».proof.Proof.Gen.FirstKernelIdeal.Skeleton
public import proofs.«01_k».proof.Proof.Gen.FirstKernelIdeal.Launch
public import proofs.«01_k».proof.Proof.Gen.FirstKernelIdeal.Points
public import proofs.«01_k».proof.Proof.Gen.FirstKernelIdeal.Frame
public import proofs.«01_k».proof.Proof.Gen.FirstReferenceIdeal
public import proofs.«01_k».proof.Proof.Gen.PreKernel
public import proofs.«01_k».proof.Proof.Gen.PreKernel.Skeleton
public import proofs.«01_k».proof.Proof.Gen.PreKernel.Launch
public import proofs.«01_k».proof.Proof.Gen.PreKernel.Points
public import proofs.«01_k».proof.Proof.Gen.PreKernel.Frame
public import proofs.«01_k».proof.Proof.Gen.PreKernelIdeal
public import proofs.«01_k».proof.Proof.Gen.PreKernelIdeal.Skeleton
public import proofs.«01_k».proof.Proof.Gen.PreKernelIdeal.Launch
public import proofs.«01_k».proof.Proof.Gen.PreKernelIdeal.Points
public import proofs.«01_k».proof.Proof.Gen.PreKernelIdeal.Frame
public import proofs.«01_k».proof.Proof.Gen.PreReferenceIdeal
public import proofs.«01_k».proof.Proof.Gen.Pre_indices_in_range
public import proofs.«01_k».proof.Proof.Gen.Pre_first_indices_in_range
public import proofs.«01_k».proof.Proof.Gen.KernelIdeal.Value
public import proofs.«01_k».proof.Proof.Gen.ReferenceIdeal.Run
public import proofs.«01_k».proof.Proof.Gen.FirstKernelIdeal.Value
public import proofs.«01_k».proof.Proof.Gen.FirstReferenceIdeal.Run
public import proofs.«01_k».proof.Proof.Gen.PreKernelIdeal.Value
public import proofs.«01_k».proof.Proof.Gen.PreReferenceIdeal.Run
public import proofs.«01_k».proof.Proof.KerVal
public import proofs.«01_k».proof.Proof.RefVal
public import proofs.«01_k».proof.Proof.Meet
public import proofs.«01_k».proof.Proof.FirstKerVal
public import proofs.«01_k».proof.Proof.FirstRefVal
public import proofs.«01_k».proof.Proof.FirstMeet
public import proofs.«01_k».proof.Proof.PreVal
public import Idealize.ShloMosaic.Lib.Affine
public import Idealize.ShloMosaic.Lib.Quiescent
public import Idealize.ShloMosaic.Adequacy
public import Idealize.ShloMosaic.Init

@[expose] public section

set_option maxRecDepth 16384

noncomputable section

namespace Cert.Proof

open Idealize.ShloMosaic Idealize.ShloMosaic.TcCoe Idealize.SL.Sem

/-- The side conditions of the precondition. -/
theorem pre_facts : Cert.Pre_indices_in_range.Facts := ⟨by decide, by decide⟩

/-- The side conditions of the first layer's precondition. -/
theorem first_pre_facts : Cert.Pre_first_indices_in_range.Facts := ⟨by decide, by decide⟩

/-- A word tested to be at least 0 and below `b` is a number below `b`. -/
theorem word_lt (w : BitVec 32) (b : ℕ) (hb : (BitVec.ofNat 32 b).toInt = b)
    (h : IntOp.andi (IntOp.cmpi .sge w 0#32) (IntOp.cmpi .slt w (BitVec.ofNat 32 b)) = 1#1) : w.toNat < b := by
  obtain ⟨h0, h1⟩ : IntOp.cmpi .sge w 0#32 = 1#1 ∧ IntOp.cmpi .slt w (BitVec.ofNat 32 b) = 1#1 := by
    revert h
    generalize IntOp.cmpi .sge w 0#32 = x
    generalize IntOp.cmpi .slt w (BitVec.ofNat 32 b) = y
    revert x y
    decide
  rw [IntOp.cmpi_sge] at h0
  rw [IntOp.cmpi_slt, hb] at h1
  have e : (0#32 : BitVec 32).toInt = 0 := by decide
  rw [e] at h0
  have := BitVec.toInt_eq_toNat_cond w
  split at this <;> omega

/-- A word that is the number `k`. -/
theorem word_eq (w : BitVec 32) : w = BitVec.ofNat 32 w.toNat := (BitVec.ofNat_toNat 32 w ▸ BitVec.setWidth_eq w).symm

/-- The reference runs, changes no argument, and leaves every semaphore at zero: it has none. -/
theorem frame_ri : Cert.quiescent_ReferenceIdeal (hReferenceIdeal := Cert.ReferenceIdeal.Gen.facts) := by
  intro m g _
  exact (θ_run Cert.ReferenceIdeal.defs _ _).mono (fun r h => ⟨fun c => (h c).2.2.2,
      Idealize.ShloMosaic.sem_eq_zero_of_no_sems (by decide) r.2⟩)
    (Cert.ReferenceIdeal.Value.run (F := Ideal) m g)

/-- The first layer's reference runs, changes no argument, and leaves every semaphore at zero: it has none. -/
theorem frame_first_ri : Cert.quiescent_FirstReferenceIdeal (hFirstReferenceIdeal := Cert.FirstReferenceIdeal.Gen.facts) := by
  intro m g _
  exact (θ_run Cert.FirstReferenceIdeal.defs _ _).mono (fun r h => ⟨fun c => (h c).2.2.2,
      Idealize.ShloMosaic.sem_eq_zero_of_no_sems (by decide) r.2⟩)
    (Cert.FirstReferenceIdeal.Value.run (F := Ideal) m g)

/-- The reference of the call before the layers runs, changes no argument, and leaves every semaphore at zero: it has none. -/
theorem frame_pre_ri : Cert.quiescent_PreReferenceIdeal (hPreReferenceIdeal := Cert.PreReferenceIdeal.Gen.facts) := by
  intro m g _
  exact (θ_run Cert.PreReferenceIdeal.defs _ _).mono (fun r h => ⟨fun c => (h c).2,
      Idealize.ShloMosaic.sem_eq_zero_of_no_sems (by decide) r.2⟩)
    (Cert.PreReferenceIdeal.Value.run (F := Ideal) m g)

section Value

variable [hPre : Cert.Pre_indices_in_range.Facts]

/-- The kernel's results are the reference's. -/
theorem value : Cert.algebraic_KernelIdeal_ReferenceIdeal_pre_indices_in_range
    (hKernelIdeal := Cert.KernelIdeal.Gen.facts) (hReferenceIdeal := Cert.ReferenceIdeal.Gen.facts) (hPre_indices_in_range := hPre) := by
  intro m g m' g' hpre hagree
  have hlt0 : ∀ (c : Dev Cert.KernelIdeal.nD) i, (m ((c.tc : Thread Cert.KernelIdeal.nD Cert.KernelIdeal.τ).loc Cert.KernelIdeal.main_arg0) i).toNat < 512 := fun c i => by
    have e := congrFun (hpre c).1 i
    simp only [Cert.Pre_indices_in_range.fn, andi, cmpi, broadcastInDim, constantI] at e
    exact word_lt _ 512 (by decide) e
  have hlt9 : ∀ (c : Dev Cert.KernelIdeal.nD) i, (m ((c.tc : Thread Cert.KernelIdeal.nD Cert.KernelIdeal.τ).loc Cert.KernelIdeal.main_arg9) i).toNat < 16 := fun c i => by
    have e := congrFun (hpre c).2 i
    simp only [Cert.Pre_indices_in_range.fn, andi, cmpi, broadcastInDim, constantI] at e
    exact word_lt _ 16 (by decide) e
  refine ⟨fun c => Cert.KernelIdeal.Value.G13 m c, fun c => Cert.KernelIdeal.Value.G14 m c, fun c => Cert.KernelIdeal.Value.G15 m c,
    Cert.KernelIdeal.Value.run (F := Ideal) m g, ?_⟩
  refine (θ_run Cert.ReferenceIdeal.defs _ _).mono (fun r h c => ?_) (Cert.ReferenceIdeal.Value.run (F := Ideal) m' g')
  obtain ⟨h0, h1, h2, hargs⟩ := h c
  obtain ⟨a0, a1, a2, a3, a4, a5, a6, a7, a8, a9⟩ := hagree c
  let src : Fin 262144 → Fin 512 := fun x => ⟨_, hlt0 c (ix2 0 x)⟩
  let dst : Fin 262144 → Fin 512 := fun x => ⟨_, hlt0 c (ix2 1 x)⟩
  let bt : Fin 512 → Fin 16 := fun n => ⟨_, hlt9 c (ix1 n)⟩
  have ks : ∀ x, m ((c : Thread Cert.KernelIdeal.nD Cert.KernelIdeal.τ).loc Cert.KernelIdeal.main_arg0) (ix2 0 x) = BitVec.ofNat 32 (src x).val := fun x => word_eq _
  have kd : ∀ x, m ((c : Thread Cert.KernelIdeal.nD Cert.KernelIdeal.τ).loc Cert.KernelIdeal.main_arg0) (ix2 1 x) = BitVec.ofNat 32 (dst x).val := fun x => word_eq _
  have kb : ∀ n, m ((c : Thread Cert.KernelIdeal.nD Cert.KernelIdeal.τ).loc Cert.KernelIdeal.main_arg9) (ix1 n) = BitVec.ofNat 32 (bt n).val := fun n => word_eq _
  refine ⟨h0.trans ?_, h1.trans ?_, h2.trans ?_, hargs⟩
  · exact Cert.Meet.meet_e m c (StableHlo.launchContents m' c) src dst ks kd a0 a1 a3 a4 a5
  · exact Cert.Meet.meet_t m c (StableHlo.launchContents m' c) src dst bt ks kd kb a0 a1 a3 a4 a5 a6 a7 a8 a9
  · exact Cert.Meet.meet_r m c (StableHlo.launchContents m' c) src dst bt ks kd kb a0 a1 a3 a4 a5 a6 a9

end Value

section FirstValue

variable [hPre : Cert.Pre_first_indices_in_range.Facts]

/-- The first layer's results are the reference's. -/
theorem first_value : Cert.algebraic_FirstKernelIdeal_FirstReferenceIdeal_pre_first_indices_in_range
    (hFirstKernelIdeal := Cert.FirstKernelIdeal.Gen.facts) (hFirstReferenceIdeal := Cert.FirstReferenceIdeal.Gen.facts) (hPre_first_indices_in_range := hPre) := by
  intro m g m' g' hpre hagree
  have hlt0 : ∀ (c : Dev Cert.FirstKernelIdeal.nD) i, (m ((c.tc : Thread Cert.FirstKernelIdeal.nD Cert.FirstKernelIdeal.τ).loc Cert.FirstKernelIdeal.main_arg0) i).toNat < 512 := fun c i => by
    have e := congrFun (hpre c).1 i
    simp only [Cert.Pre_first_indices_in_range.fn, andi, cmpi, broadcastInDim, constantI] at e
    exact word_lt _ 512 (by decide) e
  have hlt11 : ∀ (c : Dev Cert.FirstKernelIdeal.nD) i, (m ((c.tc : Thread Cert.FirstKernelIdeal.nD Cert.FirstKernelIdeal.τ).loc Cert.FirstKernelIdeal.main_arg11) i).toNat < 16 := fun c i => by
    have e := congrFun (hpre c).2 i
    simp only [Cert.Pre_first_indices_in_range.fn, andi, cmpi, broadcastInDim, constantI] at e
    exact word_lt _ 16 (by decide) e
  refine ⟨fun c => Cert.FirstKernelIdeal.Value.G13 m c, fun c => Cert.FirstKernelIdeal.Value.G14 m c, fun c => Cert.FirstKernelIdeal.Value.G15 m c,
    Cert.FirstKernelIdeal.Value.run (F := Ideal) m g, ?_⟩
  refine (θ_run Cert.FirstReferenceIdeal.defs _ _).mono (fun r h c => ?_) (Cert.FirstReferenceIdeal.Value.run (F := Ideal) m' g')
  obtain ⟨h0, h1, h2, hargs⟩ := h c
  obtain ⟨a0, a1, a2, a3, a4, a5, a6, a7, a8, a9, a10, a11⟩ := hagree c
  let src : Fin 262144 → Fin 512 := fun x => ⟨_, hlt0 c (ix2 0 x)⟩
  let dst : Fin 262144 → Fin 512 := fun x => ⟨_, hlt0 c (ix2 1 x)⟩
  let bt : Fin 512 → Fin 16 := fun n => ⟨_, hlt11 c (ix1 n)⟩
  have ks : ∀ x, m ((c : Thread Cert.FirstKernelIdeal.nD Cert.FirstKernelIdeal.τ).loc Cert.FirstKernelIdeal.main_arg0) (ix2 0 x) = BitVec.ofNat 32 (src x).val := fun x => word_eq _
  have kd : ∀ x, m ((c : Thread Cert.FirstKernelIdeal.nD Cert.FirstKernelIdeal.τ).loc Cert.FirstKernelIdeal.main_arg0) (ix2 1 x) = BitVec.ofNat 32 (dst x).val := fun x => word_eq _
  have kb : ∀ n, m ((c : Thread Cert.FirstKernelIdeal.nD Cert.FirstKernelIdeal.τ).loc Cert.FirstKernelIdeal.main_arg11) (ix1 n) = BitVec.ofNat 32 (bt n).val := fun n => word_eq _
  refine ⟨h0.trans ?_, h1.trans ?_, h2.trans ?_, hargs⟩
  · exact Cert.FirstMeet.meet_e m c (StableHlo.launchContents m' c) src dst ks kd a0 a1 a2 a3 a4 a5 a6 a7
  · exact Cert.FirstMeet.meet_t m c (StableHlo.launchContents m' c) src dst bt ks kd kb a0 a1 a2 a3 a4 a5 a6 a7 a8 a9 a10 a11
  · exact Cert.FirstMeet.meet_r m c (StableHlo.launchContents m' c) src dst bt ks kd kb a0 a1 a2 a3 a4 a5 a6 a7 a8 a11

end FirstValue

/-- The table before the layers is the reference's. -/
theorem pre_value : Cert.algebraic_PreKernelIdeal_PreReferenceIdeal
    (hPreKernelIdeal := Cert.PreKernelIdeal.Gen.facts) (hPreReferenceIdeal := Cert.PreReferenceIdeal.Gen.facts) := by
  intro m g m' g' _ hagree
  refine ⟨fun c => Cert.PreKernelIdeal.Value.tableK m c, ?_, ?_⟩
  · exact (θ_run Cert.PreKernelIdeal.defs _ _).mono (fun r h c => ⟨(h c).1.trans (Cert.PreKernelIdeal.Value.final5 m c), (h c).2⟩)
      (Cert.PreKernelIdeal.Value.run_blocks (F := Ideal) m g)
  · refine (θ_run Cert.PreReferenceIdeal.defs _ _).mono (fun r h c => ?_) (Cert.PreReferenceIdeal.Value.run (F := Ideal) m' g')
    obtain ⟨h0, hargs⟩ := h c
    obtain ⟨a0, a1, a2, a3, a4⟩ := hagree c
    refine ⟨h0.trans ?_, hargs⟩
    rw [a0, a1, a2, a3, a4]
    exact Cert.Meet.ext2 (n0 := 512) (n1 := 128) _ _ fun n l => Cert.PreReferenceIdeal.Value.table_apply _ _ _ _ _ n l

theorem claim : Cert.Claim := ⟨Cert.Kernel.Gen.facts, Cert.KernelIdeal.Gen.facts, Cert.ReferenceIdeal.Gen.facts,
  Cert.FirstKernel.Gen.facts, Cert.FirstKernelIdeal.Gen.facts, Cert.FirstReferenceIdeal.Gen.facts,
  Cert.PreKernel.Gen.facts, Cert.PreKernelIdeal.Gen.facts, Cert.PreReferenceIdeal.Gen.facts, pre_facts, first_pre_facts,
  fun m g _ => Cert.Kernel.Gen.frame m g, fun m g _ => Cert.KernelIdeal.Gen.frame m g, fun m g _ => Cert.KernelIdeal.Gen.frame m g,
  frame_ri, fun m g _ => frame_ri m g trivial,
  fun m g _ => Cert.FirstKernel.Gen.frame m g, fun m g _ => Cert.FirstKernelIdeal.Gen.frame m g, fun m g _ => Cert.FirstKernelIdeal.Gen.frame m g,
  frame_first_ri, fun m g _ => frame_first_ri m g trivial,
  fun m g _ => Cert.PreKernel.Gen.frame m g, fun m g _ => Cert.PreKernelIdeal.Gen.frame m g, frame_pre_ri,
  trivial, value (hPre := pre_facts), trivial, first_value (hPre := first_pre_facts), trivial, pre_value⟩

end Cert.Proof

end
